-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .bf16) (main_arg1 : FVec F S512x256 .bf16) (main_arg2 : FVec F S2x128x32x64 .bf16) (main_arg3 : FVec F S2x128x32x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : FVec F S2x128x32x64 .f32 := (extf .f32 · bitsLt_bf16_f32) main_arg2
  let main_v11 : FVec F S2x128x32x64 .f32 := Host.absf main_v10
  let main_cst_2 : FVec F S_ .f32 := constant S_ .f32 0x7F800000#32
  let main_v12 : FVec F S2x128x32x64 .f32 := broadcastInDim S2x128x32x64 ![] bcast_S_S2x128x32x64 main_cst_2
  let main_v13 : IVec S2x128x32x64 1 := cmpf .olt main_v11 main_v12
  let main_c_3 : IVec S_ 1 := constantI S_ 1 1#1
  let main_v14 : IVec S_ 1 := (fun x v => Host.reduce IntOp.andi x v reducesTo_S2x128x32x64_S_d0_1_2_3 h_S_) main_v13 main_c_3
  let main_v15 : IVec S_ 1 := andi main_v4 main_v9
  let main_v16 : IVec S_ 1 := andi main_v15 main_v14
  main_v16
-- ==== Pre_finite_scores_ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x1024x32x64 : S_.BroadcastsInDim S2x1024x32x64 (![] : Fin 0 → Fin S2x1024x32x64.rank)
  reducesTo_S2x1024x32x64_S_d0_1_2_3 : S2x1024x32x64.ReducesTo [0, 1, 2, 3] S_

variable [Facts]

def fn {F : FTy → Type} [FloatOps F] (main_arg0 : FVec F S2x128x512 .bf16) (main_arg1 : FVec F S512x2048 .bf16) (main_arg2 : FVec F S2x1024x32x64 .bf16) (main_arg3 : FVec F S2x1024x32x64 .bf16) (main_arg4 : FVec F S2048x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x2048 .f32 := (extf .f32 · bitsLt_bf16_f32) main_arg1
  let main_v6 : FVec F S512x2048 .f32 := Host.absf main_v5
  let main_cst_0 : FVec F S_ .f32 := constant S_ .f32 0x7F800000#32
  let main_v7 : FVec F S512x2048 .f32 := broadcastInDim S512x2048 ![] bcast_S_S512x2048 main_cst_0
  let main_v8 : IVec S512x2048 1 := cmpf .olt main_v6 main_v7
  let main_c_1 : IVec S_ 1 := constantI S_ 1 1#1
  let main_v9 : IVec S_ 1 := (fun x v => Host.reduce IntOp.andi x v reducesTo_S512x2048_S_d0_1 h_S_) main_v8 main_c_1
  let main_v10 : FVec F S2x1024x32x64 .f32 := (extf .f32 · bitsLt_bf16_f32) main_arg2
  let main_v11 : FVec F S2x1024x32x64 .f32 := Host.absf main_v10
  let main_cst_2 : FVec F S_ .f32 := constant S_ .f32 0x7F800000#32
  let main_v12 : FVec F S2x1024x32x64 .f32 := broadcastInDim S2x1024x32x64 ![] bcast_S_S2x1024x32x64 main_cst_2
  let main_v13 : IVec S2x1024x32x64 1 := cmpf .olt main_v11 main_v12
  let main_c_3 : IVec S_ 1 := constantI S_ 1 1#1
  let main_v14 : IVec S_ 1 := (fun x v => Host.reduce IntOp.andi x v reducesTo_S2x1024x32x64_S_d0_1_2_3 h_S_) main_v13 main_c_3
  let main_v15 : IVec S_ 1 := andi main_v4 main_v9
  let main_v16 : IVec S_ 1 := andi main_v15 main_v14
  main_v16
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S2x32x64x128 : Shape := ⟨4, ![2, 32, 64, 128]⟩
abbrev S2x2x4x64x128 : Shape := ⟨5, ![2, 2, 4, 64, 128]⟩
abbrev S8x32x512 : Shape := ⟨3, ![8, 32, 512]⟩
abbrev S7x2 : Shape := ⟨2, ![7, 2]⟩
abbrev S2x2 : Shape := ⟨2, ![2, 2]⟩
abbrev S2 : Shape := ⟨1, ![2]⟩
abbrev S7 : Shape := ⟨1, ![7]⟩
abbrev S8 : Shape := ⟨1, ![8]⟩
abbrev S_ : Shape := ⟨0, ![]⟩
abbrev S256x256 : Shape := ⟨2, ![256, 256]⟩
abbrev S1x1 : Shape := ⟨2, ![1, 1]⟩
abbrev S1x2x4x64x128 : Shape := ⟨5, ![1, 2, 4, 64, 128]⟩
abbrev S2x4x64x128 : Shape := ⟨4, ![2, 4, 64, 128]⟩
abbrev S1 : Shape := ⟨1, ![1]⟩
abbrev S128x256 : Shape := ⟨2, ![128, 256]⟩
abbrev S128x4x64 : Shape := ⟨3, ![128, 4, 64]⟩
abbrev S128x1x64 : Shape := ⟨3, ![128, 1, 64]⟩
abbrev S128x64 : Shape := ⟨2, ![128, 64]⟩
abbrev S1x1x1x64x128 : Shape := ⟨5, ![1, 1, 1, 64, 128]⟩
abbrev S64x128 : Shape := ⟨2, ![64, 128]⟩
abbrev S64x256 : Shape := ⟨2, ![64, 256]⟩
abbrev S128 : Shape := ⟨1, ![128]⟩
abbrev S128x1 : Shape := ⟨2, ![128, 1]⟩
abbrev S1x32x512 : Shape := ⟨3, ![1, 32, 512]⟩
abbrev S32x512 : Shape := ⟨2, ![32, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x32x64, .bf16⟩
  | .hbm, ⟨3, _⟩ => ⟨S2x128x32x64, .bf16⟩
  | .hbm, ⟨4, _⟩ => ⟨S256x512, .bf16⟩
  | .hbm, ⟨5, _⟩ => ⟨S2x32x64x128, .bf16⟩
  | .hbm, ⟨6, _⟩ => ⟨S2x32x64x128, .bf16⟩
  | .hbm, ⟨7, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S256x512, .bf16⟩
  | .local _ .vmem, ⟨3, _⟩ => ⟨S2x128x512, .f32⟩
  | .local _ .vmem, ⟨4, _⟩ => ⟨S2x2x4x64x128, .bf16⟩
  | .local _ .vmem, ⟨5, _⟩ => ⟨S2x2x4x64x128, .bf16⟩
  | .local _ .vmem, ⟨6, _⟩ => ⟨S256x512, .bf16⟩
  | .local _ .vmem, ⟨7, _⟩ => ⟨S8x32x512, .bf16⟩
  | .local _ .vmem, ⟨8, _⟩ => ⟨S256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_68 : BitVec 32 := 0#32
  let v101 : BitVec 1 := Scalar.cmpi .eq v2 c0_i32_68
  let v102 : BitVec 32 := Scalar.extui v101
  let c0_i32_69 : BitVec 32 := 0#32
  let v103 : BitVec 1 := Scalar.cmpi .ne v102 c0_i32_69
  v103

def k0_dev8 : Nat :=
  let c0_i32_961 : BitVec 32 := 0#32
  let c1_i32_959 : BitVec 32 := 1#32
  let c1_i32_960 : BitVec 32 := 1#32
  let v1206 : BitVec 32 := Scalar.muli c1_i32_959 c1_i32_960
  let v1207 : BitVec 32 := Scalar.addi c0_i32_961 v1206
  v1207.toNat
def k0_dev9 : Nat :=
  let c0_i32_977 : BitVec 32 := 0#32
  let c2_i32_975 : BitVec 32 := 2#32
  let c1_i32_976 : BitVec 32 := 1#32
  let v1215 : BitVec 32 := Scalar.muli c2_i32_975 c1_i32_976
  let v1216 : BitVec 32 := Scalar.addi c0_i32_977 v1215
  v1216.toNat
def k0_dev10 : Nat :=
  let c0_i32_993 : BitVec 32 := 0#32
  let c3_i32_991 : BitVec 32 := 3#32
  let c1_i32_992 : BitVec 32 := 1#32
  let v1224 : BitVec 32 := Scalar.muli c3_i32_991 c1_i32_992
  let v1225 : BitVec 32 := Scalar.addi c0_i32_993 v1224
  v1225.toNat
def k0_dev11 : Nat :=
  let c0_i32_1008 : BitVec 32 := 0#32
  let c4_i32_1006 : BitVec 32 := 4#32
  let c1_i32_1007 : BitVec 32 := 1#32
  let v1233 : BitVec 32 := Scalar.muli c4_i32_1006 c1_i32_1007
  let v1234 : BitVec 32 := Scalar.addi c0_i32_1008 v1233
  v1234.toNat
def k0_dev12 : Nat :=
  let c0_i32_1023 : BitVec 32 := 0#32
  let c5_i32_1021 : BitVec 32 := 5#32
  let c1_i32_1022 : BitVec 32 := 1#32
  let v1242 : BitVec 32 := Scalar.muli c5_i32_1021 c1_i32_1022
  let v1243 : BitVec 32 := Scalar.addi c0_i32_1023 v1242
  v1243.toNat
def k0_dev13 : Nat :=
  let c0_i32_1038 : BitVec 32 := 0#32
  let c6_i32_1036 : BitVec 32 := 6#32
  let c1_i32_1037 : BitVec 32 := 1#32
  let v1251 : BitVec 32 := Scalar.muli c6_i32_1036 c1_i32_1037
  let v1252 : BitVec 32 := Scalar.addi c0_i32_1038 v1251
  v1252.toNat
def k0_dev14 : Nat :=
  let c0_i32_1053 : BitVec 32 := 0#32
  let c7_i32_1051 : BitVec 32 := 7#32
  let c1_i32_1052 : BitVec 32 := 1#32
  let v1260 : BitVec 32 := Scalar.muli c7_i32_1051 c1_i32_1052
  let v1261 : BitVec 32 := Scalar.addi c0_i32_1053 v1260
  v1261.toNat
def k0_dev15 : Nat :=
  let c0_i32_1078 : BitVec 32 := 0#32
  let c1_i32_1076 : BitVec 32 := 1#32
  let c1_i32_1077 : BitVec 32 := 1#32
  let v1274 : BitVec 32 := Scalar.muli c1_i32_1076 c1_i32_1077
  let v1275 : BitVec 32 := Scalar.addi c0_i32_1078 v1274
  v1275.toNat
def k0_dev16 : Nat :=
  let c0_i32_1094 : BitVec 32 := 0#32
  let c2_i32_1092 : BitVec 32 := 2#32
  let c1_i32_1093 : BitVec 32 := 1#32
  let v1283 : BitVec 32 := Scalar.muli c2_i32_1092 c1_i32_1093
  let v1284 : BitVec 32 := Scalar.addi c0_i32_1094 v1283
  v1284.toNat
def k0_dev17 : Nat :=
  let c0_i32_1110 : BitVec 32 := 0#32
  let c3_i32_1108 : BitVec 32 := 3#32
  let c1_i32_1109 : BitVec 32 := 1#32
  let v1292 : BitVec 32 := Scalar.muli c3_i32_1108 c1_i32_1109
  let v1293 : BitVec 32 := Scalar.addi c0_i32_1110 v1292
  v1293.toNat
def k0_dev18 : Nat :=
  let c0_i32_1126 : BitVec 32 := 0#32
  let c4_i32_1124 : BitVec 32 := 4#32
  let c1_i32_1125 : BitVec 32 := 1#32
  let v1301 : BitVec 32 := Scalar.muli c4_i32_1124 c1_i32_1125
  let v1302 : BitVec 32 := Scalar.addi c0_i32_1126 v1301
  v1302.toNat
def k0_dev19 : Nat :=
  let c0_i32_1142 : BitVec 32 := 0#32
  let c5_i32_1140 : BitVec 32 := 5#32
  let c1_i32_1141 : BitVec 32 := 1#32
  let v1310 : BitVec 32 := Scalar.muli c5_i32_1140 c1_i32_1141
  let v1311 : BitVec 32 := Scalar.addi c0_i32_1142 v1310
  v1311.toNat
def k0_dev20 : Nat :=
  let c0_i32_1158 : BitVec 32 := 0#32
  let c6_i32_1156 : BitVec 32 := 6#32
  let c1_i32_1157 : BitVec 32 := 1#32
  let v1319 : BitVec 32 := Scalar.muli c6_i32_1156 c1_i32_1157
  let v1320 : BitVec 32 := Scalar.addi c0_i32_1158 v1319
  v1320.toNat
def k0_dev21 : Nat :=
  let c0_i32_1174 : BitVec 32 := 0#32
  let c7_i32_1172 : BitVec 32 := 7#32
  let c1_i32_1173 : BitVec 32 := 1#32
  let v1328 : BitVec 32 := Scalar.muli c7_i32_1172 c1_i32_1173
  let v1329 : BitVec 32 := Scalar.addi c0_i32_1174 v1328
  v1329.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v104 : BitVec 1 := Scalar.cmpi .eq v2 c1_i32_70
  let v105 : BitVec 32 := Scalar.extui v104
  let c0_i32_71 : BitVec 32 := 0#32
  let v106 : BitVec 1 := Scalar.cmpi .ne v105 c0_i32_71
  v106

def k0_dev22 : Nat :=
  let c0_i32_961 : BitVec 32 := 0#32
  let c0_i32_959 : BitVec 32 := 0#32
  let c1_i32_960 : BitVec 32 := 1#32
  let v1206 : BitVec 32 := Scalar.muli c0_i32_959 c1_i32_960
  let v1207 : BitVec 32 := Scalar.addi c0_i32_961 v1206
  v1207.toNat
def k0_dev23 : Nat :=
  let c0_i32_977 : BitVec 32 := 0#32
  let c2_i32_975 : BitVec 32 := 2#32
  let c1_i32_976 : BitVec 32 := 1#32
  let v1215 : BitVec 32 := Scalar.muli c2_i32_975 c1_i32_976
  let v1216 : BitVec 32 := Scalar.addi c0_i32_977 v1215
  v1216.toNat
def k0_dev24 : Nat :=
  let c0_i32_993 : BitVec 32 := 0#32
  let c3_i32_991 : BitVec 32 := 3#32
  let c1_i32_992 : BitVec 32 := 1#32
  let v1224 : BitVec 32 := Scalar.muli c3_i32_991 c1_i32_992
  let v1225 : BitVec 32 := Scalar.addi c0_i32_993 v1224
  v1225.toNat
def k0_dev25 : Nat :=
  let c0_i32_1008 : BitVec 32 := 0#32
  let c4_i32_1006 : BitVec 32 := 4#32
  let c1_i32_1007 : BitVec 32 := 1#32
  let v1233 : BitVec 32 := Scalar.muli c4_i32_1006 c1_i32_1007
  let v1234 : BitVec 32 := Scalar.addi c0_i32_1008 v1233
  v1234.toNat
def k0_dev26 : Nat :=
  let c0_i32_1023 : BitVec 32 := 0#32
  let c5_i32_1021 : BitVec 32 := 5#32
  let c1_i32_1022 : BitVec 32 := 1#32
  let v1242 : BitVec 32 := Scalar.muli c5_i32_1021 c1_i32_1022
  let v1243 : BitVec 32 := Scalar.addi c0_i32_1023 v1242
  v1243.toNat
def k0_dev27 : Nat :=
  let c0_i32_1038 : BitVec 32 := 0#32
  let c6_i32_1036 : BitVec 32 := 6#32
  let c1_i32_1037 : BitVec 32 := 1#32
  let v1251 : BitVec 32 := Scalar.muli c6_i32_1036 c1_i32_1037
  let v1252 : BitVec 32 := Scalar.addi c0_i32_1038 v1251
  v1252.toNat
def k0_dev28 : Nat :=
  let c0_i32_1053 : BitVec 32 := 0#32
  let c7_i32_1051 : BitVec 32 := 7#32
  let c1_i32_1052 : BitVec 32 := 1#32
  let v1260 : BitVec 32 := Scalar.muli c7_i32_1051 c1_i32_1052
  let v1261 : BitVec 32 := Scalar.addi c0_i32_1053 v1260
  v1261.toNat
def k0_dev29 : Nat :=
  let c0_i32_1078 : BitVec 32 := 0#32
  let c0_i32_1076 : BitVec 32 := 0#32
  let c1_i32_1077 : BitVec 32 := 1#32
  let v1274 : BitVec 32 := Scalar.muli c0_i32_1076 c1_i32_1077
  let v1275 : BitVec 32 := Scalar.addi c0_i32_1078 v1274
  v1275.toNat
def k0_dev30 : Nat :=
  let c0_i32_1094 : BitVec 32 := 0#32
  let c2_i32_1092 : BitVec 32 := 2#32
  let c1_i32_1093 : BitVec 32 := 1#32
  let v1283 : BitVec 32 := Scalar.muli c2_i32_1092 c1_i32_1093
  let v1284 : BitVec 32 := Scalar.addi c0_i32_1094 v1283
  v1284.toNat
def k0_dev31 : Nat :=
  let c0_i32_1110 : BitVec 32 := 0#32
  let c3_i32_1108 : BitVec 32 := 3#32
  let c1_i32_1109 : BitVec 32 := 1#32
  let v1292 : BitVec 32 := Scalar.muli c3_i32_1108 c1_i32_1109
  let v1293 : BitVec 32 := Scalar.addi c0_i32_1110 v1292
  v1293.toNat
def k0_dev32 : Nat :=
  let c0_i32_1126 : BitVec 32 := 0#32
  let c4_i32_1124 : BitVec 32 := 4#32
  let c1_i32_1125 : BitVec 32 := 1#32
  let v1301 : BitVec 32 := Scalar.muli c4_i32_1124 c1_i32_1125
  let v1302 : BitVec 32 := Scalar.addi c0_i32_1126 v1301
  v1302.toNat
def k0_dev33 : Nat :=
  let c0_i32_1142 : BitVec 32 := 0#32
  let c5_i32_1140 : BitVec 32 := 5#32
  let c1_i32_1141 : BitVec 32 := 1#32
  let v1310 : BitVec 32 := Scalar.muli c5_i32_1140 c1_i32_1141
  let v1311 : BitVec 32 := Scalar.addi c0_i32_1142 v1310
  v1311.toNat
def k0_dev34 : Nat :=
  let c0_i32_1158 : BitVec 32 := 0#32
  let c6_i32_1156 : BitVec 32 := 6#32
  let c1_i32_1157 : BitVec 32 := 1#32
  let v1319 : BitVec 32 := Scalar.muli c6_i32_1156 c1_i32_1157
  let v1320 : BitVec 32 := Scalar.addi c0_i32_1158 v1319
  v1320.toNat
def k0_dev35 : Nat :=
  let c0_i32_1174 : BitVec 32 := 0#32
  let c7_i32_1172 : BitVec 32 := 7#32
  let c1_i32_1173 : BitVec 32 := 1#32
  let v1328 : BitVec 32 := Scalar.muli c7_i32_1172 c1_i32_1173
  let v1329 : BitVec 32 := Scalar.addi c0_i32_1174 v1328
  v1329.toNat
def k0_off1 (d0 : Dev nD) (c1_i32_298 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v383 : BitVec 32 := Scalar.addi v2 c1_i32_298
  let c8_i32_299 : BitVec 32 := 8#32
  let c0_i32_300 : BitVec 32 := 0#32
  let v384 : BitVec 1 := Scalar.cmpi .eq c8_i32_299 c0_i32_300
  let c1_i32_301 : BitVec 32 := 1#32
  let v385 : BitVec 32 := Scalar.select v384 c1_i32_301 c8_i32_299
  let v386 : BitVec 32 := Scalar.remsi v383 v385
  let c0_i32_303 : BitVec 32 := 0#32
  let v388 : BitVec 1 := Scalar.cmpi .slt v386 c0_i32_303
  let c0_i32_304 : BitVec 32 := 0#32
  let v389 : BitVec 1 := Scalar.cmpi .slt v385 c0_i32_304
  let v390 : BitVec 1 := Scalar.xori v388 v389
  let c0_i32_302 : BitVec 32 := 0#32
  let v387 : BitVec 1 := Scalar.cmpi .ne v386 c0_i32_302
  let v391 : BitVec 1 := Scalar.andi v390 v387
  let v392 : BitVec 32 := Scalar.addi v386 v385
  let v393 : BitVec 32 := Scalar.select v391 v392 v386
  let c32_i32 : BitVec 32 := 32#32
  let v394 : BitVec 32 := Scalar.muli v393 c32_i32
  let c0_i32_312 : BitVec 32 := 0#32
  ![v394.toNat, 0]
def k0_dev36 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_298 : BitVec 32 := 1#32
  let v383 : BitVec 32 := Scalar.addi v2 c1_i32_298
  let c8_i32_299 : BitVec 32 := 8#32
  let c0_i32_300 : BitVec 32 := 0#32
  let v384 : BitVec 1 := Scalar.cmpi .eq c8_i32_299 c0_i32_300
  let c1_i32_301 : BitVec 32 := 1#32
  let v385 : BitVec 32 := Scalar.select v384 c1_i32_301 c8_i32_299
  let v386 : BitVec 32 := Scalar.remsi v383 v385
  let c0_i32_303 : BitVec 32 := 0#32
  let v388 : BitVec 1 := Scalar.cmpi .slt v386 c0_i32_303
  let c0_i32_304 : BitVec 32 := 0#32
  let v389 : BitVec 1 := Scalar.cmpi .slt v385 c0_i32_304
  let v390 : BitVec 1 := Scalar.xori v388 v389
  let c0_i32_302 : BitVec 32 := 0#32
  let v387 : BitVec 1 := Scalar.cmpi .ne v386 c0_i32_302
  let v391 : BitVec 1 := Scalar.andi v390 v387
  let v392 : BitVec 32 := Scalar.addi v386 v385
  let v393 : BitVec 32 := Scalar.select v391 v392 v386
  let c1_i32_308 : BitVec 32 := 1#32
  let v395 : BitVec 32 := Scalar.muli v393 c1_i32_308
  let v396 : BitVec 32 := Scalar.addi c0_i32_309 v395
  v396.toNat
def k0_dev37 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  let v404 : BitVec 32 := Scalar.addi v2 c2_i32_313
  let c8_i32_314 : BitVec 32 := 8#32
  let c0_i32_315 : BitVec 32 := 0#32
  let v405 : BitVec 1 := Scalar.cmpi .eq c8_i32_314 c0_i32_315
  let c1_i32_316 : BitVec 32 := 1#32
  let v406 : BitVec 32 := Scalar.select v405 c1_i32_316 c8_i32_314
  let v407 : BitVec 32 := Scalar.remsi v404 v406
  let c0_i32_318 : BitVec 32 := 0#32
  let v409 : BitVec 1 := Scalar.cmpi .slt v407 c0_i32_318
  let c0_i32_319 : BitVec 32 := 0#32
  let v410 : BitVec 1 := Scalar.cmpi .slt v406 c0_i32_319
  let v411 : BitVec 1 := Scalar.xori v409 v410
  let c0_i32_317 : BitVec 32 := 0#32
  let v408 : BitVec 1 := Scalar.cmpi .ne v407 c0_i32_317
  let v412 : BitVec 1 := Scalar.andi v411 v408
  let v413 : BitVec 32 := Scalar.addi v407 v406
  let v414 : BitVec 32 := Scalar.select v412 v413 v407
  let c1_i32_324 : BitVec 32 := 1#32
  let v416 : BitVec 32 := Scalar.muli v414 c1_i32_324
  let v417 : BitVec 32 := Scalar.addi c0_i32_325 v416
  v417.toNat
def k0_dev38 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_329 : BitVec 32 := 3#32
  let v425 : BitVec 32 := Scalar.addi v2 c3_i32_329
  let c8_i32_330 : BitVec 32 := 8#32
  let c0_i32_331 : BitVec 32 := 0#32
  let v426 : BitVec 1 := Scalar.cmpi .eq c8_i32_330 c0_i32_331
  let c1_i32_332 : BitVec 32 := 1#32
  let v427 : BitVec 32 := Scalar.select v426 c1_i32_332 c8_i32_330
  let v428 : BitVec 32 := Scalar.remsi v425 v427
  let c0_i32_334 : BitVec 32 := 0#32
  let v430 : BitVec 1 := Scalar.cmpi .slt v428 c0_i32_334
  let c0_i32_335 : BitVec 32 := 0#32
  let v431 : BitVec 1 := Scalar.cmpi .slt v427 c0_i32_335
  let v432 : BitVec 1 := Scalar.xori v430 v431
  let c0_i32_333 : BitVec 32 := 0#32
  let v429 : BitVec 1 := Scalar.cmpi .ne v428 c0_i32_333
  let v433 : BitVec 1 := Scalar.andi v432 v429
  let v434 : BitVec 32 := Scalar.addi v428 v427
  let v435 : BitVec 32 := Scalar.select v433 v434 v428
  let c1_i32_340 : BitVec 32 := 1#32
  let v437 : BitVec 32 := Scalar.muli v435 c1_i32_340
  let v438 : BitVec 32 := Scalar.addi c0_i32_341 v437
  v438.toNat
def k0_dev39 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_345 : BitVec 32 := 4#32
  let v446 : BitVec 32 := Scalar.addi v2 c4_i32_345
  let c8_i32_346 : BitVec 32 := 8#32
  let c0_i32_347 : BitVec 32 := 0#32
  let v447 : BitVec 1 := Scalar.cmpi .eq c8_i32_346 c0_i32_347
  let c1_i32_348 : BitVec 32 := 1#32
  let v448 : BitVec 32 := Scalar.select v447 c1_i32_348 c8_i32_346
  let v449 : BitVec 32 := Scalar.remsi v446 v448
  let c0_i32_350 : BitVec 32 := 0#32
  let v451 : BitVec 1 := Scalar.cmpi .slt v449 c0_i32_350
  let c0_i32_351 : BitVec 32 := 0#32
  let v452 : BitVec 1 := Scalar.cmpi .slt v448 c0_i32_351
  let v453 : BitVec 1 := Scalar.xori v451 v452
  let c0_i32_349 : BitVec 32 := 0#32
  let v450 : BitVec 1 := Scalar.cmpi .ne v449 c0_i32_349
  let v454 : BitVec 1 := Scalar.andi v453 v450
  let v455 : BitVec 32 := Scalar.addi v449 v448
  let v456 : BitVec 32 := Scalar.select v454 v455 v449
  let c1_i32_356 : BitVec 32 := 1#32
  let v458 : BitVec 32 := Scalar.muli v456 c1_i32_356
  let v459 : BitVec 32 := Scalar.addi c0_i32_357 v458
  v459.toNat
def k0_dev40 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_361 : BitVec 32 := 5#32
  let v467 : BitVec 32 := Scalar.addi v2 c5_i32_361
  let c8_i32_362 : BitVec 32 := 8#32
  let c0_i32_363 : BitVec 32 := 0#32
  let v468 : BitVec 1 := Scalar.cmpi .eq c8_i32_362 c0_i32_363
  let c1_i32_364 : BitVec 32 := 1#32
  let v469 : BitVec 32 := Scalar.select v468 c1_i32_364 c8_i32_362
  let v470 : BitVec 32 := Scalar.remsi v467 v469
  let c0_i32_366 : BitVec 32 := 0#32
  let v472 : BitVec 1 := Scalar.cmpi .slt v470 c0_i32_366
  let c0_i32_367 : BitVec 32 := 0#32
  let v473 : BitVec 1 := Scalar.cmpi .slt v469 c0_i32_367
  let v474 : BitVec 1 := Scalar.xori v472 v473
  let c0_i32_365 : BitVec 32 := 0#32
  let v471 : BitVec 1 := Scalar.cmpi .ne v470 c0_i32_365
  let v475 : BitVec 1 := Scalar.andi v474 v471
  let v476 : BitVec 32 := Scalar.addi v470 v469
  let v477 : BitVec 32 := Scalar.select v475 v476 v470
  let c1_i32_372 : BitVec 32 := 1#32
  let v479 : BitVec 32 := Scalar.muli v477 c1_i32_372
  let v480 : BitVec 32 := Scalar.addi c0_i32_373 v479
  v480.toNat
def k0_dev41 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_377 : BitVec 32 := 6#32
  let v488 : BitVec 32 := Scalar.addi v2 c6_i32_377
  let c8_i32_378 : BitVec 32 := 8#32
  let c0_i32_379 : BitVec 32 := 0#32
  let v489 : BitVec 1 := Scalar.cmpi .eq c8_i32_378 c0_i32_379
  let c1_i32_380 : BitVec 32 := 1#32
  let v490 : BitVec 32 := Scalar.select v489 c1_i32_380 c8_i32_378
  let v491 : BitVec 32 := Scalar.remsi v488 v490
  let c0_i32_382 : BitVec 32 := 0#32
  let v493 : BitVec 1 := Scalar.cmpi .slt v491 c0_i32_382
  let c0_i32_383 : BitVec 32 := 0#32
  let v494 : BitVec 1 := Scalar.cmpi .slt v490 c0_i32_383
  let v495 : BitVec 1 := Scalar.xori v493 v494
  let c0_i32_381 : BitVec 32 := 0#32
  let v492 : BitVec 1 := Scalar.cmpi .ne v491 c0_i32_381
  let v496 : BitVec 1 := Scalar.andi v495 v492
  let v497 : BitVec 32 := Scalar.addi v491 v490
  let v498 : BitVec 32 := Scalar.select v496 v497 v491
  let c1_i32_388 : BitVec 32 := 1#32
  let v500 : BitVec 32 := Scalar.muli v498 c1_i32_388
  let v501 : BitVec 32 := Scalar.addi c0_i32_389 v500
  v501.toNat
def k0_dev42 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_393 : BitVec 32 := 7#32
  let v509 : BitVec 32 := Scalar.addi v2 c7_i32_393
  let c8_i32_394 : BitVec 32 := 8#32
  let c0_i32_395 : BitVec 32 := 0#32
  let v510 : BitVec 1 := Scalar.cmpi .eq c8_i32_394 c0_i32_395
  let c1_i32_396 : BitVec 32 := 1#32
  let v511 : BitVec 32 := Scalar.select v510 c1_i32_396 c8_i32_394
  let v512 : BitVec 32 := Scalar.remsi v509 v511
  let c0_i32_398 : BitVec 32 := 0#32
  let v514 : BitVec 1 := Scalar.cmpi .slt v512 c0_i32_398
  let c0_i32_399 : BitVec 32 := 0#32
  let v515 : BitVec 1 := Scalar.cmpi .slt v511 c0_i32_399
  let v516 : BitVec 1 := Scalar.xori v514 v515
  let c0_i32_397 : BitVec 32 := 0#32
  let v513 : BitVec 1 := Scalar.cmpi .ne v512 c0_i32_397
  let v517 : BitVec 1 := Scalar.andi v516 v513
  let v518 : BitVec 32 := Scalar.addi v512 v511
  let v519 : BitVec 32 := Scalar.select v517 v518 v512
  let c1_i32_404 : BitVec 32 := 1#32
  let v521 : BitVec 32 := Scalar.muli v519 c1_i32_404
  let v522 : BitVec 32 := Scalar.addi c0_i32_405 v521
  v522.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_409 : BitVec 32 := 32#32
  let v530 : BitVec 32 := Scalar.muli v2 c32_i32_409
  let v531 : Index := Scalar.indexCast v530
  let c0_410 : Index := 0#32
  ![v531.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_533 : BitVec 32 := 32#32
  let v679 : BitVec 32 := Scalar.muli v2 c32_i32_533
  let c0_i32_545 : BitVec 32 := 0#32
  ![v679.toNat, 0]
def k0_dev43 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_534 : BitVec 32 := 1#32
  let v680 : BitVec 32 := Scalar.addi v2 c1_i32_534
  let c8_i32_535 : BitVec 32 := 8#32
  let c0_i32_536 : BitVec 32 := 0#32
  let v681 : BitVec 1 := Scalar.cmpi .eq c8_i32_535 c0_i32_536
  let c1_i32_537 : BitVec 32 := 1#32
  let v682 : BitVec 32 := Scalar.select v681 c1_i32_537 c8_i32_535
  let v683 : BitVec 32 := Scalar.remsi v680 v682
  let c0_i32_539 : BitVec 32 := 0#32
  let v685 : BitVec 1 := Scalar.cmpi .slt v683 c0_i32_539
  let c0_i32_540 : BitVec 32 := 0#32
  let v686 : BitVec 1 := Scalar.cmpi .slt v682 c0_i32_540
  let v687 : BitVec 1 := Scalar.xori v685 v686
  let c0_i32_538 : BitVec 32 := 0#32
  let v684 : BitVec 1 := Scalar.cmpi .ne v683 c0_i32_538
  let v688 : BitVec 1 := Scalar.andi v687 v684
  let v689 : BitVec 32 := Scalar.addi v683 v682
  let v690 : BitVec 32 := Scalar.select v688 v689 v683
  let c1_i32_543 : BitVec 32 := 1#32
  let v691 : BitVec 32 := Scalar.muli v690 c1_i32_543
  let v692 : BitVec 32 := Scalar.addi c0_i32_544 v691
  v692.toNat
def k0_dev44 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_549 : BitVec 32 := 2#32
  let v701 : BitVec 32 := Scalar.addi v2 c2_i32_549
  let c8_i32_550 : BitVec 32 := 8#32
  let c0_i32_551 : BitVec 32 := 0#32
  let v702 : BitVec 1 := Scalar.cmpi .eq c8_i32_550 c0_i32_551
  let c1_i32_552 : BitVec 32 := 1#32
  let v703 : BitVec 32 := Scalar.select v702 c1_i32_552 c8_i32_550
  let v704 : BitVec 32 := Scalar.remsi v701 v703
  let c0_i32_554 : BitVec 32 := 0#32
  let v706 : BitVec 1 := Scalar.cmpi .slt v704 c0_i32_554
  let c0_i32_555 : BitVec 32 := 0#32
  let v707 : BitVec 1 := Scalar.cmpi .slt v703 c0_i32_555
  let v708 : BitVec 1 := Scalar.xori v706 v707
  let c0_i32_553 : BitVec 32 := 0#32
  let v705 : BitVec 1 := Scalar.cmpi .ne v704 c0_i32_553
  let v709 : BitVec 1 := Scalar.andi v708 v705
  let v710 : BitVec 32 := Scalar.addi v704 v703
  let v711 : BitVec 32 := Scalar.select v709 v710 v704
  let c1_i32_558 : BitVec 32 := 1#32
  let v712 : BitVec 32 := Scalar.muli v711 c1_i32_558
  let v713 : BitVec 32 := Scalar.addi c0_i32_559 v712
  v713.toNat
def k0_dev45 (d0 : Dev nD) : Nat :=
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_564 : BitVec 32 := 3#32
  let v722 : BitVec 32 := Scalar.addi v2 c3_i32_564
  let c8_i32_565 : BitVec 32 := 8#32
  let c0_i32_566 : BitVec 32 := 0#32
  let v723 : BitVec 1 := Scalar.cmpi .eq c8_i32_565 c0_i32_566
  let c1_i32_567 : BitVec 32 := 1#32
  let v724 : BitVec 32 := Scalar.select v723 c1_i32_567 c8_i32_565
  let v725 : BitVec 32 := Scalar.remsi v722 v724
  let c0_i32_569 : BitVec 32 := 0#32
  let v727 : BitVec 1 := Scalar.cmpi .slt v725 c0_i32_569
  let c0_i32_570 : BitVec 32 := 0#32
  let v728 : BitVec 1 := Scalar.cmpi .slt v724 c0_i32_570
  let v729 : BitVec 1 := Scalar.xori v727 v728
  let c0_i32_568 : BitVec 32 := 0#32
  let v726 : BitVec 1 := Scalar.cmpi .ne v725 c0_i32_568
  let v730 : BitVec 1 := Scalar.andi v729 v726
  let v731 : BitVec 32 := Scalar.addi v725 v724
  let v732 : BitVec 32 := Scalar.select v730 v731 v725
  let c1_i32_573 : BitVec 32 := 1#32
  let v733 : BitVec 32 := Scalar.muli v732 c1_i32_573
  let v734 : BitVec 32 := Scalar.addi c0_i32_574 v733
  v734.toNat
def k0_dev46 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_579 : BitVec 32 := 4#32
  let v743 : BitVec 32 := Scalar.addi v2 c4_i32_579
  let c8_i32_580 : BitVec 32 := 8#32
  let c0_i32_581 : BitVec 32 := 0#32
  let v744 : BitVec 1 := Scalar.cmpi .eq c8_i32_580 c0_i32_581
  let c1_i32_582 : BitVec 32 := 1#32
  let v745 : BitVec 32 := Scalar.select v744 c1_i32_582 c8_i32_580
  let v746 : BitVec 32 := Scalar.remsi v743 v745
  let c0_i32_584 : BitVec 32 := 0#32
  let v748 : BitVec 1 := Scalar.cmpi .slt v746 c0_i32_584
  let c0_i32_585 : BitVec 32 := 0#32
  let v749 : BitVec 1 := Scalar.cmpi .slt v745 c0_i32_585
  let v750 : BitVec 1 := Scalar.xori v748 v749
  let c0_i32_583 : BitVec 32 := 0#32
  let v747 : BitVec 1 := Scalar.cmpi .ne v746 c0_i32_583
  let v751 : BitVec 1 := Scalar.andi v750 v747
  let v752 : BitVec 32 := Scalar.addi v746 v745
  let v753 : BitVec 32 := Scalar.select v751 v752 v746
  let c1_i32_588 : BitVec 32 := 1#32
  let v754 : BitVec 32 := Scalar.muli v753 c1_i32_588
  let v755 : BitVec 32 := Scalar.addi c0_i32_589 v754
  v755.toNat
def k0_dev47 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_594 : BitVec 32 := 5#32
  let v764 : BitVec 32 := Scalar.addi v2 c5_i32_594
  let c8_i32_595 : BitVec 32 := 8#32
  let c0_i32_596 : BitVec 32 := 0#32
  let v765 : BitVec 1 := Scalar.cmpi .eq c8_i32_595 c0_i32_596
  let c1_i32_597 : BitVec 32 := 1#32
  let v766 : BitVec 32 := Scalar.select v765 c1_i32_597 c8_i32_595
  let v767 : BitVec 32 := Scalar.remsi v764 v766
  let c0_i32_599 : BitVec 32 := 0#32
  let v769 : BitVec 1 := Scalar.cmpi .slt v767 c0_i32_599
  let c0_i32_600 : BitVec 32 := 0#32
  let v770 : BitVec 1 := Scalar.cmpi .slt v766 c0_i32_600
  let v771 : BitVec 1 := Scalar.xori v769 v770
  let c0_i32_598 : BitVec 32 := 0#32
  let v768 : BitVec 1 := Scalar.cmpi .ne v767 c0_i32_598
  let v772 : BitVec 1 := Scalar.andi v771 v768
  let v773 : BitVec 32 := Scalar.addi v767 v766
  let v774 : BitVec 32 := Scalar.select v772 v773 v767
  let c1_i32_603 : BitVec 32 := 1#32
  let v775 : BitVec 32 := Scalar.muli v774 c1_i32_603
  let v776 : BitVec 32 := Scalar.addi c0_i32_604 v775
  v776.toNat
def k0_dev48 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_609 : BitVec 32 := 6#32
  let v785 : BitVec 32 := Scalar.addi v2 c6_i32_609
  let c8_i32_610 : BitVec 32 := 8#32
  let c0_i32_611 : BitVec 32 := 0#32
  let v786 : BitVec 1 := Scalar.cmpi .eq c8_i32_610 c0_i32_611
  let c1_i32_612 : BitVec 32 := 1#32
  let v787 : BitVec 32 := Scalar.select v786 c1_i32_612 c8_i32_610
  let v788 : BitVec 32 := Scalar.remsi v785 v787
  let c0_i32_614 : BitVec 32 := 0#32
  let v790 : BitVec 1 := Scalar.cmpi .slt v788 c0_i32_614
  let c0_i32_615 : BitVec 32 := 0#32
  let v791 : BitVec 1 := Scalar.cmpi .slt v787 c0_i32_615
  let v792 : BitVec 1 := Scalar.xori v790 v791
  let c0_i32_613 : BitVec 32 := 0#32
  let v789 : BitVec 1 := Scalar.cmpi .ne v788 c0_i32_613
  let v793 : BitVec 1 := Scalar.andi v792 v789
  let v794 : BitVec 32 := Scalar.addi v788 v787
  let v795 : BitVec 32 := Scalar.select v793 v794 v788
  let c1_i32_618 : BitVec 32 := 1#32
  let v796 : BitVec 32 := Scalar.muli v795 c1_i32_618
  let v797 : BitVec 32 := Scalar.addi c0_i32_619 v796
  v797.toNat
def k0_dev49 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_624 : BitVec 32 := 7#32
  let v806 : BitVec 32 := Scalar.addi v2 c7_i32_624
  let c8_i32_625 : BitVec 32 := 8#32
  let c0_i32_626 : BitVec 32 := 0#32
  let v807 : BitVec 1 := Scalar.cmpi .eq c8_i32_625 c0_i32_626
  let c1_i32_627 : BitVec 32 := 1#32
  let v808 : BitVec 32 := Scalar.select v807 c1_i32_627 c8_i32_625
  let v809 : BitVec 32 := Scalar.remsi v806 v808
  let c0_i32_629 : BitVec 32 := 0#32
  let v811 : BitVec 1 := Scalar.cmpi .slt v809 c0_i32_629
  let c0_i32_630 : BitVec 32 := 0#32
  let v812 : BitVec 1 := Scalar.cmpi .slt v808 c0_i32_630
  let v813 : BitVec 1 := Scalar.xori v811 v812
  let c0_i32_628 : BitVec 32 := 0#32
  let v810 : BitVec 1 := Scalar.cmpi .ne v809 c0_i32_628
  let v814 : BitVec 1 := Scalar.andi v813 v810
  let v815 : BitVec 32 := Scalar.addi v809 v808
  let v816 : BitVec 32 := Scalar.select v814 v815 v809
  let c1_i32_633 : BitVec 32 := 1#32
  let v817 : BitVec 32 := Scalar.muli v816 c1_i32_633
  let v818 : BitVec 32 := Scalar.addi c0_i32_634 v817
  v818.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S2x128x2048 : Shape := ⟨3, ![2, 128, 2048]⟩
abbrev S2x128x32x64 : Shape := ⟨4, ![2, 128, 32, 64]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S_ : Shape := ⟨0, ![]⟩
abbrev S2x32x128x1024 : Shape := ⟨4, ![2, 32, 128, 1024]⟩
abbrev S1x1x128x1024 : Shape := ⟨4, ![1, 1, 128, 1024]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 66
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x1024x32x64, .bf16⟩
  | .hbm, ⟨3, _⟩ => ⟨S2x1024x32x64, .bf16⟩
  | .hbm, ⟨4, _⟩ => ⟨S2048x512, .bf16⟩
  | .hbm, ⟨5, _⟩ => ⟨S2x128x512, .f32⟩
  | .hbm, ⟨6, _⟩ => ⟨S512x2048, .f32⟩
  | .hbm, ⟨7, _⟩ => ⟨S2x1024x32x64, .f32⟩
  | .hbm, ⟨8, _⟩ => ⟨S2x1024x32x64, .f32⟩
  | .hbm, ⟨9, _⟩ => ⟨S2048x512, .f32⟩
  | .hbm, ⟨10, _⟩ => ⟨S2x128x2048, .f32⟩
  | .hbm, ⟨11, _⟩ => ⟨S2x128x2048, .bf16⟩
  | .hbm, ⟨12, _⟩ => ⟨S2x128x2048, .f32⟩
  | .hbm, ⟨13, _⟩ => ⟨S2x128x32x64, .f32⟩
  | .hbm, ⟨14, _⟩ => ⟨S128, .i32⟩
  | .hbm, ⟨15, _⟩ => ⟨S128x1, .i32⟩
  | .hbm, ⟨16, _⟩ => ⟨S1024, .i32⟩
  | .hbm, ⟨17, _⟩ => ⟨S1x1024, .i32⟩
  | .hbm, ⟨18, _⟩ => ⟨S128x1024, .i32⟩
  | .hbm, ⟨19, _⟩ => ⟨S128x1024, .i32⟩
  | .hbm, ⟨20, _⟩ => ⟨S128x1024, .i32⟩
  | .hbm, ⟨21, _⟩ => ⟨S128x1024, .i32⟩
  | .hbm, ⟨22, _⟩ => ⟨S_, .i32⟩
  | .hbm, ⟨23, _⟩ => ⟨S128x1024, .i32⟩
  | .hbm, ⟨24, _⟩ => ⟨S128x1024, .i1⟩
  | .hbm, ⟨25, _⟩ => ⟨S2x32x128x1024, .f32⟩
  | .hbm, ⟨26, _⟩ => ⟨S2x32x128x1024, .bf16⟩
  | .hbm, ⟨27, _⟩ => ⟨S2x32x128x1024, .f32⟩
  | .hbm, ⟨28, _⟩ => ⟨S_, .f32⟩
  | .hbm, ⟨29, _⟩ => ⟨S2x32x128x1024, .f32⟩
  | .hbm, ⟨30, _⟩ => ⟨S2x32x128x1024, .f32⟩
  | .hbm, ⟨31, _⟩ => ⟨S1x1x128x1024, .i1⟩
  | .hbm, ⟨32, _⟩ => ⟨S_, .f32⟩
  | .hbm, ⟨33, _⟩ => ⟨S_, .f32⟩
  | .hbm, ⟨34, _⟩ => ⟨S2x32x128x1024, .i1⟩
  | .hbm, ⟨35, _⟩ => ⟨S2x32x128x1024, .f32⟩
  | .hbm, ⟨36, _⟩ => ⟨S2x32x128x1024, .f32⟩
  | .hbm, ⟨37, _⟩ => ⟨S_, .f32⟩
  | .hbm, ⟨38, _⟩ => ⟨S2x32x128, .f32⟩
  | .hbm, ⟨39, _⟩ => ⟨S2x32x128x1, .f32⟩
  | .hbm, ⟨40, _⟩ => ⟨S2x32x128x1024, .f32⟩
  | .hbm, ⟨41, _⟩ => ⟨S2x32x128x1024, .f32⟩
  | .hbm, ⟨42, _⟩ => ⟨S2x32x128x1024, .f32⟩
  | .hbm, ⟨43, _⟩ => ⟨S_, .i1⟩
  | .hbm, ⟨44, _⟩ => ⟨S128, .i1⟩
  | .hbm, ⟨45, _⟩ => ⟨S1x1x128x1, .i1⟩
  | .hbm, ⟨46, _⟩ => ⟨S_, .f32⟩
  | .hbm, ⟨47, _⟩ => ⟨S2x32x128, .f32⟩
  | .hbm, ⟨48, _⟩ => ⟨S2x32x128x1, .f32⟩
  | .hbm, ⟨49, _⟩ => ⟨S_, .f32⟩
  | .hbm, ⟨50, _⟩ => ⟨S_, .f32⟩
  | .hbm, ⟨51, _⟩ => ⟨S2x32x128x1, .i1⟩
  | .hbm, ⟨52, _⟩ => ⟨S2x32x128x1, .f32⟩
  | .hbm, ⟨53, _⟩ => ⟨S2x32x128x1, .f32⟩
  | .hbm, ⟨54, _⟩ => ⟨S2x32x128x1024, .f32⟩
  | .hbm, ⟨55, _⟩ => ⟨S2x32x128x1024, .f32⟩
  | .hbm, ⟨56, _⟩ => ⟨S1x1x128x1, .i1⟩
  | .hbm, ⟨57, _⟩ => ⟨S_, .f32⟩
  | .hbm, ⟨58, _⟩ => ⟨S_, .f32⟩
  | .hbm, ⟨59, _⟩ => ⟨S2x32x128x1024, .i1⟩
  | .hbm, ⟨60, _⟩ => ⟨S2x32x128x1024, .f32⟩
  | .hbm, ⟨61, _⟩ => ⟨S2x32x128x1024, .f32⟩
  | .hbm, ⟨62, _⟩ => ⟨S2x32x64x128, .f32⟩
  | .hbm, ⟨63, _⟩ => ⟨S2x128x32x64, .f32⟩
  | .hbm, ⟨64, _⟩ => ⟨S2x128x2048, .f32⟩
  | .hbm, ⟨65, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

def κ : String → Option EReal := fun
  | "mask" => some ⊥
  | _ => none
-- ==== Proof.Ideal.Vals.lean ====
module

public import proofs.«01_k».proof.Proof.Gen.KernelIdeal.Skeleton
public import proofs.«01_k».proof.Proof.Gen.KernelIdeal.Frame
public import Idealize.ShloMosaic.Lib.ValueIdx
public import Idealize.ShloMosaic.Lib.ValueLayout

@[expose] public section

/-! # What every buffer of the kernel holds, as functions of the memory at launch

Device `s` (0 or 1) holds the keys and the values of token block `s` for all 32 heads, device `c` works on heads
`4c … 4c+3`. The functions below name the contents of each scratch buffer once it is complete. -/

noncomputable section

namespace Cert.KernelIdeal.Run

open Cert.KernelIdeal Cert.KernelIdeal.Gen
open Idealize.ShloMosaic Idealize.ShloMosaic.TcCoe Idealize.ShloMosaic.ValueIdx

variable {F : FTy → Type} [FloatOps F] [Named F]

/-- The key or value blocks one device works on: slot `s` is the token block of device `s`, cut to heads `4c … 4c+3`. -/
def gather (X : Dev nD → (⟨S2x32x64x128, .bf16⟩ : BufTy).Contents (Elt F)) (c : Dev nD) :
    (⟨S2x2x4x64x128, .bf16⟩ : BufTy).Contents (Elt F) :=
  fun i => X ⟨(i 0).val, Nat.lt_of_lt_of_le (i 0).isLt (by decide)⟩
    (ix4 (⟨(i 1).val, (i 1).isLt⟩ : Fin 2)
      (⟨4 * c.val + (i 2).val, by
        have h1 : c.val < 8 := c.isLt
        have h2 : (i 2).val < 4 := (i 2).isLt
        omega⟩ : Fin 32)
      (⟨(i 3).val, (i 3).isLt⟩ : Fin 64) (⟨(i 4).val, (i 4).isLt⟩ : Fin 128))

/-- The 64 × 128 block of one token block, batch and head. -/
def ldB (kb : (⟨S2x2x4x64x128, .bf16⟩ : BufTy).Contents (Elt F)) (s : Fin 2) (b : Fin 2) (h : Fin 4) : Vec F S1x1x1x64x128 .bf16 :=
  fun y => kb (ix5 s b h (⟨(y 3).val, (y 3).isLt⟩ : Fin 64) (⟨(y 4).val, (y 4).isLt⟩ : Fin 128))

/-- What one device stores as its partial product: the attention of its four heads times its rows of the output weight. -/
def part (x : Vec F S2x128x512 .bf16) (wq : Vec F S512x256 .bf16)
    (kb vb : (⟨S2x2x4x64x128, .bf16⟩ : BufTy).Contents (Elt F)) (wo : Vec F S256x512 .bf16) : FVec F S256x512 .bf16 :=
  let v96 := k0_pay1 x
  let v100 := k0_pay2 v96 wq
  let v111 := k0_pay3
  let v125 := k0_pay4 v96 wq
  let v127 := k0_pay5 v96 wq
  let v148 := k0_pay6 v111 v127 (ldB kb 0 0 0) (ldB kb 1 0 0)
  let v161 := k0_pay7 v111 v125 (ldB kb 0 0 1) (ldB kb 1 0 1)
  let v162 := k0_pay8 v111 v125 (ldB kb 0 0 1) (ldB kb 1 0 1)
  let v171 := k0_pay9 v161 v162
  let v194 := k0_pay10 v111 v125 (ldB kb 0 0 2) (ldB kb 1 0 2)
  let v196 := k0_pay11 v125
  let v198 := k0_pay12 (ldB kb 0 0 3)
  let v217 := k0_pay13 v111 v196 v198 (ldB kb 1 0 3)
  let v219 := k0_pay14 v100
  let v237 := k0_pay15 v100 v111 (ldB kb 0 1 0) (ldB kb 1 1 0)
  let v242 := k0_pay16 v237
  let v265 := k0_pay17 v111 v219 (ldB kb 0 1 1) (ldB kb 1 1 1)
  let v267 := k0_pay18 v219
  let v269 := k0_pay19 (ldB kb 0 1 2)
  let v271 := k0_pay20 (ldB kb 1 1 2)
  let v288 := k0_pay21 v111 v267 v269 v271
  let v311 := k0_pay22 v111 v219 (ldB kb 0 1 3) (ldB kb 1 1 3)
  let v329 := k0_pay23 v148 (ldB vb 0 0 0) (ldB vb 1 0 0)
  let v335 := k0_pay24 v171 (ldB vb 0 0 1) (ldB vb 1 0 1)
  let v348 := k0_pay25 v194 v217 v329 v335 (ldB vb 0 0 2) (ldB vb 1 0 2) (ldB vb 0 0 3) (ldB vb 1 0 3)
  let v354 := k0_pay26 v242 (ldB vb 0 1 0) (ldB vb 1 1 0)
  let v356 := k0_pay27 (ldB vb 0 1 1)
  k0_pay28 v265 v288 v311 v348 v354 v356 (ldB vb 1 1 1) (ldB vb 0 1 2) (ldB vb 1 1 2) (ldB vb 0 1 3) (ldB vb 1 1 3) wo

variable (m : (ℓ : Loc nD τ sig) → Buf (Elt F) ℓ)

/-- All keys device `c` works on. -/
def kAll (c : Dev nD) : (⟨S2x2x4x64x128, .bf16⟩ : BufTy).Contents (Elt F) := gather (fun d => V m d main_v1) c

/-- All values device `c` works on. -/
def vAll (c : Dev nD) : (⟨S2x2x4x64x128, .bf16⟩ : BufTy).Contents (Elt F) := gather (fun d => V m d main_v2) c

/-- Device `c`'s partial product. -/
def pAll (c : Dev nD) : (⟨S256x512, .bf16⟩ : BufTy).Contents (Elt F) :=
  part (V m c main_arg0) (V m c main_arg1) (kAll m c) (vAll m c) (V m c main_arg4)

/-- What device `c` receives: slot `o` holds its 32 rows of the partial product of device `c - o`. -/
def rAll (c : Dev nD) : (⟨S8x32x512, .bf16⟩ : BufTy).Contents (Elt F) :=
  fun i => pAll m ⟨(c.val + 8 - (i 0).val) % 8, Nat.mod_lt _ (by decide)⟩
    (ix2 (⟨32 * c.val + (i 1).val, by
        have h1 : c.val < 8 := c.isLt
        have h2 : (i 1).val < 32 := (i 1).isLt
        omega⟩ : Fin 256)
      (⟨(i 2).val, (i 2).isLt⟩ : Fin 512))

/-- The 32 rows device `c` sums. -/
def sum (c : Dev nD) : FVec F S32x512 .bf16 := k0_pay31 (k0_pay30 (rAll m c))

/-- The sum of all partial products, the same on every device. -/
def oAll : (⟨S256x512, .bf16⟩ : BufTy).Contents (Elt F) :=
  fun i => sum m ⟨(i 0).val / 32, by
      have h : (i 0).val < 256 := (i 0).isLt
      show _ < 8
      omega⟩
    (ix2 (⟨(i 0).val % 32, Nat.mod_lt _ (by decide)⟩ : Fin 32) (⟨(i 1).val, (i 1).isLt⟩ : Fin 512))

/-- What the kernel stores as its result. -/
def out : FVec F S2x128x512 .f32 := k0_pay32 (oAll m)

end Cert.KernelIdeal.Run

end
-- ==== Proof.Ideal.Views.lean ====
module

public import proofs.«01_k».proof.Proof.Ideal.Vals

@[expose] public section

/-! # The pieces of the buffers that travel, and what a copy leaves in them -/

set_option maxRecDepth 16384

noncomputable section

namespace Cert.KernelIdeal.Run

open Cert.KernelIdeal Cert.KernelIdeal.Gen
open Idealize.ShloMosaic Idealize.ShloMosaic.TcCoe Idealize.ShloMosaic.ValueIdx

variable {F : FTy → Type} [FloatOps F] [Named F]

/-- The device `o` places after `c` on the ring of eight. -/
def dv (c : Dev nD) (o : ℕ) : Dev nD := ⟨(c.val + o) % 8, Nat.mod_lt _ (by decide)⟩
/-- The device `o` places before `c`. -/
def dvm (c : Dev nD) (o : ℕ) : Dev nD := ⟨(c.val + 8 - o) % 8, Nat.mod_lt _ (by decide)⟩
/-- The `i`-th device that source `c` (0 or 1) sends its keys and values to: every other device, in order. -/
def kd (c : Dev nD) (i : ℕ) : Dev nD :=
  if c.val = 0 then ⟨(i + 1) % 8, Nat.mod_lt _ (by decide)⟩ else if i = 0 then ⟨0, by decide⟩ else ⟨(i + 1) % 8, Nat.mod_lt _ (by decide)⟩
/-- An index below seven. -/
def f7 (i : ℕ) : Fin 7 := ⟨i % 7, Nat.mod_lt _ (by decide)⟩
/-- An index below eight. -/
def f8 (i : ℕ) : Fin 8 := ⟨i % 8, Nat.mod_lt _ (by decide)⟩
/-- An index below two. -/
def f2 (i : ℕ) : Fin 2 := ⟨i % 2, Nat.mod_lt _ (by decide)⟩

/-- The buffer of keys (`t = 0`) and of values (`t = 1`) a device works on. -/
def kvM (t : Fin 2) : Memref sig .tc .vmem S2x2x4x64x128 .bf16 :=
  match t with | 0 => Memref.whole cc0_scratch0 | 1 => Memref.whole cc0_scratch1
/-- A device's own block of the keys (`t = 0`) and of the values (`t = 1`). -/
def kvSM (t : Fin 2) : Memref sig .tc .hbm S2x32x64x128 .bf16 :=
  match t with | 0 => Memref.whole main_v1 | 1 => Memref.whole main_v2

theorem inbKD (s : Fin 2) : ∀ a, (![s.val, 0, 0, 0, 0] : Fin 5 → ℕ) a + S1x2x4x64x128.size a ≤ S2x2x4x64x128.size a := by
  revert s; decide
theorem inbKS (j : Fin 8) : ∀ a, (![0, 4 * j.val, 0, 0] : Fin 4 → ℕ) a + S2x4x64x128.size a ≤ S2x32x64x128.size a := by
  revert j; decide
theorem inbP (j : Fin 8) : ∀ a, (![32 * j.val, 0] : Fin 2 → ℕ) a + S32x512.size a ≤ S256x512.size a := by
  revert j; decide
theorem inbR (o : Fin 8) : ∀ a, (![o.val, 0, 0] : Fin 3 → ℕ) a + S1x32x512.size a ≤ S8x32x512.size a := by
  revert o; decide

/-- Slot `s` of a device's keys or values. -/
abbrev kDst (t : Fin 2) (s : Fin 2) : Memref sig .tc .vmem S2x4x64x128 .bf16 :=
  ((kvM t).slice (Rect.unit (s := S2x2x4x64x128) ![s.val, 0, 0, 0, 0] S1x2x4x64x128.size (inbKD s)) (fun _ => rfl)).squeeze
    S2x4x64x128 squeezes_S1x2x4x64x128_S2x4x64x128
/-- The four heads of device `j` in a device's own block of keys or values. -/
abbrev kSrc (t : Fin 2) (j : Fin 8) : Memref sig .tc .hbm S2x4x64x128 .bf16 :=
  (kvSM t).slice (Rect.unit (s := S2x32x64x128) ![0, 4 * j.val, 0, 0] S2x4x64x128.size (inbKS j)) (fun _ => rfl)
/-- The 32 rows of device `j` in a partial product. -/
abbrev pSrc (j : Fin 8) : Memref sig .tc .vmem S32x512 .bf16 :=
  (Memref.whole cc0_scratch2).slice (Rect.unit (s := S256x512) ![32 * j.val, 0] S32x512.size (inbP j)) (fun _ => rfl)
/-- Slot `o` of the received partial rows. -/
abbrev rDst (o : Fin 8) : Memref sig .tc .vmem S32x512 .bf16 :=
  ((Memref.whole cc0_scratch3).slice (Rect.unit (s := S8x32x512) ![o.val, 0, 0] S1x32x512.size (inbR o)) (fun _ => rfl)).squeeze
    S32x512 squeezes_S1x32x512_S32x512
/-- The 32 rows of device `j` in the summed product. -/
abbrev oSrc (j : Fin 8) : Memref sig .tc .vmem S32x512 .bf16 :=
  (Memref.whole cc0_scratch4).slice (Rect.unit (s := S256x512) ![32 * j.val, 0] S32x512.size (inbP j)) (fun _ => rfl)

variable (m : (ℓ : Loc nD τ sig) → Buf (Elt F) ℓ)

/-- What a device's own keys or values are. -/
def kvV (t : Fin 2) (c : Dev nD) : (kvSM t).view.ty.Contents (Elt F) :=
  match t with | 0 => V m c main_v1 | 1 => V m c main_v2
/-- What all keys or values a device works on are. -/
def kvAll (t : Fin 2) (c : Dev nD) : (kvM t).view.ty.Contents (Elt F) :=
  match t with | 0 => kAll m c | 1 => vAll m c

theorem gather_apply (X : Dev nD → (⟨S2x32x64x128, .bf16⟩ : BufTy).Contents (Elt F)) (d : Dev nD) (i : S2x2x4x64x128.Idx) (c : Dev nD)
    (k : S2x32x64x128.Idx) (h0 : (i 0).val = c.val)
    (hk : ∀ a : Fin 4, (![(i 1).val, 4 * d.val + (i 2).val, (i 3).val, (i 4).val] : Fin 4 → ℕ) a = (k a).val) : gather X d i = X c k := by
  have e : (⟨(i 0).val, Nat.lt_of_lt_of_le (i 0).isLt (by decide)⟩ : Dev nD) = c := Fin.ext h0
  subst e
  refine congrArg (X _) (funext fun a => Fin.ext ?_)
  match a with
  | 0 => exact hk 0
  | 1 => exact hk 1
  | 2 => exact hk 2
  | 3 => exact hk 3

theorem gather_emb (X : Dev nD → (⟨S2x32x64x128, .bf16⟩ : BufTy).Contents (Elt F)) (c d : Dev nD) (s : Fin 2) (hs : c.val = s.val)
    (j : Fin 8) (hj : d.val = j.val) (x : S2x4x64x128.Idx) :
    gather X d ((Rect.unit (s := S2x2x4x64x128) ![s.val, 0, 0, 0, 0] S1x2x4x64x128.size (inbKD s)).emb
        (Shape.reshapeEquiv squeezes_S1x2x4x64x128_S2x4x64x128.numel_eq x))
      = X c ((Rect.unit (s := S2x32x64x128) ![0, 4 * j.val, 0, 0] S2x4x64x128.size (inbKS j)).emb x) := by
  have e := Shape.reshapeEquiv_cons_one (n := 4) (d := ![2, 4, 64, 128]) squeezes_S1x2x4x64x128_S2x4x64x128.numel_eq x
  have e' : Shape.reshapeEquiv squeezes_S1x2x4x64x128_S2x4x64x128.numel_eq x
      = (Fin.cons (⟨0, Nat.one_pos⟩ : Fin 1) x : S1x2x4x64x128.Idx) := e
  rw [e']
  refine gather_apply X d _ c _ ?_ fun a => ?_
  · show s.val + 1 * 0 = c.val
    omega
  · match a with
    | 0 => show 0 + 1 * (x 0).val = 0 + 1 * (x 0).val; rfl
    | 1 => show 4 * d.val + (0 + 1 * (x 1).val) = 4 * j.val + 1 * (x 1).val; omega
    | 2 => show 0 + 1 * (x 2).val = 0 + 1 * (x 2).val; rfl
    | 3 => show 0 + 1 * (x 3).val = 0 + 1 * (x 3).val; rfl

theorem kv_land0 (c d : Dev nD) (s : Fin 2) (hs : c.val = s.val) (j : Fin 8) (hj : d.val = j.val)
    (fd : (kvM 0).view.ty.Contents (Elt F)) :
    ∀ i ∈ (kDst 0 s).view.set, (kDst 0 s).view.write (Elt F) fd ((kSrc 0 j).view.read (Elt F) (kvV m 0 c)) Finset.univ i = kvAll m 0 d i := by
  intro i hi
  obtain ⟨x, -, rfl⟩ := Finset.mem_map.mp hi
  rw [View.write_emb_of_mem _ _ (Finset.mem_univ _)]
  exact (gather_emb (fun d => V m d main_v1) c d s hs j hj x).symm

theorem kv_land1 (c d : Dev nD) (s : Fin 2) (hs : c.val = s.val) (j : Fin 8) (hj : d.val = j.val)
    (fd : (kvM 1).view.ty.Contents (Elt F)) :
    ∀ i ∈ (kDst 1 s).view.set, (kDst 1 s).view.write (Elt F) fd ((kSrc 1 j).view.read (Elt F) (kvV m 1 c)) Finset.univ i = kvAll m 1 d i := by
  intro i hi
  obtain ⟨x, -, rfl⟩ := Finset.mem_map.mp hi
  rw [View.write_emb_of_mem _ _ (Finset.mem_univ _)]
  exact (gather_emb (fun d => V m d main_v2) c d s hs j hj x).symm

/-- A copy of head block `j` of source `s` into slot `s` on device `j` leaves there what the device works on. -/
theorem kv_land (t : Fin 2) (c d : Dev nD) (s : Fin 2) (hs : c.val = s.val) (j : Fin 8) (hj : d.val = j.val)
    (fd : (kvM t).view.ty.Contents (Elt F)) :
    ∀ i ∈ (kDst t s).view.set, (kDst t s).view.write (Elt F) fd ((kSrc t j).view.read (Elt F) (kvV m t c)) Finset.univ i = kvAll m t d i :=
  match t, fd with
  | 0, fd => kv_land0 m c d s hs j hj fd
  | 1, fd => kv_land1 m c d s hs j hj fd

theorem dvm_dv (c : Dev nD) (o : ℕ) (ho : o < 8) : dvm (dv c o) o = c := by
  apply Fin.ext; show ((c.val + o) % 8 + 8 - o) % 8 = c.val
  have : c.val < 8 := c.isLt
  omega

theorem dv_dvm (c : Dev nD) (o : ℕ) (ho : o < 8) : dv (dvm c o) o = c := by
  apply Fin.ext; show ((c.val + 8 - o) % 8 + o) % 8 = c.val
  have : c.val < 8 := c.isLt
  omega

theorem rAll_emb (d : Dev nD) (o : Fin 8) (x : S32x512.Idx) :
    rAll m d ((Rect.unit (s := S8x32x512) ![o.val, 0, 0] S1x32x512.size (inbR o)).emb
        (Shape.reshapeEquiv squeezes_S1x32x512_S32x512.numel_eq x))
      = pAll m (dvm d o.val) ((Rect.unit (s := S256x512) ![32 * d.val, 0] S32x512.size (inbP d)).emb x) := by
  have e := Shape.reshapeEquiv_cons_one (n := 2) (d := ![32, 512]) squeezes_S1x32x512_S32x512.numel_eq x
  have e' : Shape.reshapeEquiv squeezes_S1x32x512_S32x512.numel_eq x
      = (Fin.cons (⟨0, Nat.one_pos⟩ : Fin 1) x : S1x32x512.Idx) := e
  rw [e']
  unfold rAll
  refine congrArg₂ (pAll m) (Fin.ext ?_) ?_
  · show (d.val + 8 - (o.val + 1 * 0)) % 8 = (d.val + 8 - o.val) % 8
    rw [Nat.mul_zero]; rfl
  · funext a
    apply Fin.ext
    match a with
    | 0 => show 32 * d.val + (0 + 1 * (x 0).val) = 32 * d.val + 1 * (x 0).val; omega
    | 1 => show 0 + 1 * (x 1).val = 0 + 1 * (x 1).val; rfl

/-- The copy of device `d`'s rows of a partial product into its slot `o`. -/
theorem rs_land (c d : Dev nD) (o : Fin 8) (hc : c = dvm d o.val) (fd : (⟨S8x32x512, .bf16⟩ : BufTy).Contents (Elt F)) :
    ∀ i ∈ (rDst o).view.set, (rDst o).view.write (Elt F) fd ((pSrc d).view.read (Elt F) (pAll m c)) Finset.univ i = rAll m d i := by
  intro i hi
  obtain ⟨x, -, rfl⟩ := Finset.mem_map.mp hi
  rw [View.write_emb_of_mem _ _ (Finset.mem_univ _), hc]
  exact (rAll_emb m d o x).symm

/-- A copy between equal pieces of two buffers of equal contents leaves those contents. -/
theorem ag_land (j : Fin 8) (fd : (⟨S256x512, .bf16⟩ : BufTy).Contents (Elt F)) :
    ∀ i ∈ (oSrc j).view.set, (oSrc j).view.write (Elt F) fd ((oSrc j).view.read (Elt F) (oAll m)) Finset.univ i = oAll m i := by
  intro i hi
  obtain ⟨x, -, rfl⟩ := Finset.mem_map.mp hi
  rw [View.write_emb_of_mem _ _ (Finset.mem_univ _)]
  rfl

/-! ## Loads and stores -/

/-- A load of one 64 × 128 block. -/
theorem ld_block (kb : (⟨S2x2x4x64x128, .bf16⟩ : BufTy).Contents (Elt F)) (r : Ref sig .tc) (hr : r = cc0_scratch0 ∨ r = cc0_scratch1)
    (s b : Fin 2) (h : Fin 4) (inb) : ∀ y : S1x1x1x64x128.Idx,
    kb ((Rect.unit (s := S2x2x4x64x128) ![s.val, b.val, h.val, 0, 0] S1x1x1x64x128.size inb).emb y) = ldB kb s b h y := by
  intro y
  unfold ldB
  congr 1
  funext a
  apply Fin.ext
  have h0 : (y 0).val < 1 := (y 0).isLt
  have h1 : (y 1).val < 1 := (y 1).isLt
  have h2 : (y 2).val < 1 := (y 2).isLt
  match a with
  | 0 => show s.val + 1 * (y 0).val = s.val; omega
  | 1 => show b.val + 1 * (y 1).val = b.val; omega
  | 2 => show h.val + 1 * (y 2).val = h.val; omega
  | 3 => show 0 + 1 * (y 3).val = (y 3).val; omega
  | 4 => show 0 + 1 * (y 4).val = (y 4).val; omega

/-- What a device reads of its own rows of its partial product, put in slot 0, is what slot 0 holds in the end. -/
theorem rs_own (c : Dev nD) (off : Fin 2 → ℕ) (inb) (hoff : off = ![32 * c.val, 0]) (fd : (⟨S8x32x512, .bf16⟩ : BufTy).Contents (Elt F)) (inb0) :
    ∀ i ∈ (rDst 0).view.set,
      ((Memref.whole cc0_scratch3).access (Rect.unit (s := S8x32x512) ![0, 0, 0] S1x32x512.size inb0)).write (Elt F) fd
        (k0_pay29 ((Memref.whole cc0_scratch2).view.readAt (Elt F) (Rect.unit (s := S256x512) off S32x512.size inb).toLoadRect (pAll m c)))
        Finset.univ i = rAll m c i := by
  subst hoff
  intro i hi
  obtain ⟨x, -, rfl⟩ := Finset.mem_map.mp hi
  show ((Memref.whole cc0_scratch3).access (Rect.unit (s := S8x32x512) ![0, 0, 0] S1x32x512.size inb0)).write (Elt F) fd _ Finset.univ
    (((Memref.whole cc0_scratch3).access (Rect.unit (s := S8x32x512) ![0, 0, 0] S1x32x512.size inb0)).emb
      (Shape.reshapeEquiv squeezes_S1x32x512_S32x512.numel_eq x)) = _
  rw [View.write_emb_of_mem _ _ (Finset.mem_univ _)]
  have hc : dvm c 0 = c := by apply Fin.ext; show (c.val + 8 - 0) % 8 = c.val; have : c.val < 8 := c.isLt; omega
  have h := rAll_emb m c 0 x
  have h' : pAll m (dvm c ((0 : Fin 8).val)) = pAll m c := congrArg (pAll m) hc
  rw [h'] at h
  refine Eq.trans ?_ h.symm
  show (Memref.whole cc0_scratch2).view.readAt (Elt F) (Rect.unit (s := S256x512) ![32 * c.val, 0] S32x512.size inb).toLoadRect (pAll m c)
    (Shape.reshapeEquiv shapeCasts_S32x512_S1x32x512 (Shape.reshapeEquiv squeezes_S1x32x512_S32x512.numel_eq x)) = _
  rw [Shape.reshapeEquiv_reshapeEquiv, Shape.reshapeEquiv_self]
  rfl

theorem oAll_emb (c : Dev nD) (x : S32x512.Idx) :
    oAll m ((Rect.unit (s := S256x512) ![32 * c.val, 0] S32x512.size (inbP c)).emb x) = sum m c x := by
  unfold oAll
  have h0 : (x 0).val < 32 := (x 0).isLt
  refine congrArg₂ (sum m) (Fin.ext ?_) ?_
  · show (32 * c.val + 1 * (x 0).val) / 32 = c.val
    omega
  · funext a
    apply Fin.ext
    match a with
    | 0 => show (32 * c.val + 1 * (x 0).val) % 32 = (x 0).val; omega
    | 1 => show 0 + 1 * (x 1).val = (x 1).val; omega

/-- What a device stores of the sum is what those rows of the sum hold. -/
theorem ag_own (c : Dev nD) (off : Fin 2 → ℕ) (inb) (hoff : off = ![32 * c.val, 0]) (fd : (⟨S256x512, .bf16⟩ : BufTy).Contents (Elt F)) :
    ∀ i ∈ (oSrc c).view.set,
      ((Memref.whole cc0_scratch4).access (Rect.unit (s := S256x512) off S32x512.size inb)).write (Elt F) fd
        (k0_pay31 (k0_pay30 (rAll m c))) Finset.univ i = oAll m i := by
  subst hoff
  intro i hi
  obtain ⟨x, -, rfl⟩ := Finset.mem_map.mp hi
  rw [View.write_emb_of_mem _ _ (Finset.mem_univ _)]
  exact (oAll_emb m c x).symm

/-- A whole-buffer access leaves what is written. -/
theorem write_all {s : Shape} (v : View sig .tc .vmem s .bf16) (off : Fin s.rank → ℕ) (inb) (hoff : ∀ a, off a = 0) (f : v.ty.Contents (Elt F))
    (w : (Rect.unit (s := s) off s.size inb).shape.Idx → Elt F .bf16) (x : s.Idx) :
    (v.slice (Rect.unit (s := s) off s.size inb)).write (Elt F) f w Finset.univ (v.emb x) = cast (congrArg (Elt F) v.elt_eq.symm) (w x) := by
  have e : v.emb x = (v.slice (Rect.unit (s := s) off s.size inb)).emb x := by
    show v.emb x = v.emb ((Rect.unit (s := s) off s.size inb).emb x)
    congr 1
    funext a
    apply Fin.ext
    show (x a).val = off a + 1 * (x a).val
    rw [hoff a]; omega
  rw [e, View.write_emb_of_mem _ _ (Finset.mem_univ _)]

end Cert.KernelIdeal.Run

end
-- ==== Proof.Ideal.Sched.lean ====
module

public import proofs.«01_k».proof.Proof.Ideal.Views
public import Idealize.ShloMosaic.Lib.Transfers
public import Idealize.SL.BI.BigOpNat

@[expose] public section

/-! # The protocol: cells, what each arrival hands over, levels

Every device has one barrier cell and fifty copy cells, numbered 4 … 53 as the program numbers them:

* 4 + 2j + t — source (device 0 or 1): its `j`-th send of keys (`t = 0`) or values (`t = 1`) has been read;
* 18 + 2s + t — the keys or values of source `s` have arrived;
* 22 + t — a source's copy of its own keys or values into its own slot is done;
* 24 + i, 31 + o — rows of the partial product have been sent, have arrived in slot `o`;
* 39 + i, 46 + o — rows of the sum have been sent, have arrived from the device `o` places before.

Every cell has one round. The barrier cell of `c` gets one unit from each other device, which hands over the pieces of its
buffers that `c` writes. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barS : Sem sig := (SemArray.scalar (sig.barrier 0 rfl) : Sems sig S_).sem
/-- The copy semaphore numbered `k`. -/
def dS (k : ℕ) : DmaSem sig := ⟨k % 54, Nat.mod_lt _ (by decide)⟩
abbrev bcl (c : Dev nD) : GSem nD τ sig := ((c : Thread nD τ), .reg barS)
abbrev cl (c : Dev nD) (k : ℕ) : GSem nD τ sig := ((c : Thread nD τ), .dma (dS k))

theorem dS_val {k : ℕ} (h : k < 54) : (dS k).val = k := Nat.mod_eq_of_lt h

/-- What one copy of keys or values credits, and one copy of 32 rows. -/
abbrev NK : ℕ := (kDst 0 0).view.dmaCredit
abbrev NR : ℕ := (rDst 0).view.dmaCredit
theorem NK_pos : 0 < NK := View.dmaCredit_pos _ (by decide)
theorem NR_pos : 0 < NR := View.dmaCredit_pos _ (by decide)

/-! ## What arrivals hand over -/

/-- The piece `M` of device `c`'s memory, at share `q`, holding `f`. -/
abbrev pc {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-- The 32 rows of device `j` in device `c`'s partial product. -/
def pP (j : Fin 8) (c : Dev nD) (q : PosShare TreeShare) (f : (⟨S256x512, .bf16⟩ : BufTy).Contents (Elt F)) : sProp 𝕄 := pc (pSrc j) c q f
/-- Slot `o` of device `c`'s received rows. -/
def pR (o : Fin 8) (c : Dev nD) (q : PosShare TreeShare) (f : (⟨S8x32x512, .bf16⟩ : BufTy).Contents (Elt F)) : sProp 𝕄 := pc (rDst o) c q f
/-- The 32 rows of device `j` in device `c`'s sum. -/
def pO (j : Fin 8) (c : Dev nD) (q : PosShare TreeShare) (f : (⟨S256x512, .bf16⟩ : BufTy).Contents (Elt F)) : sProp 𝕄 := pc (oSrc j) c q f
/-- Slot `s` of device `c`'s keys or values. -/
def pD (t s : Fin 2) (c : Dev nD) (f : (kvM t).view.ty.Contents (Elt F)) : sProp 𝕄 := pc (kDst t s) c fullShare f
/-- Device `j`'s heads in device `c`'s own keys or values. -/
def pS (t : Fin 2) (j : Fin 8) (c : Dev nD) (f : (kvSM t).view.ty.Contents (Elt F)) : sProp 𝕄 := pc (kSrc t j) c fullShare f

instance (j : Fin 8) (c : Dev nD) (q : PosShare TreeShare) (f) : BI.Storable (upEmb : UEmb _ 𝕄) (pP (F := F) j c q f) := by unfold pP; infer_instance
instance (j : Fin 8) (c : Dev nD) (q : PosShare TreeShare) (f) : BI.Storable (upEmb : UEmb _ 𝕄) (pR (F := F) j c q f) := by unfold pR; infer_instance
instance (j : Fin 8) (c : Dev nD) (q : PosShare TreeShare) (f) : BI.Storable (upEmb : UEmb _ 𝕄) (pO (F := F) j c q f) := by unfold pO; infer_instance
instance (t s : Fin 2) (c : Dev nD) (f) : BI.Storable (upEmb : UEmb _ 𝕄) (pD (F := F) t s c f) := by unfold pD; infer_instance
instance (t : Fin 2) (j : Fin 8) (c : Dev nD) (f) : BI.Storable (upEmb : UEmb _ 𝕄) (pS (F := F) t j c f) := by unfold pS; infer_instance

/-- Round 0 of every copy cell of device `d` is reached. -/
def rch (d : Dev nD) : sProp 𝕄 := bigSep (Finset.Ico 4 54) fun k => reached ER (cl d k) 0

instance rch_persistent (d : Dev nD) : BI.Persistent (rch (F := F) d) := by unfold rch; infer_instance

/-- The pieces of device `d`'s keys and values that `c` writes. -/
def barKV (c d : Dev nD) : sProp 𝕄 :=
  if c.val < 2 then iprop((∃ f, pD 0 (f2 c.val) d f) ∗ ∃ f, pD 1 (f2 c.val) d f) else iprop(emp)

/-- Paid to the barrier cell of `c` by `d`: the pieces of `d`'s buffers that `c` writes. -/
def barPay (c d : Dev nD) : sProp 𝕄 :=
  iprop((∃ f, pR (f8 (d.val + 8 - c.val)) d fullShare f) ∗ (∃ f, pO c d fullShare f) ∗ barKV c d ∗ rch d)

/-- What the unit of copy cell `k` of device `c` hands over. -/
def cellPay (c : Dev nD) (k : ℕ) : sProp 𝕄 :=
  if k < 18 then pS (f2 k) (kd c ((k - 4) / 2)) c (kvV m (f2 k) c)
  else if k < 22 then pD (f2 k) (f2 ((k - 18) / 2)) c (kvAll m (f2 k) c)
  else if k < 24 then iprop(pD (f2 k) (f2 c.val) c (kvAll m (f2 k) c) ∗ pS (f2 k) c c (kvV m (f2 k) c))
  else if k < 31 then pP (dv c (k - 23)) c fullShare (pAll m c)
  else if k < 39 then pR (f8 (k - 31)) c fullShare (rAll m c)
  else if k < 46 then pO c c (Transfers.shareTokN fullShare (k - 39)) (oAll m)
  else pO (dvm c (k - 46)) c fullShare (oAll m)

/-- The cells that get a unit. -/
def live (c : Dev nD) (k : ℕ) : Prop :=
  (4 ≤ k ∧ k < 18 ∧ c.val < 2) ∨ (18 ≤ k ∧ k < 22 ∧ c.val ≠ (k - 18) / 2) ∨ (22 ≤ k ∧ k < 24 ∧ c.val < 2)
    ∨ (24 ≤ k ∧ k ≠ 31 ∧ k ≠ 46)

instance (c : Dev nD) (k : ℕ) : Decidable (live c k) := by unfold live; infer_instance

/-- The credit of one unit of copy cell `k`. -/
def amt (k : ℕ) : ℕ := if k < 24 then NK else NR

/-- The schedule: one round; the barrier cell has a duty per other device, a live copy cell has one. -/
def sched : Rounds.Schedule (GSem nD τ sig) (Fin 8) 𝕄 where
  duties g r := if r = 0 ∧ g.1.2 = .tc then
      (match g.2 with
        | .reg b => if b = barS then Finset.univ.erase g.1.1 else ∅
        | .dma s => if live g.1.1 s.val then {0} else ∅) else ∅
  unitless _ := False
  amount g _ _ := match g.2 with | .reg _ => 1 | .dma s => amt s.val
  payload g _ d := match g.2 with | .reg _ => barPay g.1.1 d | .dma s => cellPay m g.1.1 s.val
  amount_pos g _ _ _ := by
    match g.2 with
    | .reg _ => exact Nat.one_pos
    | .dma s => show 0 < amt s.val; unfold amt; split; exact NK_pos; exact NR_pos

instance barKV_storable (c d : Dev nD) : BI.Storable (upEmb : UEmb _ 𝕄) (barKV (F := F) c d) := by
  unfold barKV; split <;> infer_instance
instance rch_storable (d : Dev nD) : BI.Storable (upEmb : UEmb _ 𝕄) (rch (F := F) d) := by
  unfold rch; infer_instance
instance barPay_storable (c d : Dev nD) : BI.Storable (upEmb : UEmb _ 𝕄) (barPay (F := F) c d) := by
  unfold barPay; infer_instance

instance cellPay_storable (c : Dev nD) (k : ℕ) : BI.Storable (upEmb : UEmb _ 𝕄) (cellPay (F := F) m c k) := by
  unfold cellPay
  (repeat' split) <;> infer_instance

instance sched_storable (g : GSem nD τ sig) (r : ℕ) (d : Fin 8) :
    BI.Storable (upEmb : UEmb _ 𝕄) ((sched (F := F) m).payload g r d) := by
  show BI.Storable upEmb (match g.2 with | .reg _ => barPay g.1.1 d | .dma s => cellPay m g.1.1 s.val)
  split <;> infer_instance

theorem duties_bar (c : Dev nD) : (sched (F := F) m).duties (bcl c) 0 = Finset.univ.erase c := by
  dsimp only [sched]; rw [if_pos ⟨rfl, rfl⟩, if_pos rfl]
theorem duties_cl (c : Dev nD) {k : ℕ} (hk : k < 54) (h : live c k) : (sched (F := F) m).duties (cl c k) 0 = {0} := by
  dsimp only [sched]; rw [if_pos ⟨rfl, rfl⟩, dS_val hk]; exact if_pos h
theorem duties_dead (c : Dev nD) {k : ℕ} (hk : k < 54) (h : ¬live c k) (r : ℕ) : (sched (F := F) m).duties (cl c k) r = ∅ := by
  dsimp only [sched]; split
  · rw [dS_val hk]; exact if_neg h
  · rfl
theorem duties_later (g : GSem nD τ sig) : ∀ r, 1 ≤ r → (sched (F := F) m).duties g r = ∅ :=
  fun r hr => by dsimp only [sched]; exact if_neg (fun h => by omega)

theorem amount_bar (c : Dev nD) (d : Fin 8) : (sched (F := F) m).amount (bcl c) 0 d = 1 := rfl
theorem amount_cl (c : Dev nD) {k : ℕ} (hk : k < 54) (d : Fin 8) : (sched (F := F) m).amount (cl c k) 0 d = amt k := by
  show amt (dS k).val = amt k; rw [dS_val hk]
theorem payload_bar (c : Dev nD) (d : Fin 8) : (sched (F := F) m).payload (bcl c) 0 d = barPay c d := rfl
theorem payload_cl (c : Dev nD) {k : ℕ} (hk : k < 54) (d : Fin 8) : (sched (F := F) m).payload (cl c k) 0 d = cellPay m c k := by
  show cellPay m c (dS k).val = _; rw [dS_val hk]
theorem expect_bar (c : Dev nD) : (sched (F := F) m).expect (bcl c) 0 = 7 := by
  unfold Schedule.expect Schedule.amountOf
  rw [duties_bar, Finset.sum_congr rfl fun d _ => amount_bar m c d, Finset.sum_const, Finset.card_erase_of_mem (Finset.mem_univ _)]
  rfl
theorem expect_cl (c : Dev nD) {k : ℕ} (hk : k < 54) (h : live c k) : (sched (F := F) m).expect (cl c k) 0 = amt k := by
  unfold Schedule.expect Schedule.amountOf; rw [duties_cl m c hk h, Finset.sum_singleton, amount_cl m c hk]
theorem rest_bar (c : Dev nD) :
    bigSep ((sched (F := F) m).duties (bcl c) 0 \ ∅) (fun d => (sched (F := F) m).payload (bcl c) 0 d)
      = bigSep (Finset.univ.erase c) (fun d => barPay c d) := by
  rw [Finset.sdiff_empty, duties_bar]; rfl
theorem rest_cl (c : Dev nD) {k : ℕ} (hk : k < 54) (h : live c k) :
    bigSep ((sched (F := F) m).duties (cl c k) 0 \ ∅) (fun d => (sched (F := F) m).payload (cl c k) 0 d) = cellPay m c k := by
  rw [Finset.sdiff_empty, duties_cl m c hk h, bigSep_singleton, payload_cl m c hk]

/-! ## Levels and what is owed -/

def L (g : GSem nD τ sig) : Finset Unit := if g.1.2 = .tc then {()} else ∅
/-- Barrier 1, arrivals of keys and values 2, of partial rows 3, of sums 4, the rest 0. -/
def lvk (k : ℕ) : ℕ := if 18 ≤ k ∧ k < 22 then 2 else if 31 ≤ k ∧ k < 39 then 3 else if 46 ≤ k then 4 else 0
def lv (g : GSem nD τ sig) (_ : Unit) : ℕ := match g.2 with | .reg _ => 1 | .dma s => lvk s.val

theorem L_of_ne (g : GSem nD τ sig) (h : g.1.2 ≠ .tc) : L g = ∅ := if_neg h
theorem L_tc (c : Dev nD) (sm : SemLoc sig) : L ((c : Thread nD τ), sm) = {()} := if_pos rfl
theorem lv_cl (c : Dev nD) {k : ℕ} (hk : k < 54) (u : Unit) : lv (cl c k) u = lvk k := by
  show lvk (dS k).val = _; rw [dS_val hk]

/-- The units owed, one entry per operation still to come. -/
def own (l : List (GSem nD τ sig × ℕ)) : CellTallies nD τ sig Unit := (l.map fun p => tallyAt p.1 () p.2).sum

theorem own_cons (p : GSem nD τ sig × ℕ) (l : List (GSem nD τ sig × ℕ)) : own (p :: l) = own l + tallyAt p.1 () p.2 := by
  unfold own; rw [List.map_cons, List.sum_cons, add_comm]

theorem own_pos (l : List (GSem nD τ sig × ℕ)) (g : GSem nD τ sig) (u : Unit) (h : 0 < own l g u) : ∃ p ∈ l, p.1 = g := by
  induction l with
  | nil => exact absurd h (Nat.lt_irrefl 0)
  | cons p l ih =>
    rw [own_cons] at h
    have h' : 0 < own l g u + tallyAt p.1 () p.2 g u := h
    by_cases h1 : 0 < own l g u
    · obtain ⟨q, hq, e⟩ := ih h1; exact ⟨q, List.mem_cons_of_mem _ hq, e⟩
    · rw [tallyAt_apply] at h'
      by_cases h2 : g = p.1 ∧ u = ()
      · exact ⟨p, List.mem_cons_self .., h2.1.symm⟩
      · rw [if_neg h2] at h'; omega

/-- All entries are on TensorCore cells above level `n`. -/
def Abv (n : ℕ) (l : List (GSem nD τ sig × ℕ)) : Prop := ∀ p ∈ l, p.1.1.2 = .tc ∧ n < lv p.1 ()

theorem Abv.append {n : ℕ} {l l' : List (GSem nD τ sig × ℕ)} (h : Abv n l) (h' : Abv n l') : Abv n (l ++ l') :=
  fun p hp => (List.mem_append.mp hp).elim (h p) (h' p)
theorem Abv.nil {n : ℕ} : Abv n [] := fun _ hp => absurd hp (List.not_mem_nil)

theorem mayWait (c : Dev nD) (sm : SemLoc sig) (l : List (GSem nD τ sig × ℕ)) (h : Abv (lv ((c : Thread nD τ), sm) ()) l) :
    (levAts L lv : sProp 𝕄) ⊢ MayWait (c : Thread nD τ) sm () (own l) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := own_pos l g u hg
      unfold L; rw [if_pos (h p hp).1]; exact Finset.mem_singleton_self _)
    (fun p hp => by rw [Finset.mem_singleton.mp hp])
    (fun g u hg => by
      obtain ⟨p, hp, rfl⟩ := own_pos l g u hg
      exact (h p hp).2)

def bL (c : Dev nD) (n : ℕ) : List (GSem nD τ sig × ℕ) := (List.range' n (7 - n)).map fun i => (bcl (dv c (i + 1)), 1)
def kL (c : Dev nD) (t n : ℕ) : List (GSem nD τ sig × ℕ) :=
  if c.val < 2 then (List.range' n (7 - n)).map fun i => (cl (kd c i) (18 + 2 * c.val + t), NK) else []
def rL (c : Dev nD) (n : ℕ) : List (GSem nD τ sig × ℕ) := (List.range' n (7 - n)).map fun i => (cl (dv c (i + 1)) (32 + i), NR)
def gL (c : Dev nD) (n : ℕ) : List (GSem nD τ sig × ℕ) := (List.range' n (7 - n)).map fun i => (cl (dv c (i + 1)) (47 + i), NR)

theorem range_succ {n : ℕ} (h : n < 7) : List.range' n (7 - n) = n :: List.range' (n + 1) (7 - (n + 1)) := by
  rw [show 7 - n = (7 - (n + 1)) + 1 by omega, List.range'_succ]

theorem bL_cons (c : Dev nD) {n : ℕ} (h : n < 7) : bL c n = (bcl (dv c (n + 1)), 1) :: bL c (n + 1) := by
  unfold bL; rw [range_succ h, List.map_cons]
theorem kL_cons (c : Dev nD) (hc : c.val < 2) (t : ℕ) {n : ℕ} (h : n < 7) :
    kL c t n = (cl (kd c n) (18 + 2 * c.val + t), NK) :: kL c t (n + 1) := by
  unfold kL; rw [if_pos hc, if_pos hc, range_succ h, List.map_cons]
theorem rL_cons (c : Dev nD) {n : ℕ} (h : n < 7) : rL c n = (cl (dv c (n + 1)) (32 + n), NR) :: rL c (n + 1) := by
  unfold rL; rw [range_succ h, List.map_cons]
theorem gL_cons (c : Dev nD) {n : ℕ} (h : n < 7) : gL c n = (cl (dv c (n + 1)) (47 + n), NR) :: gL c (n + 1) := by
  unfold gL; rw [range_succ h, List.map_cons]
theorem bL_seven (c : Dev nD) : bL c 7 = [] := rfl
theorem rL_seven (c : Dev nD) : rL c 7 = [] := rfl
theorem gL_seven (c : Dev nD) : gL c 7 = [] := rfl
theorem kL_seven (c : Dev nD) (t : ℕ) : kL c t 7 = [] := by unfold kL; split <;> rfl
theorem kL_ge (c : Dev nD) (hc : ¬c.val < 2) (t n : ℕ) : kL c t n = [] := by unfold kL; rw [if_neg hc]

theorem mem_range {n i : ℕ} (h : i ∈ List.range' n (7 - n)) : i < 7 := by
  rw [List.mem_range'_1] at h; omega

theorem abv_bL (c : Dev nD) (n : ℕ) : Abv 0 (bL c n) := by
  intro p hp
  obtain ⟨i, hi, rfl⟩ := List.mem_map.mp hp
  exact ⟨rfl, Nat.one_pos⟩
theorem abv_kL (c : Dev nD) (t : ℕ) (ht : t < 2) (n k : ℕ) (hk : k < 2) : Abv k (kL c t n) := by
  intro p hp
  unfold kL at hp
  by_cases hc : c.val < 2
  · rw [if_pos hc] at hp
    obtain ⟨i, hi, rfl⟩ := List.mem_map.mp hp
    refine ⟨rfl, ?_⟩
    rw [lv_cl _ (by omega)]; unfold lvk; rw [if_pos (by omega)]; exact hk
  · rw [if_neg hc] at hp; exact absurd hp (List.not_mem_nil)
theorem abv_rL (c : Dev nD) (n k : ℕ) (hk : k < 3) : Abv k (rL c n) := by
  intro p hp
  obtain ⟨i, hi, rfl⟩ := List.mem_map.mp hp
  have := mem_range hi
  refine ⟨rfl, ?_⟩
  rw [lv_cl _ (by omega)]; unfold lvk; rw [if_neg (by omega), if_pos (by omega)]; exact hk
theorem abv_gL (c : Dev nD) (n k : ℕ) (hk : k < 4) : Abv k (gL c n) := by
  intro p hp
  obtain ⟨i, hi, rfl⟩ := List.mem_map.mp hp
  have := mem_range hi
  refine ⟨rfl, ?_⟩
  rw [lv_cl _ (by omega)]; unfold lvk; rw [if_neg (by omega), if_neg (by omega), if_pos (by omega)]; exact hk

/-- Everything device `c` owes when it enters the kernel. -/
def O₀ (c : Dev nD) : List (GSem nD τ sig × ℕ) := bL c 0 ++ (kL c 0 0 ++ (kL c 1 0 ++ (rL c 0 ++ gL c 0)))

/-! ## The state a device carries -/

/-- The cells' invariants, at the names `K`. -/
def Inv (K : GSem nD τ sig → ℕ) : sProp 𝕄 :=
  bigSep Finset.univ fun d : Dev nD => iprop(cellInv ER (sched m) (K (bcl d)) (bcl d)
    ∗ bigSep (Finset.Ico 4 54) fun k => cellInv ER (sched m) (K (cl d k)) (cl d k))

instance Inv_persistent (K : GSem nD τ sig → ℕ) : BI.Persistent (Inv m K) := by unfold Inv; infer_instance

theorem inv_bar (K : GSem nD τ sig → ℕ) (d : Dev nD) : Inv m K ⊢ cellInv ER (sched m) (K (bcl d)) (bcl d) :=
  BI.Entails.trans (bigSep_elim (Finset.mem_univ d)) (BI.Entails.trans sep_and and_elimL)
theorem inv_cl (K : GSem nD τ sig → ℕ) (d : Dev nD) {k : ℕ} (h4 : 4 ≤ k) (h : k < 54) : Inv m K ⊢ cellInv ER (sched m) (K (cl d k)) (cl d k) :=
  BI.Entails.trans (BI.Entails.trans (bigSep_elim (Finset.mem_univ d)) (BI.Entails.trans sep_and and_elimR)) (bigSep_elim (Finset.mem_Ico.mpr ⟨h4, h⟩))
theorem rch_cl (d : Dev nD) {k : ℕ} (h4 : 4 ≤ k) (h : k < 54) : rch (F := F) d ⊢ reached ER (cl d k) 0 :=
  bigSep_elim (Finset.mem_Ico.mpr ⟨h4, h⟩)

/-- What device `c` still owes, at whatever it has waited for. -/
def OW (c : Dev nD) (l : List (GSem nD τ sig × ℕ)) : sProp 𝕄 := iprop(∃ W, owes (c : Thread nD τ) (own l) W)

/-- A loop over `a … b - 1` at `n`: what iterations still to come need, what those done left. -/
def grp (a b n : ℕ) (T D : ℕ → sProp 𝕄) : sProp 𝕄 := iprop(bigSep (Finset.Ico n b) T ∗ bigSep (Finset.Ico a n) D)

theorem grp_step {a b n : ℕ} (h : n < b) (h' : a ≤ n) (T D : ℕ → sProp 𝕄) :
    grp a b n T D ⊢ iprop(T n ∗ (D n -∗ grp a b (n + 1) T D)) := by
  unfold grp
  rw [bigSep_Ico_succ_bot h, bigSep_Ico_succ_top h']
  iintro ⟨⟨HT, Hr⟩, Hd⟩
  isplitl [HT]; · iexact HT
  iintro HD
  isplitl [Hr]; · iexact Hr
  isplitl [HD]; · iexact HD
  iexact Hd

end Cert.KernelIdeal.Run

end
-- ==== Proof.Ideal.Steps.lean ====
module

public import proofs.«01_k».proof.Proof.Ideal.Sched
public import Idealize.ShloMosaic.Lib.Tactic

@[expose] public section

/-! # One operation of the kernel at a time -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

abbrev 𝒱₀ : Variants := Variants.none

/-- The state every operation may use: the cells' invariants, the levels, and that every barrier cell is at round 0. -/
def Ctx : sProp 𝕄 := iprop(Inv m K ∗ levAts L lv ∗ bigSep Finset.univ fun d : Dev nD => reached ER (bcl d) 0)

instance Ctx_persistent : BI.Persistent (Ctx m K) := by unfold Ctx; infer_instance

/-- Round 0 of every copy cell of every device is reached. -/
def RA : sProp 𝕄 := bigSep Finset.univ fun d : Dev nD => rch (F := F) d

instance RA_persistent : BI.Persistent (RA (F := F)) := by unfold RA; infer_instance

theorem RA_cl (d : Dev nD) {k : ℕ} (h4 : 4 ≤ k) (h : k < 54) : RA (F := F) ⊢ reached ER (cl d k) 0 :=
  BI.Entails.trans (bigSep_elim (Finset.mem_univ d)) (rch_cl d h4 h)

/-! ## Sends of rows -/

theorem cellPay_rS (c : Dev nD) {n : ℕ} (hn : n < 7) : cellPay m c (24 + n) = pP (dv c (n + 1)) c fullShare (pAll m c) := by
  unfold cellPay
  rw [if_neg (by omega), if_neg (by omega), if_neg (by omega), if_pos (by omega), show 24 + n - 23 = n + 1 by omega]
theorem cellPay_rR (c : Dev nD) {o : ℕ} (hn : o < 8) : cellPay m c (31 + o) = pR (f8 o) c fullShare (rAll m c) := by
  unfold cellPay
  rw [if_neg (by omega), if_neg (by omega), if_neg (by omega), if_neg (by omega), if_pos (by omega), show 31 + o - 31 = o by omega]
theorem cellPay_gS (c : Dev nD) {n : ℕ} (hn : n < 7) : cellPay m c (39 + n) = pO c c (Transfers.shareTokN fullShare n) (oAll m) := by
  unfold cellPay
  rw [if_neg (by omega), if_neg (by omega), if_neg (by omega), if_neg (by omega), if_neg (by omega), if_pos (by omega),
    show 39 + n - 39 = n by omega]
theorem cellPay_gR (c : Dev nD) {o : ℕ} : cellPay m c (46 + o) = pO (dvm c o) c fullShare (oAll m) := by
  unfold cellPay
  rw [if_neg (by omega), if_neg (by omega), if_neg (by omega), if_neg (by omega), if_neg (by omega), if_neg (by omega),
    show 46 + o - 46 = o by omega]

theorem amt_lt {k : ℕ} (h : k < 24) : amt k = NK := if_pos h
theorem amt_ge {k : ℕ} (h : 24 ≤ k) : amt k = NR := if_neg (by omega)

/-- What the `n`-th send of partial rows needs. -/
def rT (c : Dev nD) (n : ℕ) : sProp 𝕄 :=
  iprop(dutyTok ER (cl c (24 + n)) 0 0 ∗ dutyTok ER (cl (dv c (n + 1)) (32 + n)) 0 0
    ∗ pP (dv c (n + 1)) c fullShare (pAll m c) ∗ ∃ f, pR (f8 (n + 1)) (dv c (n + 1)) fullShare f)
/-- What it leaves: the credit of its own read-out. -/
def rD (c : Dev nD) (n : ℕ) : sProp 𝕄 := cred (tallyAt (cl c (24 + n)) () (amt (24 + n)))

theorem rs_send (c : Dev nD) (l : List (GSem nD τ sig × ℕ)) (n n' : ℕ) (hn : n < 7) (hn' : n' = n + 1) (dd : Dev nD) (hdd : dd = dv c (n + 1))
    (src : Memref sig .tc .vmem S32x512 .bf16) (hsrc : src = pSrc (dv c (n + 1)))
    (dst : Memref sig .tc .vmem S32x512 .bf16) (hdst : dst = rDst (f8 (n + 1)))
    (sS sD : DmaSem sig) (hsS : sS = dS (24 + n)) (hsD : sD = dS (32 + n)) {α : Type} (h1) (h2) (h3)
    (k : PUnit → Prog (TpuEff nD τ sig (Elt F) Λ₀ .tc) α) (Q : α → sProp 𝕄) :
    iprop(Ctx m K ∗ RA ∗ OW c (rL c n ++ l) ∗ grp 0 7 n (rT m c) (rD c))
      ⊢ iprop((OW c (rL c n' ++ l) ∗ grp 0 7 n' (rT m c) (rD c) -∗ wp frame (wpE (defs₀ (F := F)) 𝒱₀ c none) Set.univ (k ⟨⟩) Q)
        -∗ wp frame (wpE (defs₀ (F := F)) 𝒱₀ c none) Set.univ
          (.op (.enqueueDma src (.remote (Dev.tc dd) dst (.dma sS)) (.dma sD) h1 h2 h3) k) Q) := by
  subst hdd hsrc hdst hsS hsD hn'
  unfold Ctx OW
  rw [rL_cons c hn, List.cons_append, own_cons]
  iintro ⟨⟨#HI, -, -⟩, #HR, ⟨%W, HO⟩, Hg⟩ Hk
  ihave Hg := (grp_step hn (Nat.zero_le n) (rT m c) (rD c)) $$ Hg
  icases Hg with ⟨HT, Hg⟩
  unfold rT
  icases HT with ⟨Ht1, Ht2, Hs, ⟨%fd, Hd⟩⟩
  unfold pP pR
  ihave #HI1 := (inv_cl m K c (k := 24 + n) (by omega) (by omega)) $$ HI
  ihave #HI2 := (inv_cl m K (dv c (n + 1)) (k := 32 + n) (by omega) (by omega)) $$ HI
  ihave #HR1 := (RA_cl c (k := 24 + n) (by omega) (by omega)) $$ HR
  ihave #HR2 := (RA_cl (dv c (n + 1)) (k := 32 + n) (by omega) (by omega)) $$ HR
  iapply (Rounds.wp_send_pointsTo 𝒱₀ ER (sched m) (c : Thread nD τ) none (c' := (dv c (n + 1) : Thread nD τ)) (src := pSrc (dv c (n + 1)))
      (dst := rDst (f8 (n + 1))) (sS := .dma (dS (24 + n))) (sem := .dma (dS (32 + n))) (q := fullShare) (fs := pAll m c)
      (κ₁ := K (cl c (24 + n))) (κ₂ := K (cl (dv c (n + 1)) (32 + n)))
      (r₁ := 0) (r₂ := 0) (d₁ := 0) (d₂ := 0) (fd := fd)
      (by rw [duties_cl m c (by omega) (by unfold live; omega)]; exact Finset.mem_singleton_self _)
      (by rw [duties_cl m _ (by omega) (by unfold live; omega)]; exact Finset.mem_singleton_self _)
      () () NR rfl ((amount_cl m c (by omega) 0).trans (amt_ge (by omega)))
      ((amount_cl m _ (by omega) 0).trans (amt_ge (by omega))) (own (rL c (n + 1) ++ l)) rfl (W := W)
      (by rw [payload_cl m c (by omega), cellPay_rS m c hn]; exact BI.Entails.refl _)
      (by
        rw [payload_cl m _ (by omega), show 32 + n = 31 + (n + 1) by omega, cellPay_rR m _ (by omega)]
        unfold pR
        exact Entails.of_eq (pointsTo_congr (rs_land m c (dv c (n + 1)) (f8 (n + 1))
          (by rw [show (f8 (n + 1)).val = n + 1 from Nat.mod_eq_of_lt (by omega), dvm_dv c _ (by omega)]) fd)))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  iapply Hg
  unfold rD
  rw [amt_ge (by omega)]
  iexact Hc

end Cert.KernelIdeal.Run

end
-- ==== Proof.Ideal.Ops.lean ====
module

public import proofs.«01_k».proof.Proof.Ideal.Steps

@[expose] public section

/-! # One operation of the kernel at a time: the other sends, signals and waits -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-! ## Sends of summed rows -/

/-- What the `n`-th send of summed rows needs. -/
def gT (c : Dev nD) (n : ℕ) : sProp 𝕄 :=
  iprop(dutyTok ER (cl c (39 + n)) 0 0 ∗ dutyTok ER (cl (dv c (n + 1)) (47 + n)) 0 0
    ∗ pO c c (Transfers.shareTokN fullShare n) (oAll m) ∗ ∃ f, pO c (dv c (n + 1)) fullShare f)
/-- What it leaves: the credit of its own read-out. -/
def gD (c : Dev nD) (n : ℕ) : sProp 𝕄 := cred (tallyAt (cl c (39 + n)) () (amt (39 + n)))

theorem ag_send (c : Dev nD) (l : List (GSem nD τ sig × ℕ)) (n n' : ℕ) (hn : n < 7) (hn' : n' = n + 1) (dd : Dev nD) (hdd : dd = dv c (n + 1))
    (src : Memref sig .tc .vmem S32x512 .bf16) (hsrc : src = oSrc c)
    (dst : Memref sig .tc .vmem S32x512 .bf16) (hdst : dst = oSrc c)
    (sS sD : DmaSem sig) (hsS : sS = dS (39 + n)) (hsD : sD = dS (47 + n)) {α : Type} (h1) (h2) (h3)
    (k : PUnit → Prog (TpuEff nD τ sig (Elt F) Λ₀ .tc) α) (Q : α → sProp 𝕄) :
    iprop(Ctx m K ∗ RA ∗ OW c (gL c n ++ l) ∗ grp 0 7 n (gT m c) (gD c))
      ⊢ iprop((OW c (gL c n' ++ l) ∗ grp 0 7 n' (gT m c) (gD c) -∗ wp frame (wpE (defs₀ (F := F)) 𝒱₀ c none) Set.univ (k ⟨⟩) Q)
        -∗ wp frame (wpE (defs₀ (F := F)) 𝒱₀ c none) Set.univ
          (.op (.enqueueDma src (.remote (Dev.tc dd) dst (.dma sS)) (.dma sD) h1 h2 h3) k) Q) := by
  subst hdd hsrc hdst hsS hsD hn'
  unfold Ctx OW
  rw [gL_cons c hn, List.cons_append, own_cons]
  iintro ⟨⟨#HI, -, -⟩, #HR, ⟨%W, HO⟩, Hg⟩ Hk
  ihave Hg := (grp_step hn (Nat.zero_le n) (gT m c) (gD c)) $$ Hg
  icases Hg with ⟨HT, Hg⟩
  unfold gT
  icases HT with ⟨Ht1, Ht2, Hs, ⟨%fd, Hd⟩⟩
  unfold pO
  ihave #HI1 := (inv_cl m K c (k := 39 + n) (by omega) (by omega)) $$ HI
  ihave #HI2 := (inv_cl m K (dv c (n + 1)) (k := 47 + n) (by omega) (by omega)) $$ HI
  ihave #HR1 := (RA_cl c (k := 39 + n) (by omega) (by omega)) $$ HR
  ihave #HR2 := (RA_cl (dv c (n + 1)) (k := 47 + n) (by omega) (by omega)) $$ HR
  iapply (Rounds.wp_send_pointsTo 𝒱₀ ER (sched m) (c : Thread nD τ) none (c' := (dv c (n + 1) : Thread nD τ)) (src := oSrc c)
      (dst := oSrc c) (sS := .dma (dS (39 + n))) (sem := .dma (dS (47 + n))) (q := Transfers.shareTokN fullShare n) (fs := oAll m)
      (κ₁ := K (cl c (39 + n))) (κ₂ := K (cl (dv c (n + 1)) (47 + n)))
      (r₁ := 0) (r₂ := 0) (d₁ := 0) (d₂ := 0) (fd := fd)
      (by rw [duties_cl m c (by omega) (by unfold live; omega)]; exact Finset.mem_singleton_self _)
      (by rw [duties_cl m _ (by omega) (by unfold live; omega)]; exact Finset.mem_singleton_self _)
      () () NR rfl ((amount_cl m c (by omega) 0).trans (amt_ge (by omega)))
      ((amount_cl m _ (by omega) 0).trans (amt_ge (by omega))) (own (gL c (n + 1) ++ l)) rfl (W := W)
      (by rw [payload_cl m c (by omega), cellPay_gS m c hn]; exact BI.Entails.refl _)
      (by
        rw [payload_cl m _ (by omega), show 47 + n = 46 + (n + 1) by omega, cellPay_gR m _, dvm_dv c _ (by omega)]
        unfold pO
        exact Entails.of_eq (pointsTo_congr (ag_land m c fd)))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  iapply Hg
  unfold gD
  rw [amt_ge (by omega)]
  iexact Hc

/-! ## Sends of keys and values -/

theorem cellPay_kS (c : Dev nD) {n : ℕ} (hn : n < 7) (t : Fin 2) : cellPay m c (4 + 2 * n + t.val) = pS t (kd c n) c (kvV m t c) := by
  have e : f2 (4 + 2 * n + t.val) = t := Fin.ext (show (4 + 2 * n + t.val) % 2 = t.val by omega)
  unfold cellPay
  rw [if_pos (by omega), e, show (4 + 2 * n + t.val - 4) / 2 = n by omega]
theorem cellPay_kR (c : Dev nD) (s t : Fin 2) : cellPay m c (18 + 2 * s.val + t.val) = pD t s c (kvAll m t c) := by
  have e : f2 (18 + 2 * s.val + t.val) = t := Fin.ext (show (18 + 2 * s.val + t.val) % 2 = t.val by omega)
  have e' : f2 ((18 + 2 * s.val + t.val - 18) / 2) = s := Fin.ext (show ((18 + 2 * s.val + t.val - 18) / 2) % 2 = s.val by omega)
  unfold cellPay
  rw [if_neg (by omega), if_pos (by omega), e, e']
theorem cellPay_kL (c : Dev nD) (t : Fin 2) : cellPay m c (22 + t.val)
    = iprop(pD t (f2 c.val) c (kvAll m t c) ∗ pS t c c (kvV m t c)) := by
  have e : f2 (22 + t.val) = t := Fin.ext (show (22 + t.val) % 2 = t.val by omega)
  unfold cellPay
  rw [if_neg (by omega), if_neg (by omega), if_pos (by omega), e]

theorem kd_ne (c : Dev nD) {n : ℕ} (hn : n < 7) (hc : c.val < 2) : (kd c n).val ≠ c.val := by
  unfold kd
  split
  · show (n + 1) % 8 ≠ c.val; omega
  · split
    · show 0 ≠ c.val; omega
    · show (n + 1) % 8 ≠ c.val; omega

/-- What source `c`'s `n`-th send of keys or values needs. -/
def kT (c : Dev nD) (t : Fin 2) (n : ℕ) : sProp 𝕄 :=
  iprop(dutyTok ER (cl c (4 + 2 * n + t.val)) 0 0 ∗ dutyTok ER (cl (kd c n) (18 + 2 * c.val + t.val)) 0 0
    ∗ pS t (kd c n) c (kvV m t c) ∗ ∃ f, pD t (f2 c.val) (kd c n) f)
/-- What it leaves: the credit of its own read-out. -/
def kD (c : Dev nD) (t : Fin 2) (n : ℕ) : sProp 𝕄 := cred (tallyAt (cl c (4 + 2 * n + t.val)) () (amt (4 + 2 * n + t.val)))

theorem kv_send (c : Dev nD) (hc : c.val < 2) (t : Fin 2) (l : List (GSem nD τ sig × ℕ)) (n n' : ℕ) (hn : n < 7) (hn' : n' = n + 1)
    (dd : Dev nD) (hdd : dd = kd c n)
    (src : Memref sig .tc .hbm S2x4x64x128 .bf16) (hsrc : src = kSrc t (kd c n))
    (dst : Memref sig .tc .vmem S2x4x64x128 .bf16) (hdst : dst = kDst t (f2 c.val))
    (sS sD : DmaSem sig) (hsS : sS = dS (4 + 2 * n + t.val)) (hsD : sD = dS (18 + 2 * c.val + t.val)) {α : Type} (h1) (h2) (h3)
    (k : PUnit → Prog (TpuEff nD τ sig (Elt F) Λ₀ .tc) α) (Q : α → sProp 𝕄) :
    iprop(Ctx m K ∗ RA ∗ OW c (kL c t.val n ++ l) ∗ grp 0 7 n (kT m c t) (kD c t))
      ⊢ iprop((OW c (kL c t.val n' ++ l) ∗ grp 0 7 n' (kT m c t) (kD c t) -∗ wp frame (wpE (defs₀ (F := F)) 𝒱₀ c none) Set.univ (k ⟨⟩) Q)
        -∗ wp frame (wpE (defs₀ (F := F)) 𝒱₀ c none) Set.univ
          (.op (.enqueueDma src (.remote (Dev.tc dd) dst (.dma sS)) (.dma sD) h1 h2 h3) k) Q) := by
  subst hdd hsrc hdst hsS hsD hn'
  have hN : ∀ t s, (kDst t s).view.dmaCredit = NK := by intro t s; match t with | 0 => rfl | 1 => rfl
  have ht := t.isLt
  have hkd := kd_ne c hn hc
  have hs : c.val = (f2 c.val).val := by show c.val = c.val % 2; omega
  have e18 : 18 + 2 * c.val + t.val = 18 + 2 * (f2 c.val).val + t.val := by rw [← hs]
  unfold Ctx OW
  rw [kL_cons c hc t.val hn, List.cons_append, own_cons]
  iintro ⟨⟨#HI, -, -⟩, #HR, ⟨%W, HO⟩, Hg⟩ Hk
  ihave Hg := (grp_step hn (Nat.zero_le n) (kT m c t) (kD c t)) $$ Hg
  icases Hg with ⟨HT, Hg⟩
  unfold kT
  icases HT with ⟨Ht1, Ht2, Hs, ⟨%fd, Hd⟩⟩
  unfold pS pD
  ihave #HI1 := (inv_cl m K c (k := 4 + 2 * n + t.val) (by omega) (by omega)) $$ HI
  ihave #HI2 := (inv_cl m K (kd c n) (k := 18 + 2 * c.val + t.val) (by omega) (by omega)) $$ HI
  ihave #HR1 := (RA_cl c (k := 4 + 2 * n + t.val) (by omega) (by omega)) $$ HR
  ihave #HR2 := (RA_cl (kd c n) (k := 18 + 2 * c.val + t.val) (by omega) (by omega)) $$ HR
  iapply (Rounds.wp_send_pointsTo 𝒱₀ ER (sched m) (c : Thread nD τ) none (c' := (kd c n : Thread nD τ)) (src := kSrc t (kd c n))
      (dst := kDst t (f2 c.val)) (sS := .dma (dS (4 + 2 * n + t.val))) (sem := .dma (dS (18 + 2 * c.val + t.val))) (q := fullShare) (fs := kvV m t c)
      (κ₁ := K (cl c (4 + 2 * n + t.val))) (κ₂ := K (cl (kd c n) (18 + 2 * c.val + t.val)))
      (r₁ := 0) (r₂ := 0) (d₁ := 0) (d₂ := 0) (fd := fd)
      (by rw [duties_cl m c (by omega) (by unfold live; omega)]; exact Finset.mem_singleton_self _)
      (by rw [duties_cl m _ (by omega) (by unfold live; omega)]; exact Finset.mem_singleton_self _)
      () () NK (hN t _) ((amount_cl m c (by omega) 0).trans (amt_lt (by omega)))
      ((amount_cl m _ (by omega) 0).trans (amt_lt (by omega))) (own (kL c t.val (n + 1) ++ l)) rfl (W := W)
      (by rw [payload_cl m c (by omega), cellPay_kS m c hn]; exact BI.Entails.refl _)
      (by
        rw [payload_cl m _ (by omega), e18, cellPay_kR m _]
        unfold pD
        exact Entails.of_eq (pointsTo_congr (kv_land m t c (kd c n) (f2 c.val) hs (kd c n) rfl fd)))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  iapply Hg
  unfold kD
  rw [amt_lt (by omega)]
  iexact Hc

/-- What source `c`'s copy of its own keys or values needs. -/
def lT (c : Dev nD) (t : Fin 2) : sProp 𝕄 :=
  iprop(dutyTok ER (cl c (22 + t.val)) 0 0 ∗ pS t c c (kvV m t c) ∗ ∃ f, pD t (f2 c.val) c f)
/-- The credit of copy cell `k`. -/
def crd (c : Dev nD) (k : ℕ) : sProp 𝕄 := cred (tallyAt (cl c k) () (amt k))

theorem kv_local (c : Dev nD) (hc : c.val < 2) (t : Fin 2)
    (src : Memref sig .tc .hbm S2x4x64x128 .bf16) (hsrc : src = kSrc t c)
    (dst : Memref sig .tc .vmem S2x4x64x128 .bf16) (hdst : dst = kDst t (f2 c.val))
    (sD : DmaSem sig) (hsD : sD = dS (22 + t.val)) {α : Type} (h1) (h2) (h3)
    (k : PUnit → Prog (TpuEff nD τ sig (Elt F) Λ₀ .tc) α) (Q : α → sProp 𝕄) :
    iprop(Ctx m K ∗ RA ∗ lT m c t)
      ⊢ iprop((crd c (22 + t.val) -∗ wp frame (wpE (defs₀ (F := F)) 𝒱₀ c none) Set.univ (k ⟨⟩) Q)
        -∗ wp frame (wpE (defs₀ (F := F)) 𝒱₀ c none) Set.univ
          (.op (.enqueueDma src (.here dst) (.dma sD) h1 h2 h3) k) Q) := by
  subst hsrc hdst hsD
  have hN : ∀ t s, (kDst t s).view.dmaCredit = NK := by intro t s; match t with | 0 => rfl | 1 => rfl
  have ht := t.isLt
  have hs : c.val = (f2 c.val).val := by show c.val = c.val % 2; omega
  unfold Ctx lT pS pD
  iintro ⟨⟨#HI, -, -⟩, #HR, Ht, Hs, ⟨%fd, Hd⟩⟩ Hk
  ihave #HI1 := (inv_cl m K c (k := 22 + t.val) (by omega) (by omega)) $$ HI
  ihave #HR1 := (RA_cl c (k := 22 + t.val) (by omega) (by omega)) $$ HR
  iapply (Rounds.wp_copy_pointsTo 𝒱₀ ER (sched m) (c : Thread nD τ) none (src := kSrc t c)
      (dst := kDst t (f2 c.val)) (sem := .dma (dS (22 + t.val))) (q := fullShare) (fs := kvV m t c)
      (κ := K (cl c (22 + t.val))) (r := 0) (d := 0) (fd := fd)
      (by rw [duties_cl m c (by omega) (by unfold live; omega)]; exact Finset.mem_singleton_self _)
      () NK (hN t _) ((amount_cl m c (by omega) 0).trans (amt_lt (by omega)))
      (by
        rw [payload_cl m c (by omega), cellPay_kL m c]
        unfold pD pS
        exact sep_mono_left (Entails.of_eq (pointsTo_congr (kv_land m t c c (f2 c.val) hs c rfl fd))))) $$ [Hs Hd Ht]
  · isplitr; · iexact HI1
    isplitl [Hs]; · iexact Hs
    isplitl [Hd]; · iexact Hd
    isplitl [Ht]; · iexact Ht
    iexact HR1
  iintro Hc
  iapply Hk
  unfold crd
  rw [amt_lt (by omega)]
  iexact Hc

/-! ## Waits on copy cells -/

/-- What a wait on copy cell `k` needs, and what it leaves. -/
def wT (c : Dev nD) (k : ℕ) : sProp 𝕄 := iprop(crd c k ∗ atPos ER (cl c k) 0 ∅ 0)
def wD (c : Dev nD) (k : ℕ) : sProp 𝕄 := iprop(atPos ER (cl c k) 1 ∅ 0 ∗ cellPay m c k)

theorem wait_op (c : Dev nD) (l : List (GSem nD τ sig × ℕ)) (k : ℕ) (h4 : 4 ≤ k) (hk : k < 54) (hl : live c k) (ha : Abv (lvk k) l)
    {sp sp' : Space} {s s' : Shape} {e e' : EltTy} (sem : DmaSem sig) (hsem : sem = dS k)
    (src : Memref sig .tc sp' s' e') (dst : Memref sig .tc sp s e) (hd : dst.view.dmaCredit = amt k)
    {α : Type} (h1) (h2)
    (kk : PUnit → Prog (TpuEff nD τ sig (Elt F) Λ₀ .tc) α) (Q : α → sProp 𝕄) :
    iprop(Ctx m K ∗ OW c l ∗ wT c k)
      ⊢ iprop((OW c l ∗ wD m c k -∗ wp frame (wpE (defs₀ (F := F)) 𝒱₀ c none) Set.univ (kk ⟨⟩) Q)
        -∗ wp frame (wpE (defs₀ (F := F)) 𝒱₀ c none) Set.univ (.op (.waitDma2 sem src dst h1 h2) kk) Q) := by
  subst hsem
  unfold Ctx OW wT wD crd
  iintro ⟨⟨#HI, #HL, -⟩, ⟨%W, HO⟩, HC, HA⟩ Hk
  ihave #HI1 := (inv_cl m K c (k := k) h4 hk) $$ HI
  rw [← hd]
  iapply (Rounds.wp_wait_rest_token 𝒱₀ ER (sched m) (c : Thread nD τ) none (κ := K (cl c k))
      (wpE_waitDma2_eq 𝒱₀ (c : Thread nD τ) none Set.univ) (Set.mem_univ _) () (O := own l) (W := W) (R := 0) (m := 0) (T := ∅)
      (by rw [Nat.zero_add, expect_cl m c hk hl, hd])) $$ [HC HO HA]
  · isplitr; · iexact HI1
    isplitl [HC]; · iexact HC
    isplitl [HO]; · iexact HO
    isplitr
    · iapply (mayWait c (.dma (dS k)) l (by rw [show lv ((c : Thread nD τ), .dma (dS k)) () = lvk k from lv_cl c hk ()]; exact ha))
      iexact HL
    iexact HA
  iintro ⟨HO, HA, -, Hp⟩
  ihave Hp := (Entails.of_eq (rest_cl m c hk hl)) $$ Hp
  iapply Hk
  isplitl [HO]; · iexists (insert (SemLoc.dma (dS k), ()) W); iexact HO
  isplitl [HA]; · iexact HA
  iexact Hp

/-! ## The barrier -/

/-- What the `n`-th signal needs: the pieces of its own buffers that the device signalled writes. -/
def bT (c : Dev nD) (n : ℕ) : sProp 𝕄 :=
  iprop(dutyTok ER (bcl (dv c (n + 1))) 0 c ∗ (∃ f, pR (f8 (c.val + 8 - (dv c (n + 1)).val)) c fullShare f)
    ∗ (∃ f, pO (dv c (n + 1)) c fullShare f) ∗ barKV (dv c (n + 1)) c)

theorem dv_ne (c : Dev nD) {n : ℕ} (hn : n < 7) : c ≠ dv c (n + 1) := by
  intro h
  have := congrArg Fin.val h
  have h8 : c.val < 8 := c.isLt
  have h' : c.val = (c.val + (n + 1)) % 8 := this
  omega

theorem bar_at (d : Dev nD) : (bigSep Finset.univ fun d : Dev nD => (reached ER (bcl d) 0 : sProp 𝕄)) ⊢ reached ER (bcl d) 0 :=
  bigSep_elim (Finset.mem_univ d)

theorem bar_signal (c : Dev nD) (l : List (GSem nD τ sig × ℕ)) (n n' : ℕ) (hn : n < 7) (hn' : n' = n + 1) (dd : Dev nD) (hdd : dd = dv c (n + 1))
    (sem : Sem sig) (hsem : sem = barS) (i : ℤ) (hi : i = 1) {α : Type}
    (k : PUnit → Prog (TpuEff nD τ sig (Elt F) Λ₀ .tc) α) (Q : α → sProp 𝕄) :
    iprop(Ctx m K ∗ rch c ∗ OW c (bL c n ++ l) ∗ bigSep (Finset.Ico n 7) (bT c))
      ⊢ iprop((OW c (bL c n' ++ l) ∗ bigSep (Finset.Ico n' 7) (bT c) -∗ wp frame (wpE (defs₀ (F := F)) 𝒱₀ c none) Set.univ (k ⟨⟩) Q)
        -∗ wp frame (wpE (defs₀ (F := F)) 𝒱₀ c none) Set.univ
          (.op (.semSignal (Dev.tc dd) sem i) k) Q) := by
  subst hdd hsem hn' hi
  unfold Ctx OW
  rw [bL_cons c hn, List.cons_append, own_cons, bigSep_Ico_succ_bot hn]
  iintro ⟨⟨#HI, -, #HB⟩, #HR, ⟨%W, HO⟩, HT, Hg⟩ Hk
  unfold bT
  icases HT with ⟨Ht, H1, H2, H3⟩
  ihave #HI1 := (inv_bar m K (dv c (n + 1))) $$ HI
  ihave #HB1 := (bar_at (dv c (n + 1))) $$ HB
  iapply (Rounds.wp_signal 𝒱₀ ER (sched m) (c : Thread nD τ) none (dst := (dv c (n + 1) : Thread nD τ)) (sem := barS)
      (κ := K (bcl (dv c (n + 1)))) (r := 0) (d := c)
      (by rw [duties_bar m]; exact Finset.mem_erase.mpr ⟨dv_ne c hn, Finset.mem_univ _⟩)
      ((amount_bar m _ _).trans (by decide)) () (own (bL c (n + 1) ++ l)) rfl) $$ [HO Ht H1 H2 H3]
  · isplitr; · iexact HI1
    isplitl [HO]; · iexact HO
    isplitl [Ht]; · iexact Ht
    isplitl [H1 H2 H3]
    · rw [payload_bar m]
      unfold barPay
      isplitl [H1]; · iexact H1
      isplitl [H2]; · iexact H2
      isplitl [H3]; · iexact H3
      iexact HR
    iexact HB1
  iintro HO
  iapply Hk
  isplitl [HO]; · iexists W; iexact HO
  iexact Hg

theorem bar_wait (c : Dev nD) (l : List (GSem nD τ sig × ℕ)) (ha : Abv 1 l) (sem : Sem sig) (hsem : sem = barS) (i : ℤ) (hi : i = 7) {α : Type}
    (k : PUnit → Prog (TpuEff nD τ sig (Elt F) Λ₀ .tc) α) (Q : α → sProp 𝕄) :
    iprop(Ctx m K ∗ OW c l ∗ cred (tallyAt (bcl c) () 7) ∗ atPos ER (bcl c) 0 ∅ 0)
      ⊢ iprop((OW c l ∗ atPos ER (bcl c) 1 ∅ 0 ∗ bigSep (Finset.univ.erase c) (fun d => barPay c d)
          -∗ wp frame (wpE (defs₀ (F := F)) 𝒱₀ c none) Set.univ (k ⟨⟩) Q)
        -∗ wp frame (wpE (defs₀ (F := F)) 𝒱₀ c none) Set.univ (.op (.semWait sem i) k) Q) := by
  subst hsem hi
  unfold Ctx OW
  iintro ⟨⟨#HI, #HL, -⟩, ⟨%W, HO⟩, HC, HA⟩ Hk
  ihave #HI1 := (inv_bar m K c) $$ HI
  iapply (Rounds.wp_wait_rest_token 𝒱₀ ER (sched m) (c : Thread nD τ) none (κ := K (bcl c))
      (wpE_semWait_eq 𝒱₀ (c : Thread nD τ) none Set.univ) (Set.mem_univ _) () (O := own l) (W := W) (R := 0) (m := 0) (T := ∅)
      (by rw [Nat.zero_add, expect_bar m c]; try rfl)) $$ [HC HO HA]
  · isplitr; · iexact HI1
    isplitl [HC]; · iexact HC
    isplitl [HO]; · iexact HO
    isplitr
    · iapply (mayWait c (.reg barS) l ha)
      iexact HL
    iexact HA
  iintro ⟨HO, HA, -, Hp⟩
  ihave Hp := (Entails.of_eq (rest_bar m c)) $$ Hp
  iapply Hk
  isplitl [HO]; · iexists (insert (SemLoc.reg barS, ()) W); iexact HO
  isplitl [HA]; · iexact HA
  iexact Hp

end Cert.KernelIdeal.Run

end
-- ==== Proof.Ideal.Mem.lean ====
module

public import proofs.«01_k».proof.Proof.Ideal.Ops

@[expose] public section

/-! # One operation of the kernel at a time: loads and stores, and the loops of waits -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-! ## Loads -/

theorem full_idx {s : Shape} (off : Fin s.rank → ℕ) (inb) (hoff : ∀ a, off a = 0) (x : s.Idx) :
    (Rect.unit (s := s) off s.size inb).toLoadRect.idx x = x := by
  funext a
  apply Fin.ext
  show off a + 1 * (x a).val = (x a).val
  rw [hoff a]; omega

theorem readAt_full {sp : Space} {s : Shape} {e : EltTy} (v : View sig .tc sp s e) (off : Fin s.rank → ℕ) (inb) (hoff : ∀ a, off a = 0)
    (f : v.ty.Contents (Elt F)) : v.readAt (Elt F) (Rect.unit (s := s) off s.size inb).toLoadRect f = v.read (Elt F) f := by
  funext x
  rw [View.readAt_apply]
  exact congrArg (v.read (Elt F) f) (full_idx off inb hoff x)

/-- A load of a whole staging buffer gives what it holds. -/
theorem ld_owns (c : Dev nD) {s : Shape} {e : EltTy} (A : Memref sig .tc .vmem s e) (X : s.Idx → Elt F e) (off : Fin s.rank → ℕ) (inb)
    (hoff : ∀ a, off a = 0) {α : Type} (hl) (k : (s.Idx → Elt F e) → Prog (TpuEff nD τ sig (Elt F) Λ₀ .tc) α) (Q : α → sProp 𝕄) :
    (owns (c : Thread nD τ) A fullShare X : sProp 𝕄)
      ⊢ iprop((owns (c : Thread nD τ) A fullShare X -∗ wp frame (wpE (defs₀ (F := F)) 𝒱₀ c none) Set.univ (k X) Q)
        -∗ wp frame (wpE (defs₀ (F := F)) 𝒱₀ c none) Set.univ (.op (.load A (Rect.unit (s := s) off s.size inb).toLoadRect hl) k) Q) := by
  unfold owns
  iintro ⟨%f, %hf, Hf⟩ Hk
  iapply (wp_load 𝒱₀ (c : Thread nD τ) none Set.univ (m := A) (View.setOn_subset_set _ _)) $$ Hf
  iintro Hf
  rw [readAt_full A.view off inb hoff f, hf]
  iapply Hk
  iexists f
  isplitr; · ipureintro; exact hf
  iexact Hf

/-- A load of anything from a staging buffer. -/
theorem ld_owns_any (c : Dev nD) {s : Shape} {e : EltTy} (A : Memref sig .tc .vmem s e) (X : s.Idx → Elt F e) (r : LoadRect s)
    {α : Type} (hl) (k : (r.shape.Idx → Elt F e) → Prog (TpuEff nD τ sig (Elt F) Λ₀ .tc) α) (Q : α → sProp 𝕄) :
    (owns (c : Thread nD τ) A fullShare X : sProp 𝕄)
      ⊢ iprop((∀ w, owns (c : Thread nD τ) A fullShare X -∗ wp frame (wpE (defs₀ (F := F)) 𝒱₀ c none) Set.univ (k w) Q)
        -∗ wp frame (wpE (defs₀ (F := F)) 𝒱₀ c none) Set.univ (.op (.load A r hl) k) Q) := by
  unfold owns
  iintro ⟨%f, %hf, Hf⟩ Hk
  iapply (wp_load 𝒱₀ (c : Thread nD τ) none Set.univ (m := A) (View.setOn_subset_set _ _)) $$ Hf
  iintro Hf
  iapply Hk
  iexists f
  isplitr; · ipureintro; exact hf
  iexact Hf

/-- A store of a whole staging buffer leaves what is written. -/
theorem st_owns (c : Dev nD) {s : Shape} {e : EltTy} (A : Memref sig .tc .vmem s e) (X w : s.Idx → Elt F e) (off : Fin s.rank → ℕ) (inb)
    (hoff : ∀ a, off a = 0) {α : Type} (hx) (hm) (k : PUnit → Prog (TpuEff nD τ sig (Elt F) Λ₀ .tc) α) (Q : α → sProp 𝕄) :
    (owns (c : Thread nD τ) A fullShare X : sProp 𝕄)
      ⊢ iprop((owns (c : Thread nD τ) A fullShare w -∗ wp frame (wpE (defs₀ (F := F)) 𝒱₀ c none) Set.univ (k ⟨⟩) Q)
        -∗ wp frame (wpE (defs₀ (F := F)) 𝒱₀ c none) Set.univ
          (.op (.store A (Rect.unit (s := s) off s.size inb) w Finset.univ hx hm) k) Q) := by
  unfold owns
  iintro ⟨%f, -, Hf⟩ Hk
  iapply (wp_store 𝒱₀ (c : Thread nD τ) none Set.univ (m := A) (r := Rect.unit (s := s) off s.size inb) (S := A.view.set) (f := f)
    ((View.setOn_subset_set _ _).trans (View.set_slice_subset _ _))) $$ Hf
  iintro Hf
  iapply Hk
  iexists (A.access (Rect.unit (s := s) off s.size inb)).write (Elt F) f w Finset.univ
  isplitr
  · ipureintro
    rw [← readAt_full A.view off inb hoff, View.readAt_rect]
    exact View.read_write_univ _ _
  iexact Hf

/-- The buffer of all keys, the buffer of all values, whole. -/
def kW (c : Dev nD) : sProp 𝕄 := (Memref.whole cc0_scratch0).view.loc (c : Thread nD τ) ↦{fullShare} kAll m c
def vW (c : Dev nD) : sProp 𝕄 := (Memref.whole cc0_scratch1).view.loc (c : Thread nD τ) ↦{fullShare} vAll m c

theorem ld_k (c : Dev nD) (s b : Fin 2) (h : Fin 4) (inb) {α : Type} (hl)
    (k : (S1x1x1x64x128.Idx → Elt F .bf16) → Prog (TpuEff nD τ sig (Elt F) Λ₀ .tc) α) (Q : α → sProp 𝕄) :
    kW m c ⊢ iprop((kW m c -∗ wp frame (wpE (defs₀ (F := F)) 𝒱₀ c none) Set.univ (k (ldB (kAll m c) s b h)) Q)
        -∗ wp frame (wpE (defs₀ (F := F)) 𝒱₀ c none) Set.univ
          (.op (.load (Memref.whole cc0_scratch0) (Rect.unit (s := S2x2x4x64x128) ![s.val, b.val, h.val, 0, 0] S1x1x1x64x128.size inb).toLoadRect hl) k) Q) := by
  have e : (Memref.whole cc0_scratch0).view.readAt (Elt F)
      (Rect.unit (s := S2x2x4x64x128) ![s.val, b.val, h.val, 0, 0] S1x1x1x64x128.size inb).toLoadRect (kAll m c) = ldB (kAll m c) s b h :=
    funext fun y => ld_block (kAll m c) cc0_scratch0 (Or.inl rfl) s b h inb y
  unfold kW
  iintro Hf Hk
  iapply (wp_load 𝒱₀ (c : Thread nD τ) none Set.univ (m := Memref.whole cc0_scratch0) (Finset.subset_univ _)) $$ Hf
  iintro Hf
  rw [e]
  iapply Hk
  iexact Hf

theorem ld_v (c : Dev nD) (s b : Fin 2) (h : Fin 4) (inb) {α : Type} (hl)
    (k : (S1x1x1x64x128.Idx → Elt F .bf16) → Prog (TpuEff nD τ sig (Elt F) Λ₀ .tc) α) (Q : α → sProp 𝕄) :
    vW m c ⊢ iprop((vW m c -∗ wp frame (wpE (defs₀ (F := F)) 𝒱₀ c none) Set.univ (k (ldB (vAll m c) s b h)) Q)
        -∗ wp frame (wpE (defs₀ (F := F)) 𝒱₀ c none) Set.univ
          (.op (.load (Memref.whole cc0_scratch1) (Rect.unit (s := S2x2x4x64x128) ![s.val, b.val, h.val, 0, 0] S1x1x1x64x128.size inb).toLoadRect hl) k) Q) := by
  have e : (Memref.whole cc0_scratch1).view.readAt (Elt F)
      (Rect.unit (s := S2x2x4x64x128) ![s.val, b.val, h.val, 0, 0] S1x1x1x64x128.size inb).toLoadRect (vAll m c) = ldB (vAll m c) s b h :=
    funext fun y => ld_block (vAll m c) cc0_scratch1 (Or.inr rfl) s b h inb y
  unfold vW
  iintro Hf Hk
  iapply (wp_load 𝒱₀ (c : Thread nD τ) none Set.univ (m := Memref.whole cc0_scratch1) (Finset.subset_univ _)) $$ Hf
  iintro Hf
  rw [e]
  iapply Hk
  iexact Hf

/-! ## Whole-buffer accesses of a scratch buffer -/

/-- Device `c`'s partial product, its received rows, its sum, whole. -/
def pW (c : Dev nD) (f : (⟨S256x512, .bf16⟩ : BufTy).Contents (Elt F)) : sProp 𝕄 := (Memref.whole cc0_scratch2).view.loc (c : Thread nD τ) ↦{fullShare} f
def rW (c : Dev nD) (f : (⟨S8x32x512, .bf16⟩ : BufTy).Contents (Elt F)) : sProp 𝕄 := (Memref.whole cc0_scratch3).view.loc (c : Thread nD τ) ↦{fullShare} f
def oW (c : Dev nD) (q : PosShare TreeShare) (f : (⟨S256x512, .bf16⟩ : BufTy).Contents (Elt F)) : sProp 𝕄 :=
  (Memref.whole cc0_scratch4).view.loc (c : Thread nD τ) ↦{q} f

theorem ld_p (c : Dev nD) (f) (r : LoadRect S256x512) {α : Type} (hl) (k : (r.shape.Idx → Elt F .bf16) → Prog (TpuEff nD τ sig (Elt F) Λ₀ .tc) α) (Q : α → sProp 𝕄) :
    pW c f ⊢ iprop((∀ w, pW c f -∗ wp frame (wpE (defs₀ (F := F)) 𝒱₀ c none) Set.univ (k w) Q)
        -∗ wp frame (wpE (defs₀ (F := F)) 𝒱₀ c none) Set.univ (.op (.load (Memref.whole cc0_scratch2) r hl) k) Q) := by
  unfold pW
  iintro Hf Hk
  iapply (wp_load 𝒱₀ (c : Thread nD τ) none Set.univ (m := Memref.whole cc0_scratch2) (Finset.subset_univ _)) $$ Hf
  iintro Hf
  iapply Hk
  iexact Hf

theorem st_p (c : Dev nD) (f) (w : S256x512.Idx → Elt F .bf16) (inb) {α : Type} (hx) (hm)
    (k : PUnit → Prog (TpuEff nD τ sig (Elt F) Λ₀ .tc) α) (Q : α → sProp 𝕄) :
    pW c f ⊢ iprop((pW c w -∗ wp frame (wpE (defs₀ (F := F)) 𝒱₀ c none) Set.univ (k ⟨⟩) Q)
        -∗ wp frame (wpE (defs₀ (F := F)) 𝒱₀ c none) Set.univ
          (.op (.store (Memref.whole cc0_scratch2) (Rect.unit (s := S256x512) ![0, 0] S256x512.size inb) w Finset.univ hx hm) k) Q) := by
  have e : ((Memref.whole cc0_scratch2).access (Rect.unit (s := S256x512) ![0, 0] S256x512.size inb)).write (Elt F) f w Finset.univ = w := by
    funext x
    exact write_all (Memref.whole cc0_scratch2).view ![0, 0] inb (fun a => by match a with | 0 => rfl | 1 => rfl) f w x
  unfold pW
  iintro Hf Hk
  iapply (wp_store 𝒱₀ (c : Thread nD τ) none Set.univ (m := Memref.whole cc0_scratch2)
    (r := Rect.unit (s := S256x512) ![0, 0] S256x512.size inb) (f := f) (S := Finset.univ) (Finset.subset_univ _)) $$ Hf
  iintro Hf
  rw [e]
  iapply Hk
  iexact Hf

theorem rect_sub (off : Fin 2 → ℕ) (inb) (j : Fin 8) (hoff : off = ![32 * j.val, 0]) (h) :
    (Memref.whole cc0_scratch2).view.setOn (Rect.unit (s := S256x512) off S32x512.size inb).toLoadRect.set
      ⊆ ((Memref.whole cc0_scratch2).slice (Rect.unit (s := S256x512) ![32 * j.val, 0] S32x512.size (inbP j)) h).view.set := by
  subst hoff
  exact (View.set_slice _ _).symm.subset

theorem rect_sub4 (off : Fin 2 → ℕ) (inb) (j : Fin 8) (hoff : off = ![32 * j.val, 0]) (h) :
    (Memref.whole cc0_scratch4).view.setOn (Rect.unit (s := S256x512) off S32x512.size inb).toLoadRect.set
      ⊆ ((Memref.whole cc0_scratch4).slice (Rect.unit (s := S256x512) ![32 * j.val, 0] S32x512.size (inbP j)) h).view.set := by
  subst hoff
  exact (View.set_slice _ _).symm.subset

/-- A device's load of its own rows of its partial product. -/
theorem ld_pOwn (c : Dev nD) (off : Fin 2 → ℕ) (inb) (hoff : off = ![32 * c.val, 0]) {α : Type} (hl)
    (k : (S32x512.Idx → Elt F .bf16) → Prog (TpuEff nD τ sig (Elt F) Λ₀ .tc) α) (Q : α → sProp 𝕄) :
    pP c c fullShare (pAll m c) ⊢ iprop((pP c c fullShare (pAll m c) -∗ wp frame (wpE (defs₀ (F := F)) 𝒱₀ c none) Set.univ
            (k ((Memref.whole cc0_scratch2).view.readAt (Elt F) (Rect.unit (s := S256x512) off S32x512.size inb).toLoadRect (pAll m c))) Q)
        -∗ wp frame (wpE (defs₀ (F := F)) 𝒱₀ c none) Set.univ
          (.op (.load (Memref.whole cc0_scratch2) (Rect.unit (s := S256x512) off S32x512.size inb).toLoadRect hl) k) Q) := by
  unfold pP
  iintro Hf Hk
  iapply (wp_load 𝒱₀ (c : Thread nD τ) none Set.univ (m := Memref.whole cc0_scratch2) (S := (pSrc c).view.set) (rect_sub off inb c hoff _)) $$ Hf
  iintro Hf
  iapply Hk
  iexact Hf

/-- A device's loads of its slot 0, and of its own rows of the sum, whose values are not used. -/
theorem r0_sub (inb) : (Memref.whole cc0_scratch3).view.setOn (Rect.unit (s := S8x32x512) ![0, 0, 0] S1x32x512.size inb).toLoadRect.set ⊆ (rDst 0).view.set := by
  rw [Memref.set_view_squeeze]
  exact (View.set_slice _ _).symm.subset

theorem ld_r0 (c : Dev nD) (f) (inb) {α : Type} (hl)
    (k : (S1x32x512.Idx → Elt F .bf16) → Prog (TpuEff nD τ sig (Elt F) Λ₀ .tc) α) (Q : α → sProp 𝕄) :
    pR 0 c fullShare f ⊢ iprop((∀ w, pR 0 c fullShare f -∗ wp frame (wpE (defs₀ (F := F)) 𝒱₀ c none) Set.univ (k w) Q)
        -∗ wp frame (wpE (defs₀ (F := F)) 𝒱₀ c none) Set.univ
          (.op (.load (Memref.whole cc0_scratch3) (Rect.unit (s := S8x32x512) ![0, 0, 0] S1x32x512.size inb).toLoadRect hl) k) Q) := by
  unfold pR
  iintro Hf Hk
  iapply (wp_load 𝒱₀ (c : Thread nD τ) none Set.univ (m := Memref.whole cc0_scratch3) (S := (rDst 0).view.set) (r0_sub inb)) $$ Hf
  iintro Hf
  iapply Hk
  iexact Hf

/-- A device's store of its own rows in slot 0. -/
theorem st_r0 (c : Dev nD) (f) (off : Fin 2 → ℕ) (inb) (hoff : off = ![32 * c.val, 0]) (inb0) {α : Type} (hx) (hm)
    (k : PUnit → Prog (TpuEff nD τ sig (Elt F) Λ₀ .tc) α) (Q : α → sProp 𝕄) :
    pR 0 c fullShare f ⊢ iprop((pR 0 c fullShare (rAll m c) -∗ wp frame (wpE (defs₀ (F := F)) 𝒱₀ c none) Set.univ (k ⟨⟩) Q)
        -∗ wp frame (wpE (defs₀ (F := F)) 𝒱₀ c none) Set.univ
          (.op (.store (Memref.whole cc0_scratch3) (Rect.unit (s := S8x32x512) ![0, 0, 0] S1x32x512.size inb0)
            (k0_pay29 ((Memref.whole cc0_scratch2).view.readAt (Elt F) (Rect.unit (s := S256x512) off S32x512.size inb).toLoadRect (pAll m c)))
            Finset.univ hx hm) k) Q) := by
  have hS : ((Memref.whole cc0_scratch3).access (Rect.unit (s := S8x32x512) ![0, 0, 0] S1x32x512.size inb0)).setOn Finset.univ ⊆ (rDst 0).view.set := by
    rw [Memref.set_view_squeeze]
    exact (View.setOn_subset_set _ _)
  unfold pR
  iintro Hf Hk
  iapply (wp_store 𝒱₀ (c : Thread nD τ) none Set.univ (m := Memref.whole cc0_scratch3)
    (r := Rect.unit (s := S8x32x512) ![0, 0, 0] S1x32x512.size inb0) (f := f) (S := (rDst 0).view.set) hS) $$ Hf
  iintro Hf
  iapply Hk
  iapply (Entails.of_eq (pointsTo_congr (rs_own m c off inb hoff f inb0))) $$ Hf

/-- The load of all received rows. -/
theorem ld_r (c : Dev nD) (inb) {α : Type} (hl)
    (k : (S8x32x512.Idx → Elt F .bf16) → Prog (TpuEff nD τ sig (Elt F) Λ₀ .tc) α) (Q : α → sProp 𝕄) :
    rW c (rAll m c) ⊢ iprop((rW c (rAll m c) -∗ wp frame (wpE (defs₀ (F := F)) 𝒱₀ c none) Set.univ (k (rAll m c)) Q)
        -∗ wp frame (wpE (defs₀ (F := F)) 𝒱₀ c none) Set.univ
          (.op (.load (Memref.whole cc0_scratch3) (Rect.unit (s := S8x32x512) ![0, 0, 0] S8x32x512.size inb).toLoadRect hl) k) Q) := by
  have e : (Memref.whole cc0_scratch3).view.readAt (Elt F) (Rect.unit (s := S8x32x512) ![0, 0, 0] S8x32x512.size inb).toLoadRect (rAll m c) = rAll m c :=
    readAt_full (Memref.whole cc0_scratch3).view ![0, 0, 0] inb (fun a => by match a with | 0 => rfl | 1 => rfl | 2 => rfl) (rAll m c)
  unfold rW
  iintro Hf Hk
  iapply (wp_load 𝒱₀ (c : Thread nD τ) none Set.univ (m := Memref.whole cc0_scratch3) (Finset.subset_univ _)) $$ Hf
  iintro Hf
  rw [e]
  iapply Hk
  iexact Hf

theorem ld_oOwn (c : Dev nD) (f) (off : Fin 2 → ℕ) (inb) (hoff : off = ![32 * c.val, 0]) {α : Type} (hl)
    (k : (S32x512.Idx → Elt F .bf16) → Prog (TpuEff nD τ sig (Elt F) Λ₀ .tc) α) (Q : α → sProp 𝕄) :
    pO c c fullShare f ⊢ iprop((∀ w, pO c c fullShare f -∗ wp frame (wpE (defs₀ (F := F)) 𝒱₀ c none) Set.univ (k w) Q)
        -∗ wp frame (wpE (defs₀ (F := F)) 𝒱₀ c none) Set.univ
          (.op (.load (Memref.whole cc0_scratch4) (Rect.unit (s := S256x512) off S32x512.size inb).toLoadRect hl) k) Q) := by
  unfold pO
  iintro Hf Hk
  iapply (wp_load 𝒱₀ (c : Thread nD τ) none Set.univ (m := Memref.whole cc0_scratch4) (S := (oSrc c).view.set) (rect_sub4 off inb c hoff _)) $$ Hf
  iintro Hf
  iapply Hk
  iexact Hf

/-- A device's store of its rows of the sum. -/
theorem st_oOwn (c : Dev nD) (f) (off : Fin 2 → ℕ) (inb) (hoff : off = ![32 * c.val, 0]) {α : Type} (hx) (hm)
    (k : PUnit → Prog (TpuEff nD τ sig (Elt F) Λ₀ .tc) α) (Q : α → sProp 𝕄) :
    pO c c fullShare f ⊢ iprop((pO c c fullShare (oAll m) -∗ wp frame (wpE (defs₀ (F := F)) 𝒱₀ c none) Set.univ (k ⟨⟩) Q)
        -∗ wp frame (wpE (defs₀ (F := F)) 𝒱₀ c none) Set.univ
          (.op (.store (Memref.whole cc0_scratch4) (Rect.unit (s := S256x512) off S32x512.size inb)
            (k0_pay31 (k0_pay30 (rAll m c))) Finset.univ hx hm) k) Q) := by
  have hS : ((Memref.whole cc0_scratch4).access (Rect.unit (s := S256x512) off S32x512.size inb)).setOn Finset.univ ⊆ (oSrc c).view.set := by
    subst hoff
    exact (View.setOn_subset_set _ _)
  unfold pO
  iintro Hf Hk
  iapply (wp_store 𝒱₀ (c : Thread nD τ) none Set.univ (m := Memref.whole cc0_scratch4)
    (r := Rect.unit (s := S256x512) off S32x512.size inb) (f := f) (S := (oSrc c).view.set) hS) $$ Hf
  iintro Hf
  iapply Hk
  iapply (Entails.of_eq (pointsTo_congr (ag_own m c off inb hoff f))) $$ Hf

/-- The load of the whole sum. -/
theorem ld_o (c : Dev nD) (q : PosShare TreeShare) (inb) {α : Type} (hl)
    (k : (S256x512.Idx → Elt F .bf16) → Prog (TpuEff nD τ sig (Elt F) Λ₀ .tc) α) (Q : α → sProp 𝕄) :
    oW c q (oAll m) ⊢ iprop((oW c q (oAll m) -∗ wp frame (wpE (defs₀ (F := F)) 𝒱₀ c none) Set.univ (k (oAll m)) Q)
        -∗ wp frame (wpE (defs₀ (F := F)) 𝒱₀ c none) Set.univ
          (.op (.load (Memref.whole cc0_scratch4) (Rect.unit (s := S256x512) ![0, 0] S256x512.size inb).toLoadRect hl) k) Q) := by
  have e : (Memref.whole cc0_scratch4).view.readAt (Elt F) (Rect.unit (s := S256x512) ![0, 0] S256x512.size inb).toLoadRect (oAll m) = oAll m :=
    readAt_full (Memref.whole cc0_scratch4).view ![0, 0] inb (fun a => by match a with | 0 => rfl | 1 => rfl) (oAll m)
  unfold oW
  iintro Hf Hk
  iapply (wp_load 𝒱₀ (c : Thread nD τ) none Set.univ (m := Memref.whole cc0_scratch4) (Finset.subset_univ _)) $$ Hf
  iintro Hf
  rw [e]
  iapply Hk
  iexact Hf

/-! ## Loops of waits -/

theorem wait_step (c : Dev nD) (l : List (GSem nD τ sig × ℕ)) (a b n n' : ℕ) (f : ℕ → ℕ) (hn : n < b) (ha' : a ≤ n) (hn' : n' = n + 1)
    (h4 : 4 ≤ f n) (hk : f n < 54) (hl : live c (f n)) (ha : Abv (lvk (f n)) l)
    {sp sp' : Space} {s s' : Shape} {e e' : EltTy} (sem : DmaSem sig) (hsem : sem = dS (f n))
    (src : Memref sig .tc sp' s' e') (dst : Memref sig .tc sp s e) (hd : dst.view.dmaCredit = amt (f n))
    {α : Type} (h1) (h2)
    (kk : PUnit → Prog (TpuEff nD τ sig (Elt F) Λ₀ .tc) α) (Q : α → sProp 𝕄) :
    iprop(Ctx m K ∗ OW c l ∗ grp a b n (fun i => wT c (f i)) (fun i => wD m c (f i)))
      ⊢ iprop((OW c l ∗ grp a b n' (fun i => wT c (f i)) (fun i => wD m c (f i)) -∗ wp frame (wpE (defs₀ (F := F)) 𝒱₀ c none) Set.univ (kk ⟨⟩) Q)
        -∗ wp frame (wpE (defs₀ (F := F)) 𝒱₀ c none) Set.univ (.op (.waitDma2 sem src dst h1 h2) kk) Q) := by
  subst hn'
  iintro ⟨#HC, HO, Hg⟩ Hk
  ihave Hg := (grp_step hn ha' (fun i => wT c (f i)) (fun i => wD m c (f i))) $$ Hg
  icases Hg with ⟨HT, Hg⟩
  iapply (wait_op m K c l (f n) h4 hk hl ha sem hsem src dst hd h1 h2 kk Q) $$ [HO HT]
  · isplitr; · iexact HC
    isplitl [HO]; · iexact HO
    iexact HT
  iintro ⟨HO, HD⟩
  iapply Hk
  isplitl [HO]; · iexact HO
  iapply Hg
  iexact HD

end Cert.KernelIdeal.Run

end
-- ==== Proof.Ideal.Glue.lean ====
module

public import proofs.«01_k».proof.Proof.Ideal.Mem

@[expose] public section

/-! # Which device each operation names, and where its rows lie -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

theorem off1_eq (c : Dev nD) (r : Fin 7) : k0_off1 c (BitVec.ofNat 32 (r.val + 1)) = ![32 * (dv c (r.val + 1)).val, 0] := by
  revert c r; decide

theorem pSrc_eq (off : Fin 2 → ℕ) (inb) (h) (j : Fin 8) (hoff : off = ![32 * j.val, 0]) :
    (Memref.whole cc0_scratch2).slice (Rect.unit (s := S256x512) off S32x512.size inb) h = pSrc j := by
  subst hoff; rfl

theorem oSrc_eq (off : Fin 2 → ℕ) (inb) (h) (j : Fin 8) (hoff : off = ![32 * j.val, 0]) :
    (Memref.whole cc0_scratch4).slice (Rect.unit (s := S256x512) off S32x512.size inb) h = oSrc j := by
  subst hoff; rfl

theorem dev1_dv (c : Dev nD) : (⟨k0_dev1 c, k0_dev1_lt c⟩ : Dev nD) = dv c 1 := by revert c; decide
theorem dev2_dv (c : Dev nD) : (⟨k0_dev2 c, k0_dev2_lt c⟩ : Dev nD) = dv c 2 := by revert c; decide
theorem dev3_dv (c : Dev nD) : (⟨k0_dev3 c, k0_dev3_lt c⟩ : Dev nD) = dv c 3 := by revert c; decide
theorem dev4_dv (c : Dev nD) : (⟨k0_dev4 c, k0_dev4_lt c⟩ : Dev nD) = dv c 4 := by revert c; decide
theorem dev5_dv (c : Dev nD) : (⟨k0_dev5 c, k0_dev5_lt c⟩ : Dev nD) = dv c 5 := by revert c; decide
theorem dev6_dv (c : Dev nD) : (⟨k0_dev6 c, k0_dev6_lt c⟩ : Dev nD) = dv c 6 := by revert c; decide
theorem dev7_dv (c : Dev nD) : (⟨k0_dev7 c, k0_dev7_lt c⟩ : Dev nD) = dv c 7 := by revert c; decide
theorem dev36_dv (c : Dev nD) : (⟨k0_dev36 c, k0_dev36_lt c⟩ : Dev nD) = dv c 1 := by revert c; decide
theorem dev37_dv (c : Dev nD) : (⟨k0_dev37 c, k0_dev37_lt c⟩ : Dev nD) = dv c 2 := by revert c; decide
theorem dev38_dv (c : Dev nD) : (⟨k0_dev38 c, k0_dev38_lt c⟩ : Dev nD) = dv c 3 := by revert c; decide
theorem dev39_dv (c : Dev nD) : (⟨k0_dev39 c, k0_dev39_lt c⟩ : Dev nD) = dv c 4 := by revert c; decide
theorem dev40_dv (c : Dev nD) : (⟨k0_dev40 c, k0_dev40_lt c⟩ : Dev nD) = dv c 5 := by revert c; decide
theorem dev41_dv (c : Dev nD) : (⟨k0_dev41 c, k0_dev41_lt c⟩ : Dev nD) = dv c 6 := by revert c; decide
theorem dev42_dv (c : Dev nD) : (⟨k0_dev42 c, k0_dev42_lt c⟩ : Dev nD) = dv c 7 := by revert c; decide
theorem dev43_dv (c : Dev nD) : (⟨k0_dev43 c, k0_dev43_lt c⟩ : Dev nD) = dv c 1 := by revert c; decide
theorem dev44_dv (c : Dev nD) : (⟨k0_dev44 c, k0_dev44_lt c⟩ : Dev nD) = dv c 2 := by revert c; decide
theorem dev45_dv (c : Dev nD) : (⟨k0_dev45 c, k0_dev45_lt c⟩ : Dev nD) = dv c 3 := by revert c; decide
theorem dev46_dv (c : Dev nD) : (⟨k0_dev46 c, k0_dev46_lt c⟩ : Dev nD) = dv c 4 := by revert c; decide
theorem dev47_dv (c : Dev nD) : (⟨k0_dev47 c, k0_dev47_lt c⟩ : Dev nD) = dv c 5 := by revert c; decide
theorem dev48_dv (c : Dev nD) : (⟨k0_dev48 c, k0_dev48_lt c⟩ : Dev nD) = dv c 6 := by revert c; decide
theorem dev49_dv (c : Dev nD) : (⟨k0_dev49 c, k0_dev49_lt c⟩ : Dev nD) = dv c 7 := by revert c; decide

/-- The two devices whose keys and values are used. -/
abbrev z0 : Dev nD := ⟨0, by decide⟩
abbrev z1 : Dev nD := ⟨1, by decide⟩

theorem dev8_kd (h) : (⟨k0_dev8, k0_dev8_lt z0 h⟩ : Dev nD) = kd z0 0 := by apply Fin.ext; show k0_dev8 = _; rw [k0_dev8_eq]; rfl
theorem dev9_kd (h) : (⟨k0_dev9, k0_dev9_lt z0 h⟩ : Dev nD) = kd z0 1 := by apply Fin.ext; show k0_dev9 = _; rw [k0_dev9_eq]; rfl
theorem dev10_kd (h) : (⟨k0_dev10, k0_dev10_lt z0 h⟩ : Dev nD) = kd z0 2 := by apply Fin.ext; show k0_dev10 = _; rw [k0_dev10_eq]; rfl
theorem dev11_kd (h) : (⟨k0_dev11, k0_dev11_lt z0 h⟩ : Dev nD) = kd z0 3 := by apply Fin.ext; show k0_dev11 = _; rw [k0_dev11_eq]; rfl
theorem dev12_kd (h) : (⟨k0_dev12, k0_dev12_lt z0 h⟩ : Dev nD) = kd z0 4 := by apply Fin.ext; show k0_dev12 = _; rw [k0_dev12_eq]; rfl
theorem dev13_kd (h) : (⟨k0_dev13, k0_dev13_lt z0 h⟩ : Dev nD) = kd z0 5 := by apply Fin.ext; show k0_dev13 = _; rw [k0_dev13_eq]; rfl
theorem dev14_kd (h) : (⟨k0_dev14, k0_dev14_lt z0 h⟩ : Dev nD) = kd z0 6 := by apply Fin.ext; show k0_dev14 = _; rw [k0_dev14_eq]; rfl
theorem dev15_kd (h) : (⟨k0_dev15, k0_dev15_lt z0 h⟩ : Dev nD) = kd z0 0 := by apply Fin.ext; show k0_dev15 = _; rw [k0_dev15_eq]; rfl
theorem dev16_kd (h) : (⟨k0_dev16, k0_dev16_lt z0 h⟩ : Dev nD) = kd z0 1 := by apply Fin.ext; show k0_dev16 = _; rw [k0_dev16_eq]; rfl
theorem dev17_kd (h) : (⟨k0_dev17, k0_dev17_lt z0 h⟩ : Dev nD) = kd z0 2 := by apply Fin.ext; show k0_dev17 = _; rw [k0_dev17_eq]; rfl
theorem dev18_kd (h) : (⟨k0_dev18, k0_dev18_lt z0 h⟩ : Dev nD) = kd z0 3 := by apply Fin.ext; show k0_dev18 = _; rw [k0_dev18_eq]; rfl
theorem dev19_kd (h) : (⟨k0_dev19, k0_dev19_lt z0 h⟩ : Dev nD) = kd z0 4 := by apply Fin.ext; show k0_dev19 = _; rw [k0_dev19_eq]; rfl
theorem dev20_kd (h) : (⟨k0_dev20, k0_dev20_lt z0 h⟩ : Dev nD) = kd z0 5 := by apply Fin.ext; show k0_dev20 = _; rw [k0_dev20_eq]; rfl
theorem dev21_kd (h) : (⟨k0_dev21, k0_dev21_lt z0 h⟩ : Dev nD) = kd z0 6 := by apply Fin.ext; show k0_dev21 = _; rw [k0_dev21_eq]; rfl
theorem dev22_kd (h) : (⟨k0_dev22, k0_dev22_lt z1 h⟩ : Dev nD) = kd z1 0 := by apply Fin.ext; show k0_dev22 = _; rw [k0_dev22_eq]; rfl
theorem dev23_kd (h) : (⟨k0_dev23, k0_dev23_lt z1 h⟩ : Dev nD) = kd z1 1 := by apply Fin.ext; show k0_dev23 = _; rw [k0_dev23_eq]; rfl
theorem dev24_kd (h) : (⟨k0_dev24, k0_dev24_lt z1 h⟩ : Dev nD) = kd z1 2 := by apply Fin.ext; show k0_dev24 = _; rw [k0_dev24_eq]; rfl
theorem dev25_kd (h) : (⟨k0_dev25, k0_dev25_lt z1 h⟩ : Dev nD) = kd z1 3 := by apply Fin.ext; show k0_dev25 = _; rw [k0_dev25_eq]; rfl
theorem dev26_kd (h) : (⟨k0_dev26, k0_dev26_lt z1 h⟩ : Dev nD) = kd z1 4 := by apply Fin.ext; show k0_dev26 = _; rw [k0_dev26_eq]; rfl
theorem dev27_kd (h) : (⟨k0_dev27, k0_dev27_lt z1 h⟩ : Dev nD) = kd z1 5 := by apply Fin.ext; show k0_dev27 = _; rw [k0_dev27_eq]; rfl
theorem dev28_kd (h) : (⟨k0_dev28, k0_dev28_lt z1 h⟩ : Dev nD) = kd z1 6 := by apply Fin.ext; show k0_dev28 = _; rw [k0_dev28_eq]; rfl
theorem dev29_kd (h) : (⟨k0_dev29, k0_dev29_lt z1 h⟩ : Dev nD) = kd z1 0 := by apply Fin.ext; show k0_dev29 = _; rw [k0_dev29_eq]; rfl
theorem dev30_kd (h) : (⟨k0_dev30, k0_dev30_lt z1 h⟩ : Dev nD) = kd z1 1 := by apply Fin.ext; show k0_dev30 = _; rw [k0_dev30_eq]; rfl
theorem dev31_kd (h) : (⟨k0_dev31, k0_dev31_lt z1 h⟩ : Dev nD) = kd z1 2 := by apply Fin.ext; show k0_dev31 = _; rw [k0_dev31_eq]; rfl
theorem dev32_kd (h) : (⟨k0_dev32, k0_dev32_lt z1 h⟩ : Dev nD) = kd z1 3 := by apply Fin.ext; show k0_dev32 = _; rw [k0_dev32_eq]; rfl
theorem dev33_kd (h) : (⟨k0_dev33, k0_dev33_lt z1 h⟩ : Dev nD) = kd z1 4 := by apply Fin.ext; show k0_dev33 = _; rw [k0_dev33_eq]; rfl
theorem dev34_kd (h) : (⟨k0_dev34, k0_dev34_lt z1 h⟩ : Dev nD) = kd z1 5 := by apply Fin.ext; show k0_dev34 = _; rw [k0_dev34_eq]; rfl
theorem dev35_kd (h) : (⟨k0_dev35, k0_dev35_lt z1 h⟩ : Dev nD) = kd z1 6 := by apply Fin.ext; show k0_dev35 = _; rw [k0_dev35_eq]; rfl

theorem credR {sp : Space} (d : Memref sig .tc sp S32x512 .bf16) : d.view.dmaCredit = NR := rfl
theorem credK {sp : Space} (d : Memref sig .tc sp S2x4x64x128 .bf16) : d.view.dmaCredit = NK := rfl

theorem OW_seven (c d : Dev nD) (t : ℕ) (l : List (GSem nD τ sig × ℕ)) : (OW c (kL d t 7 ++ l) : sProp 𝕄) ⊢ OW c l := by
  rw [kL_seven, List.nil_append]
theorem OW_g7 (c d : Dev nD) (l : List (GSem nD τ sig × ℕ)) : (OW c (gL d 7 ++ l) : sProp 𝕄) ⊢ OW c l := by
  rw [gL_seven, List.nil_append]
theorem OW_r7 (c d : Dev nD) (l : List (GSem nD τ sig × ℕ)) : (OW c (rL d 7 ++ l) : sProp 𝕄) ⊢ OW c l := by
  rw [rL_seven, List.nil_append]
theorem OW_b7 (c d : Dev nD) (l : List (GSem nD τ sig × ℕ)) : (OW c (bL d 7 ++ l) : sProp 𝕄) ⊢ OW c l := by
  rw [bL_seven, List.nil_append]

end Cert.KernelIdeal.Run

end
-- ==== Proof.Ideal.Join.lean ====
module

public import proofs.«01_k».proof.Proof.Ideal.Mem
public import Idealize.ShloMosaic.Lib.Ring

@[expose] public section

/-! # Buffers piece by piece -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-! ## Families over the eight devices -/

theorem bsep {I : Type} (s : Finset I) (Φ Ψ : I → sProp 𝕄) : bigSep s (fun i => iprop(Φ i ∗ Ψ i)) = iprop(bigSep s Φ ∗ bigSep s Ψ) := bigSep_sep s Φ Ψ
theorem bsplit {I : Type} [DecidableEq I] [Fintype I] (i : I) (Φ : I → sProp 𝕄) : bigSep Finset.univ Φ = iprop(Φ i ∗ bigSep (Finset.univ.erase i) Φ) := bigSep_univ_split i
theorem berase {I : Type} [DecidableEq I] {s : Finset I} {i : I} (h : i ∈ s) (Φ : I → sProp 𝕄) : bigSep s Φ = iprop(Φ i ∗ bigSep (s.erase i) Φ) := bigSep_erase h
theorem bmono {I : Type} {s : Finset I} {Φ Ψ : I → sProp 𝕄} (h : ∀ i ∈ s, Φ i ⊢ Ψ i) : bigSep s Φ ⊢ bigSep s Ψ := bigSep_mono h
theorem strans {P Q R : sProp 𝕄} (h : P ⊢ Q) (h' : Q ⊢ R) : P ⊢ R := BI.Entails.trans h h'
theorem sright {P Q Q' : sProp 𝕄} (h : Q ⊢ Q') : P ∗ Q ⊢ P ∗ Q' := by
  iintro ⟨HP, HQ⟩
  isplitl [HP]; · iexact HP
  iapply h; iexact HQ
theorem smono {P P' Q Q' : sProp 𝕄} (h : P ⊢ P') (h' : Q ⊢ Q') : P ∗ Q ⊢ P' ∗ Q' := by
  iintro ⟨HP, HQ⟩
  isplitl [HP]
  · iapply h; iexact HP
  · iapply h'; iexact HQ
theorem bemp {I : Type} (s : Finset I) : bigSep s (fun _ => (iprop(emp) : sProp 𝕄)) = iprop(emp) := bigSep_emp_const s
theorem btwo (Φ : Fin 2 → sProp 𝕄) : bigSep Finset.univ Φ = iprop(Φ 0 ∗ Φ 1) := bigSep_fin_two Φ

theorem erase_eq (a : Fin 8) (e : ℕ → Fin 8) (hi : ∀ i < 7, ∀ j < 7, e i = e j → i = j) (hn : ∀ i < 7, e i ≠ a) :
    Finset.univ.erase a = (Finset.Ico 0 7).image e := by
  symm
  apply Finset.eq_of_subset_of_card_le
  · intro x hx
    obtain ⟨i, hi', rfl⟩ := Finset.mem_image.mp hx
    exact Finset.mem_erase.mpr ⟨hn i (Finset.mem_Ico.mp hi').2, Finset.mem_univ _⟩
  · rw [Finset.card_image_of_injOn (fun i h j h' => hi i (Finset.mem_Ico.mp (Finset.mem_coe.mp h)).2 j (Finset.mem_Ico.mp (Finset.mem_coe.mp h')).2),
      Finset.card_erase_of_mem (Finset.mem_univ _)]
    rfl

theorem bigSep_erase8 (a : Fin 8) (e : ℕ → Fin 8) (hi : ∀ i < 7, ∀ j < 7, e i = e j → i = j) (hn : ∀ i < 7, e i ≠ a) (Φ : Fin 8 → sProp 𝕄) :
    bigSep (Finset.univ.erase a) Φ = bigSep (Finset.Ico 0 7) fun n => Φ (e n) := by
  rw [erase_eq a e hi hn]
  exact Finset.fold_image (fun i h j h' => hi i (Finset.mem_Ico.mp h).2 j (Finset.mem_Ico.mp h').2)

theorem bigSep_eight (a : Fin 8) (e : ℕ → Fin 8) (hi : ∀ i < 7, ∀ j < 7, e i = e j → i = j) (hn : ∀ i < 7, e i ≠ a) (Φ : Fin 8 → sProp 𝕄) :
    bigSep Finset.univ Φ = iprop(Φ a ∗ bigSep (Finset.Ico 0 7) fun n => Φ (e n)) := by
  rw [bigSep_univ_split a, bigSep_erase8 a e hi hn]; rfl

theorem dv_inj (c : Dev nD) : ∀ i < 7, ∀ j < 7, dv c (i + 1) = dv c (j + 1) → i = j := by
  intro i hi j hj h
  have h' : (c.val + (i + 1)) % 8 = (c.val + (j + 1)) % 8 := congrArg Fin.val h
  omega
theorem dv_off (c : Dev nD) : ∀ i < 7, dv c (i + 1) ≠ c := fun i hi h => dv_ne c hi h.symm
theorem dvm_inj (c : Dev nD) : ∀ i < 7, ∀ j < 7, dvm c (i + 1) = dvm c (j + 1) → i = j := by
  intro i hi j hj h
  have h' : (c.val + 8 - (i + 1)) % 8 = (c.val + 8 - (j + 1)) % 8 := congrArg Fin.val h
  have : c.val < 8 := c.isLt
  omega
theorem dvm_off (c : Dev nD) : ∀ i < 7, dvm c (i + 1) ≠ c := by
  intro i hi h
  have h' : (c.val + 8 - (i + 1)) % 8 = c.val := congrArg Fin.val h
  have : c.val < 8 := c.isLt
  omega
theorem kd_val (c : Dev nD) (i : ℕ) : (kd c i).val = if c.val = 0 then (i + 1) % 8 else if i = 0 then 0 else (i + 1) % 8 := by
  unfold kd; split
  · rfl
  · split <;> rfl
theorem kd_inj (c : Dev nD) : ∀ i < 7, ∀ j < 7, kd c i = kd c j → i = j := by
  intro i hi j hj h
  have h' := congrArg Fin.val h
  rw [kd_val, kd_val] at h'
  split at h'
  · omega
  · split at h' <;> split at h' <;> omega
theorem kd_off (c : Dev nD) (hc : c.val < 2) : ∀ i < 7, kd c i ≠ c := fun i hi h => kd_ne c hi hc (congrArg Fin.val h)
/-- The slot a device's signal to `dv c (n + 1)` hands over. -/
def rsl (c : Dev nD) (n : ℕ) : Fin 8 := f8 (c.val + 8 - (dv c (n + 1)).val)
theorem rsl_inj (c : Dev nD) : ∀ i < 7, ∀ j < 7, rsl c i = rsl c j → i = j := by
  intro i hi j hj h
  have h' : (c.val + 8 - (c.val + (i + 1)) % 8) % 8 = (c.val + 8 - (c.val + (j + 1)) % 8) % 8 := congrArg Fin.val h
  have : c.val < 8 := c.isLt
  omega
theorem rsl_off (c : Dev nD) : ∀ i < 7, rsl c i ≠ 0 := by
  intro i hi h
  have h' : (c.val + 8 - (c.val + (i + 1)) % 8) % 8 = 0 := congrArg Fin.val h
  have : c.val < 8 := c.isLt
  omega
theorem f8_inj : ∀ i < 7, ∀ j < 7, f8 (i + 1) = f8 (j + 1) → i = j := by
  intro i hi j hj h
  have h' : (i + 1) % 8 = (j + 1) % 8 := congrArg Fin.val h
  omega
theorem f8_off : ∀ i < 7, f8 (i + 1) ≠ 0 := by
  intro i hi h
  have h' : (i + 1) % 8 = 0 := congrArg Fin.val h
  omega

/-! ## The pieces of each buffer -/

theorem setP (j : Fin 8) : (pSrc j).view.set = (Rect.unit (s := S256x512) ![32 * j.val, 0] S32x512.size (inbP j)).set := View.set_slice_whole _ _
theorem setO (j : Fin 8) : (oSrc j).view.set = (Rect.unit (s := S256x512) ![32 * j.val, 0] S32x512.size (inbP j)).set := View.set_slice_whole _ _
theorem setR (o : Fin 8) : (rDst o).view.set = (Rect.unit (s := S8x32x512) ![o.val, 0, 0] S1x32x512.size (inbR o)).set := by
  rw [Memref.set_view_squeeze]; exact View.set_slice_whole _ _
theorem setD0 (s : Fin 2) : (kDst 0 s).view.set = (Rect.unit (s := S2x2x4x64x128) ![s.val, 0, 0, 0, 0] S1x2x4x64x128.size (inbKD s)).set := by
  rw [Memref.set_view_squeeze]; exact View.set_slice_whole _ _
theorem setD1 (s : Fin 2) : (kDst 1 s).view.set = (Rect.unit (s := S2x2x4x64x128) ![s.val, 0, 0, 0, 0] S1x2x4x64x128.size (inbKD s)).set := by
  rw [Memref.set_view_squeeze]; exact View.set_slice_whole _ _
theorem setS0 (j : Fin 8) : (kSrc 0 j).view.set = (Rect.unit (s := S2x32x64x128) ![0, 4 * j.val, 0, 0] S2x4x64x128.size (inbKS j)).set := View.set_slice_whole _ _
theorem setS1 (j : Fin 8) : (kSrc 1 j).view.set = (Rect.unit (s := S2x32x64x128) ![0, 4 * j.val, 0, 0] S2x4x64x128.size (inbKS j)).set := View.set_slice_whole _ _

theorem rows_disjoint (j j' : Fin 8) (h : j ≠ j') :
    Disjoint (Rect.unit (s := S256x512) ![32 * j.val, 0] S32x512.size (inbP j)).set (Rect.unit (s := S256x512) ![32 * j'.val, 0] S32x512.size (inbP j')).set :=
  lead_disjoint (s := S256x512) (NB := 8) 0 32 (fun j => ![32 * j.val, 0]) S32x512.size inbP (fun _ => rfl) rfl j j' h
theorem rows_cover : Finset.univ.biUnion (fun j : Fin 8 => (Rect.unit (s := S256x512) ![32 * j.val, 0] S32x512.size (inbP j)).set) = Finset.univ :=
  lead_cover (s := S256x512) (NB := 8) 0 32 (fun j => ![32 * j.val, 0]) S32x512.size inbP (fun _ => rfl)
    (fun b a h => by match a with | 0 => exact absurd rfl h | 1 => rfl) rfl (fun a h => by match a with | 0 => exact absurd rfl h | 1 => rfl) rfl
theorem slots_disjoint (j j' : Fin 8) (h : j ≠ j') :
    Disjoint (Rect.unit (s := S8x32x512) ![j.val, 0, 0] S1x32x512.size (inbR j)).set (Rect.unit (s := S8x32x512) ![j'.val, 0, 0] S1x32x512.size (inbR j')).set :=
  lead_disjoint (s := S8x32x512) (NB := 8) 0 1 (fun j => ![j.val, 0, 0]) S1x32x512.size inbR (fun b => (Nat.one_mul b.val).symm) rfl j j' h
theorem slots_cover : Finset.univ.biUnion (fun j : Fin 8 => (Rect.unit (s := S8x32x512) ![j.val, 0, 0] S1x32x512.size (inbR j)).set) = Finset.univ :=
  lead_cover (s := S8x32x512) (NB := 8) 0 1 (fun j => ![j.val, 0, 0]) S1x32x512.size inbR (fun b => (Nat.one_mul b.val).symm)
    (fun b a h => by match a with | 0 => exact absurd rfl h | 1 => rfl | 2 => rfl) rfl (fun a h => by match a with | 0 => exact absurd rfl h | 1 => rfl | 2 => rfl) rfl
theorem half_disjoint (j j' : Fin 2) (h : j ≠ j') :
    Disjoint (Rect.unit (s := S2x2x4x64x128) ![j.val, 0, 0, 0, 0] S1x2x4x64x128.size (inbKD j)).set
      (Rect.unit (s := S2x2x4x64x128) ![j'.val, 0, 0, 0, 0] S1x2x4x64x128.size (inbKD j')).set :=
  lead_disjoint (s := S2x2x4x64x128) (NB := 2) 0 1 (fun j => ![j.val, 0, 0, 0, 0]) S1x2x4x64x128.size inbKD (fun b => (Nat.one_mul b.val).symm) rfl j j' h
theorem half_cover : Finset.univ.biUnion (fun j : Fin 2 => (Rect.unit (s := S2x2x4x64x128) ![j.val, 0, 0, 0, 0] S1x2x4x64x128.size (inbKD j)).set) = Finset.univ :=
  lead_cover (s := S2x2x4x64x128) (NB := 2) 0 1 (fun j => ![j.val, 0, 0, 0, 0]) S1x2x4x64x128.size inbKD (fun b => (Nat.one_mul b.val).symm)
    (fun b a h => by match a with | 0 => exact absurd rfl h | 1 => rfl | 2 => rfl | 3 => rfl | 4 => rfl) rfl
    (fun a h => by match a with | 0 => exact absurd rfl h | 1 => rfl | 2 => rfl | 3 => rfl | 4 => rfl) rfl
theorem heads_disjoint (j j' : Fin 8) (h : j ≠ j') :
    Disjoint (Rect.unit (s := S2x32x64x128) ![0, 4 * j.val, 0, 0] S2x4x64x128.size (inbKS j)).set
      (Rect.unit (s := S2x32x64x128) ![0, 4 * j'.val, 0, 0] S2x4x64x128.size (inbKS j')).set :=
  lead_disjoint (s := S2x32x64x128) (NB := 8) 1 4 (fun j => ![0, 4 * j.val, 0, 0]) S2x4x64x128.size inbKS (fun _ => rfl) rfl j j' h
theorem heads_cover : Finset.univ.biUnion (fun j : Fin 8 => (Rect.unit (s := S2x32x64x128) ![0, 4 * j.val, 0, 0] S2x4x64x128.size (inbKS j)).set) = Finset.univ :=
  lead_cover (s := S2x32x64x128) (NB := 8) 1 4 (fun j => ![0, 4 * j.val, 0, 0]) S2x4x64x128.size inbKS (fun _ => rfl)
    (fun b a h => by match a with | 0 => rfl | 1 => exact absurd rfl h | 2 => rfl | 3 => rfl) rfl
    (fun a h => by match a with | 0 => rfl | 1 => exact absurd rfl h | 2 => rfl | 3 => rfl) rfl

theorem p_blocks (c : Dev nD) (f) : (pW c f : sProp 𝕄) = bigSep Finset.univ fun j => pP j c fullShare f :=
  pointsTo_blocks (ℓ := (Memref.whole cc0_scratch2).view.loc (c : Thread nD τ)) (fun j : Fin 8 => (pSrc j).view.set)
    (fun j j' h => by show Disjoint (pSrc j).view.set (pSrc j').view.set; rw [setP, setP]; exact rows_disjoint j j' h) ((congrArg (Finset.biUnion Finset.univ) (funext fun j => setP j)).trans rows_cover) f
theorem o_blocks (c : Dev nD) (q) (f) : (oW c q f : sProp 𝕄) = bigSep Finset.univ fun j => pO j c q f :=
  pointsTo_blocks (ℓ := (Memref.whole cc0_scratch4).view.loc (c : Thread nD τ)) (fun j : Fin 8 => (oSrc j).view.set)
    (fun j j' h => by show Disjoint (oSrc j).view.set (oSrc j').view.set; rw [setO, setO]; exact rows_disjoint j j' h) ((congrArg (Finset.biUnion Finset.univ) (funext fun j => setO j)).trans rows_cover) f
theorem r_blocks (c : Dev nD) (f) : (rW c f : sProp 𝕄) = bigSep Finset.univ fun j => pR j c fullShare f :=
  pointsTo_blocks (ℓ := (Memref.whole cc0_scratch3).view.loc (c : Thread nD τ)) (fun j : Fin 8 => (rDst j).view.set)
    (fun j j' h => by show Disjoint (rDst j).view.set (rDst j').view.set; rw [setR, setR]; exact slots_disjoint j j' h) ((congrArg (Finset.biUnion Finset.univ) (funext fun j => setR j)).trans slots_cover) f
/-- The buffer of keys or of values, whole. -/
def kvW (t : Fin 2) (c : Dev nD) (f : (kvM t).view.ty.Contents (Elt F)) : sProp 𝕄 := (kvM t).view.loc (c : Thread nD τ) ↦{fullShare} f
/-- A device's own keys or values, whole. -/
def kvSW (t : Fin 2) (c : Dev nD) (f : (kvSM t).view.ty.Contents (Elt F)) : sProp 𝕄 := (kvSM t).view.loc (c : Thread nD τ) ↦{fullShare} f
theorem kv_blocks0 (c : Dev nD) (f) : (kvW 0 c f : sProp 𝕄) = bigSep Finset.univ fun s => pD 0 s c f :=
  pointsTo_blocks (ℓ := (kvM 0).view.loc (c : Thread nD τ)) (fun j : Fin 2 => (kDst 0 j).view.set)
    (fun j j' h => by show Disjoint (kDst 0 j).view.set (kDst 0 j').view.set; rw [setD0, setD0]; exact half_disjoint j j' h) ((congrArg (Finset.biUnion Finset.univ) (funext fun j => setD0 j)).trans half_cover) f
theorem kvS_blocks0 (c : Dev nD) (f) : (kvSW 0 c f : sProp 𝕄) = bigSep Finset.univ fun j => pS 0 j c f :=
  pointsTo_blocks (ℓ := (kvSM 0).view.loc (c : Thread nD τ)) (fun j : Fin 8 => (kSrc 0 j).view.set)
    (fun j j' h => by show Disjoint (kSrc 0 j).view.set (kSrc 0 j').view.set; rw [setS0, setS0]; exact heads_disjoint j j' h) ((congrArg (Finset.biUnion Finset.univ) (funext fun j => setS0 j)).trans heads_cover) f
theorem kv_blocks1 (c : Dev nD) (f) : (kvW 1 c f : sProp 𝕄) = bigSep Finset.univ fun s => pD 1 s c f :=
  pointsTo_blocks (ℓ := (kvM 1).view.loc (c : Thread nD τ)) (fun j : Fin 2 => (kDst 1 j).view.set)
    (fun j j' h => by show Disjoint (kDst 1 j).view.set (kDst 1 j').view.set; rw [setD1, setD1]; exact half_disjoint j j' h) ((congrArg (Finset.biUnion Finset.univ) (funext fun j => setD1 j)).trans half_cover) f
theorem kvS_blocks1 (c : Dev nD) (f) : (kvSW 1 c f : sProp 𝕄) = bigSep Finset.univ fun j => pS 1 j c f :=
  pointsTo_blocks (ℓ := (kvSM 1).view.loc (c : Thread nD τ)) (fun j : Fin 8 => (kSrc 1 j).view.set)
    (fun j j' h => by show Disjoint (kSrc 1 j).view.set (kSrc 1 j').view.set; rw [setS1, setS1]; exact heads_disjoint j j' h) ((congrArg (Finset.biUnion Finset.univ) (funext fun j => setS1 j)).trans heads_cover) f
theorem kv_blocks (t : Fin 2) (c : Dev nD) (f) : (kvW t c f : sProp 𝕄) = bigSep Finset.univ fun s => pD t s c f :=
  match t, f with
  | 0, f => kv_blocks0 c f
  | 1, f => kv_blocks1 c f
theorem kvS_blocks (t : Fin 2) (c : Dev nD) (f) : (kvSW t c f : sProp 𝕄) = bigSep Finset.univ fun j => pS t j c f :=
  match t, f with
  | 0, f => kvS_blocks0 c f
  | 1, f => kvS_blocks1 c f

end Cert.KernelIdeal.Run

end
-- ==== Proof.Ideal.Hand.lean ====
module

public import proofs.«01_k».proof.Proof.Ideal.Glue
public import proofs.«01_k».proof.Proof.Ideal.Join

@[expose] public section

/-! # What is handed over, taken apart and put together -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

theorem kv_join (t : Fin 2) (c : Dev nD) (f) : iprop(pD t 0 c f ∗ pD t 1 c f) ⊢ (kvW t c f : sProp 𝕄) := by
  rw [kv_blocks, btwo]

theorem grp_end {T E : ℕ → sProp 𝕄} : grp 0 7 7 T E ⊢ bigSep (Finset.Ico 0 7) E := by
  unfold grp; iintro ⟨-, H⟩; iexact H
theorem grp_end14 {T E : ℕ → sProp 𝕄} : grp 0 14 14 T E ⊢ bigSep (Finset.Ico 0 14) E := by
  unfold grp; iintro ⟨-, H⟩; iexact H
theorem grp_end_of {T E : ℕ → sProp 𝕄} : bigSep (Finset.Ico 0 7) E ⊢ grp 0 7 7 T E := by
  unfold grp
  rw [Finset.Ico_self, bigSep_empty]
  iintro H
  isplitr; · iempintro
  iexact H
theorem grp_start {a b : ℕ} {T E : ℕ → sProp 𝕄} : bigSep (Finset.Ico a b) T ⊢ grp a b a T E := by
  unfold grp
  rw [Finset.Ico_self, bigSep_empty]
  iintro H
  isplitl [H]; · iexact H
  iempintro

/-- Finished waits: the positions, and what was handed over. -/
theorem wD_split (c : Dev nD) (b n : ℕ) (f : ℕ → ℕ) : bigSep (Finset.Ico b n) (fun i => wD m c (f i))
    = iprop(bigSep (Finset.Ico b n) (fun i => atPos ER (cl c (f i)) 1 ∅ 0) ∗ bigSep (Finset.Ico b n) (fun i => cellPay m c (f i))) := by
  unfold wD; exact bsep _ _ _

theorem r_in (c : Dev nD) (T : ℕ → sProp 𝕄) : iprop(pR 0 c fullShare (rAll m c) ∗ grp 0 7 7 T (fun i => wD m c (32 + i)))
    ⊢ iprop(rW c (rAll m c) ∗ bigSep (Finset.Ico 0 7) fun i => atPos ER (cl c (32 + i)) 1 ∅ 0) := by
  refine strans (sright grp_end) ?_
  rw [wD_split, r_blocks, bigSep_eight 0 (fun n => f8 (n + 1)) f8_inj f8_off]
  iintro ⟨H0, Hp, Hc⟩
  isplitr [Hp]
  · isplitl [H0]; · iexact H0
    iapply (Entails.of_eq (bigSep_congr fun i hi => ?_)) $$ Hc
    have hi' := (Finset.mem_Ico.mp hi).2
    rw [show 32 + i = 31 + (i + 1) by omega, cellPay_rR m c (by omega)]
  iexact Hp

theorem range_Ico : Finset.range 7 = Finset.Ico 0 7 := by decide

theorem o_toks (c : Dev nD) (j : Fin 8) (f) : (pO j c fullShare f : sProp 𝕄) ⊣⊢ iprop(pO j c (Transfers.shareDrop fullShare 7) f
    ∗ bigSep (Finset.Ico 0 7) fun n => pO j c (Transfers.shareTokN fullShare n) f) := by
  rw [← range_Ico]; exact Transfers.pointsTo_toks_range fullShare 7

theorem gT_eq (c : Dev nD) : bigSep (Finset.Ico 0 7) (gT m c) ⊣⊢ iprop(bigSep (Finset.Ico 0 7) (fun n => pO c c (Transfers.shareTokN fullShare n) (oAll m))
    ∗ bigSep (Finset.Ico 0 7) fun n => iprop(dutyTok ER (cl c (39 + n)) 0 0 ∗ dutyTok ER (cl (dv c (n + 1)) (47 + n)) 0 0 ∗ ∃ f, pO c (dv c (n + 1)) fullShare f)) := by
  rw [← bsep]
  constructor
  · refine bmono fun n _ => ?_
    unfold gT
    iintro ⟨H1, H2, H3, H4⟩
    isplitl [H3]; · iexact H3
    isplitl [H1]; · iexact H1
    isplitl [H2]; · iexact H2
    iexact H4
  · refine bmono fun n _ => ?_
    unfold gT
    iintro ⟨H3, H1, H2, H4⟩
    isplitl [H1]; · iexact H1
    isplitl [H2]; · iexact H2
    isplitl [H3]; · iexact H3
    iexact H4

theorem o_cut (c : Dev nD) : iprop(pO c c fullShare (oAll m)
    ∗ bigSep (Finset.Ico 0 7) fun n => iprop(dutyTok ER (cl c (39 + n)) 0 0 ∗ dutyTok ER (cl (dv c (n + 1)) (47 + n)) 0 0 ∗ ∃ f, pO c (dv c (n + 1)) fullShare f))
    ⊢ iprop(pO c c (Transfers.shareDrop fullShare 7) (oAll m) ∗ grp 0 7 0 (gT m c) (gD c)) := by
  iintro ⟨H, Hg⟩
  ihave H := (o_toks c c (oAll m)).1 $$ H
  icases H with ⟨H, Ht⟩
  isplitl [H]; · iexact H
  iapply grp_start
  iapply (gT_eq m c).2
  isplitl [Ht]; · iexact Ht
  iexact Hg

/-- The rows of all other devices. -/
def oOth (c : Dev nD) (q : PosShare TreeShare) : sProp 𝕄 := bigSep (Finset.Ico 0 7) fun i => pO (dvm c (i + 1)) c q (oAll m)

theorem o_whole (c : Dev nD) (q : PosShare TreeShare) : (oW c q (oAll m) : sProp 𝕄) = iprop(pO c c q (oAll m) ∗ oOth m c q) := by
  rw [o_blocks, bigSep_eight c (fun n => dvm c (n + 1)) (dvm_inj c) (dvm_off c)]; rfl

theorem o_arr (c : Dev nD) (T : ℕ → sProp 𝕄) : grp 0 7 7 T (fun i => wD m c (47 + i))
    ⊣⊢ iprop(bigSep (Finset.Ico 0 7) (fun i => atPos ER (cl c (47 + i)) 1 ∅ 0) ∗ oOth m c fullShare) := by
  have e : bigSep (Finset.Ico 0 7) (fun i => cellPay m c (47 + i)) = oOth m c fullShare := by
    refine bigSep_congr fun i _ => ?_
    rw [show 47 + i = 46 + (i + 1) by omega, cellPay_gR]
  constructor
  · refine grp_end.trans ?_
    rw [wD_split, e]
  · rw [← e, ← wD_split]
    exact grp_end_of

theorem oOth_toks (c : Dev nD) : oOth m c fullShare ⊣⊢ iprop(oOth m c (Transfers.shareDrop fullShare 7)
    ∗ bigSep (Finset.Ico 0 7) fun i => bigSep (Finset.Ico 0 7) fun n => pO (dvm c (i + 1)) c (Transfers.shareTokN fullShare n) (oAll m)) := by
  unfold oOth
  rw [← bsep]
  exact ⟨bmono fun i _ => (o_toks c _ _).1, bmono fun i _ => (o_toks c _ _).2⟩

theorem o_open (c : Dev nD) (T : ℕ → sProp 𝕄) : iprop(pO c c (Transfers.shareDrop fullShare 7) (oAll m) ∗ grp 0 7 7 T (fun i => wD m c (47 + i)))
      ⊢ iprop(oW c (Transfers.shareDrop fullShare 7) (oAll m) ∗ (oW c (Transfers.shareDrop fullShare 7) (oAll m)
        -∗ pO c c (Transfers.shareDrop fullShare 7) (oAll m) ∗ grp 0 7 7 T (fun i => wD m c (47 + i)))) := by
  rw [o_whole]
  iintro ⟨H, Hg⟩
  ihave Hg := (o_arr m c T).1 $$ Hg
  icases Hg with ⟨Hp, Ho⟩
  ihave Ho := (oOth_toks m c).1 $$ Ho
  icases Ho with ⟨Ho, Ht⟩
  isplitl [H Ho]
  · isplitl [H]; · iexact H
    iexact Ho
  iintro ⟨H, Ho⟩
  isplitl [H]; · iexact H
  iapply (o_arr m c T).2
  isplitl [Hp]; · iexact Hp
  iapply (oOth_toks m c).2
  isplitl [Ho]; · iexact Ho
  iexact Ht

/-- At the end the sum is whole again. -/
theorem o_close (c : Dev nD) (T T' : ℕ → sProp 𝕄) : iprop(pO c c (Transfers.shareDrop fullShare 7) (oAll m)
      ∗ grp 0 7 7 T (fun i => wD m c (47 + i)) ∗ grp 0 7 7 T' (fun i => wD m c (39 + i)))
    ⊢ iprop(oW c fullShare (oAll m) ∗ bigSep (Finset.Ico 0 7) (fun i => atPos ER (cl c (47 + i)) 1 ∅ 0)
      ∗ bigSep (Finset.Ico 0 7) (fun i => atPos ER (cl c (39 + i)) 1 ∅ 0)) := by
  have e : bigSep (Finset.Ico 0 7) (fun i => cellPay m c (39 + i)) = bigSep (Finset.Ico 0 7) fun n => pO c c (Transfers.shareTokN fullShare n) (oAll m) :=
    bigSep_congr fun i hi => cellPay_gS m c (Finset.mem_Ico.mp hi).2
  refine strans (sright (smono (o_arr m c T).1 grp_end)) ?_
  rw [wD_split, e, o_whole]
  iintro ⟨H, ⟨Hp, Ho⟩, Hq, Ht⟩
  isplitl [H Ht Ho]
  · isplitl [H Ht]
    · iapply (o_toks c c _).2
      isplitl [H]; · iexact H
      iexact Ht
    iexact Ho
  isplitl [Hp]; · iexact Hp
  iexact Hq

theorem p_cut (c : Dev nD) (f) : (pW c f : sProp 𝕄) = iprop(pP c c fullShare f ∗ bigSep (Finset.Ico 0 7) fun n => pP (dv c (n + 1)) c fullShare f) := by
  rw [p_blocks, bigSep_eight c (fun n => dv c (n + 1)) (dv_inj c) (dv_off c)]

/-- At the end the partial product is whole again. -/
theorem p_close (c : Dev nD) (T : ℕ → sProp 𝕄) : iprop(pP c c fullShare (pAll m c) ∗ grp 0 7 7 T (fun i => wD m c (24 + i)))
    ⊢ iprop(pW c (pAll m c) ∗ bigSep (Finset.Ico 0 7) (fun i => atPos ER (cl c (24 + i)) 1 ∅ 0)) := by
  refine strans (sright grp_end) ?_
  rw [wD_split, p_cut]
  iintro ⟨H, Hp, Hc⟩
  isplitr [Hp]
  · isplitl [H]; · iexact H
    iapply (Entails.of_eq (bigSep_congr fun i hi => ?_)) $$ Hc
    exact cellPay_rS m c (Finset.mem_Ico.mp hi).2
  iexact Hp

/-! ## What the barrier hands over -/

def rP (c : Dev nD) (n : ℕ) : sProp 𝕄 := iprop(∃ f, pR (f8 (n + 1)) (dv c (n + 1)) fullShare f)
def gP (c : Dev nD) (n : ℕ) : sProp 𝕄 := iprop(∃ f, pO c (dv c (n + 1)) fullShare f)
def kP (c : Dev nD) (t : Fin 2) (n : ℕ) : sProp 𝕄 := iprop(∃ f, pD t (f2 c.val) (kd c n) f)

theorem f8_dv (c : Dev nD) {n : ℕ} (h : n < 7) : f8 ((dv c (n + 1)).val + 8 - c.val) = f8 (n + 1) := by
  apply Fin.ext
  show ((c.val + (n + 1)) % 8 + 8 - c.val) % 8 = (n + 1) % 8
  have : c.val < 8 := c.isLt
  omega

theorem bar_open (c : Dev nD) : iprop(rch c ∗ bigSep (Finset.univ.erase c) (fun d => barPay (F := F) c d))
    ⊢ iprop(RA ∗ bigSep (Finset.Ico 0 7) (rP c) ∗ bigSep (Finset.Ico 0 7) (gP c) ∗ bigSep (Finset.univ.erase c) (fun d => barKV c d)) := by
  have e1 : bigSep (Finset.univ.erase c) (fun d : Dev nD => iprop(∃ f, pR (F := F) (f8 (d.val + 8 - c.val)) d fullShare f)) = bigSep (Finset.Ico 0 7) (rP c) := by
    rw [bigSep_erase8 c (fun n => dv c (n + 1)) (dv_inj c) (dv_off c)]
    refine bigSep_congr fun n hn => ?_
    show iprop(∃ f, pR (f8 ((dv c (n + 1)).val + 8 - c.val)) (dv c (n + 1)) fullShare f) = _
    rw [f8_dv c (Finset.mem_Ico.mp hn).2]; rfl
  have e2 : bigSep (Finset.univ.erase c) (fun d : Dev nD => iprop(∃ f, pO (F := F) c d fullShare f)) = bigSep (Finset.Ico 0 7) (gP c) :=
    bigSep_erase8 c (fun n => dv c (n + 1)) (dv_inj c) (dv_off c) _
  unfold barPay RA
  rw [bsep, bsep, bsep, e1, e2, bsplit c (fun d => rch d)]
  iintro ⟨H0, H1, H2, H3, H4⟩
  isplitl [H0 H4]
  · isplitl [H0]; · iexact H0
    iexact H4
  isplitl [H1]; · iexact H1
  isplitl [H2]; · iexact H2
  iexact H3

theorem kv_open (c : Dev nD) (hc : c.val < 2) : bigSep (Finset.univ.erase c) (fun d => barKV (F := F) c d)
    ⊢ iprop(bigSep (Finset.Ico 0 7) (kP c 0) ∗ bigSep (Finset.Ico 0 7) (kP c 1)) := by
  rw [bigSep_erase8 c (fun n => kd c n) (kd_inj c) (kd_off c hc), ← bsep]
  refine bmono fun n _ => ?_
  unfold barKV kP
  rw [if_pos hc]

theorem barKV_ge (c d : Dev nD) (hc : ¬c.val < 2) : barKV (F := F) c d = iprop(emp) := by unfold barKV; rw [if_neg hc]

theorem barKV_all (d : Dev nD) : iprop(barKV z0 d ∗ barKV z1 d) ⊢ (bigSep Finset.univ fun c => barKV (F := F) c d : sProp 𝕄) := by
  rw [bsplit z0, berase (i := z1) (by decide)]
  have e : bigSep ((Finset.univ.erase z0).erase z1) (fun c => barKV (F := F) c d) = iprop(emp) := by
    rw [bigSep_congr (Ψ := fun _ => iprop(emp)) (fun c hc => barKV_ge c d ?_), bemp]
    revert c; decide
  rw [e]
  iintro ⟨H0, H1⟩
  isplitl [H0]; · iexact H0
  isplitl [H1]; · iexact H1
  iempintro

/-- A device's buffers of keys and values, as it hands them to the two sources. -/
theorem kv_give (c : Dev nD) (f : (kvM 0).view.ty.Contents (Elt F)) (g : (kvM 1).view.ty.Contents (Elt F)) :
    iprop(kvW 0 c f ∗ kvW 1 c g) ⊢ (iprop(barKV c c ∗ bigSep (Finset.Ico 0 7) fun n => barKV (dv c (n + 1)) c) : sProp 𝕄) := by
  have e := bigSep_eight (F := F) c (fun n => dv c (n + 1)) (dv_inj c) (dv_off c) (fun d => barKV d c)
  rw [← e]
  refine strans ?_ (barKV_all c)
  rw [kv_blocks, kv_blocks, btwo, btwo]
  unfold barKV
  rw [if_pos (by decide), if_pos (by decide)]
  iintro ⟨⟨H0, H1⟩, H2, H3⟩
  isplitl [H0 H2]
  · isplitl [H0]; · iexists f; iexact H0
    iexists g; iexact H2
  · isplitl [H1]; · iexists f; iexact H1
    iexists g; iexact H3

theorem r_give (c : Dev nD) (f) : (rW c f : sProp 𝕄)
    ⊢ iprop(pR 0 c fullShare f ∗ bigSep (Finset.Ico 0 7) fun n => iprop(∃ f, pR (f8 (c.val + 8 - (dv c (n + 1)).val)) c fullShare f)) := by
  rw [r_blocks, bigSep_eight 0 (rsl c) (rsl_inj c) (rsl_off c)]
  refine sright (bmono fun n _ => ?_)
  iintro H; iexists f; iexact H

theorem o_give (c : Dev nD) (f) : (oW c fullShare f : sProp 𝕄)
    ⊢ iprop(pO c c fullShare f ∗ bigSep (Finset.Ico 0 7) fun n => iprop(∃ f, pO (dv c (n + 1)) c fullShare f)) := by
  rw [o_blocks, bigSep_eight c (fun n => dv c (n + 1)) (dv_inj c) (dv_off c)]
  refine sright (bmono fun n _ => ?_)
  iintro H; iexists f; iexact H

/-- A source's own keys or values: its own heads, and every other device's in sending order. -/
theorem kvS_cut (t : Fin 2) (c : Dev nD) (hc : c.val < 2) (f) : (kvSW t c f : sProp 𝕄)
    = iprop(pS t c c f ∗ bigSep (Finset.Ico 0 7) fun n => pS t (kd c n) c f) := by
  rw [kvS_blocks, bigSep_eight c (fun n => kd c n) (kd_inj c) (kd_off c hc)]

end Cert.KernelIdeal.Run

end
-- ==== Proof.Ideal.PK.lean ====
module

public import proofs.«01_k».proof.Proof.Ideal.Glue

@[expose] public section

/-! # A source sends its keys and values, and waits until they have been read -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

theorem p1 (l : List (GSem nD τ sig × ℕ)) (h) (Q : _ → sProp 𝕄) :
    iprop(Ctx m K ∗ RA ∗ OW z0 (kL z0 ((0 : Fin 2).val) 0 ++ (kL z0 ((1 : Fin 2).val) 0 ++ l)) ∗ grp 0 7 0 (kT m z0 0) (kD z0 0))
      ⊢ iprop((∀ v, OW z0 (kL z0 ((0 : Fin 2).val) 2 ++ (kL z0 ((1 : Fin 2).val) 0 ++ l)) ∗ grp 0 7 2 (kT m z0 0) (kD z0 0) -∗ Q v)
        -∗ wp frame (wpE (defs₀ (F := F)) 𝒱₀ z0 none) Set.univ (k0_part1 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z0 h) Q) := by
  rw [k0_part1_eq_skeleton]
  unfold k0_part1_skel
  simp only [Prog.lift, Prog.bind_op, Prog.bind_ret, Prog.pure_eq_ret, semSignalWord, semWaitWord, wp_deviceId]
  iintro ⟨#HC, #HR, HO, H0⟩ Hk
  iapply (kv_send m K z0 (by decide) 0 (kL z0 ((1 : Fin 2).val) 0 ++ l) 0 1 (by decide) rfl _ (dev8_kd h) _ rfl _ rfl _ _ rfl rfl _ _ _ _ _) $$ [HO H0]
  · isplitr; · iexact HC
    isplitr; · iexact HR
    isplitl [HO]; · iexact HO
    iexact H0
  iintro ⟨HO, H0⟩
  iapply (kv_send m K z0 (by decide) 0 (kL z0 ((1 : Fin 2).val) 0 ++ l) 1 2 (by decide) rfl _ (dev9_kd h) _ rfl _ rfl _ _ rfl rfl _ _ _ _ _) $$ [HO H0]
  · isplitr; · iexact HC
    isplitr; · iexact HR
    isplitl [HO]; · iexact HO
    iexact H0
  iintro ⟨HO, H0⟩
  rw [wp_ret]; imodintro
  iapply Hk
  isplitl [HO]; · iexact HO
  iexact H0

theorem p2 (l : List (GSem nD τ sig × ℕ)) (h) (v) (Q : _ → sProp 𝕄) :
    iprop(Ctx m K ∗ RA ∗ OW z0 (kL z0 ((0 : Fin 2).val) 2 ++ (kL z0 ((1 : Fin 2).val) 0 ++ l)) ∗ grp 0 7 2 (kT m z0 0) (kD z0 0))
      ⊢ iprop((∀ v, OW z0 (kL z0 ((0 : Fin 2).val) 4 ++ (kL z0 ((1 : Fin 2).val) 0 ++ l)) ∗ grp 0 7 4 (kT m z0 0) (kD z0 0) -∗ Q v)
        -∗ wp frame (wpE (defs₀ (F := F)) 𝒱₀ z0 none) Set.univ (k0_part2 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z0 h v) Q) := by
  rw [k0_part2_eq_skeleton]
  unfold k0_part2_skel
  simp only [Prog.lift, Prog.bind_op, Prog.bind_ret, Prog.pure_eq_ret, semSignalWord, semWaitWord, wp_deviceId]
  iintro ⟨#HC, #HR, HO, H0⟩ Hk
  iapply (kv_send m K z0 (by decide) 0 (kL z0 ((1 : Fin 2).val) 0 ++ l) 2 3 (by decide) rfl _ (dev10_kd h) _ rfl _ rfl _ _ rfl rfl _ _ _ _ _) $$ [HO H0]
  · isplitr; · iexact HC
    isplitr; · iexact HR
    isplitl [HO]; · iexact HO
    iexact H0
  iintro ⟨HO, H0⟩
  iapply (kv_send m K z0 (by decide) 0 (kL z0 ((1 : Fin 2).val) 0 ++ l) 3 4 (by decide) rfl _ (dev11_kd h) _ rfl _ rfl _ _ rfl rfl _ _ _ _ _) $$ [HO H0]
  · isplitr; · iexact HC
    isplitr; · iexact HR
    isplitl [HO]; · iexact HO
    iexact H0
  iintro ⟨HO, H0⟩
  rw [wp_ret]; imodintro
  iapply Hk
  isplitl [HO]; · iexact HO
  iexact H0

theorem p3 (l : List (GSem nD τ sig × ℕ)) (h) (Q : _ → sProp 𝕄) :
    iprop(Ctx m K ∗ RA ∗ OW z0 (kL z0 ((0 : Fin 2).val) 4 ++ (kL z0 ((1 : Fin 2).val) 0 ++ l)) ∗ grp 0 7 4 (kT m z0 0) (kD z0 0))
      ⊢ iprop((∀ v, OW z0 (kL z0 ((0 : Fin 2).val) 6 ++ (kL z0 ((1 : Fin 2).val) 0 ++ l)) ∗ grp 0 7 6 (kT m z0 0) (kD z0 0) -∗ Q v)
        -∗ wp frame (wpE (defs₀ (F := F)) 𝒱₀ z0 none) Set.univ (k0_part3 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z0 h) Q) := by
  rw [k0_part3_eq_skeleton]
  unfold k0_part3_skel
  simp only [Prog.lift, Prog.bind_op, Prog.bind_ret, Prog.pure_eq_ret, semSignalWord, semWaitWord, wp_deviceId]
  iintro ⟨#HC, #HR, HO, H0⟩ Hk
  iapply (kv_send m K z0 (by decide) 0 (kL z0 ((1 : Fin 2).val) 0 ++ l) 4 5 (by decide) rfl _ (dev12_kd h) _ rfl _ rfl _ _ rfl rfl _ _ _ _ _) $$ [HO H0]
  · isplitr; · iexact HC
    isplitr; · iexact HR
    isplitl [HO]; · iexact HO
    iexact H0
  iintro ⟨HO, H0⟩
  iapply (kv_send m K z0 (by decide) 0 (kL z0 ((1 : Fin 2).val) 0 ++ l) 5 6 (by decide) rfl _ (dev13_kd h) _ rfl _ rfl _ _ rfl rfl _ _ _ _ _) $$ [HO H0]
  · isplitr; · iexact HC
    isplitr; · iexact HR
    isplitl [HO]; · iexact HO
    iexact H0
  iintro ⟨HO, H0⟩
  rw [wp_ret]; imodintro
  iapply Hk
  isplitl [HO]; · iexact HO
  iexact H0

theorem p4 (l : List (GSem nD τ sig × ℕ)) (h) (Q : _ → sProp 𝕄) :
    iprop(Ctx m K ∗ RA ∗ OW z0 (kL z0 ((0 : Fin 2).val) 6 ++ (kL z0 ((1 : Fin 2).val) 0 ++ l)) ∗ grp 0 7 6 (kT m z0 0) (kD z0 0) ∗ grp 0 7 0 (kT m z0 1) (kD z0 1) ∗ lT m z0 0)
      ⊢ iprop((∀ v, OW z0 (kL z0 ((1 : Fin 2).val) 1 ++ (l)) ∗ grp 0 7 7 (kT m z0 0) (kD z0 0) ∗ grp 0 7 1 (kT m z0 1) (kD z0 1) ∗ crd z0 22 -∗ Q v)
        -∗ wp frame (wpE (defs₀ (F := F)) 𝒱₀ z0 none) Set.univ (k0_part4 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z0 h) Q) := by
  rw [k0_part4_eq_skeleton]
  unfold k0_part4_skel
  simp only [Prog.lift, Prog.bind_op, Prog.bind_ret, Prog.pure_eq_ret, semSignalWord, semWaitWord, wp_deviceId]
  iintro ⟨#HC, #HR, HO, H0, H1, HL⟩ Hk
  iapply (kv_send m K z0 (by decide) 0 (kL z0 ((1 : Fin 2).val) 0 ++ l) 6 7 (by decide) rfl _ (dev14_kd h) _ rfl _ rfl _ _ rfl rfl _ _ _ _ _) $$ [HO H0]
  · isplitr; · iexact HC
    isplitr; · iexact HR
    isplitl [HO]; · iexact HO
    iexact H0
  iintro ⟨HO, H0⟩
  ihave HO := (OW_seven z0 z0 ((0 : Fin 2).val) (kL z0 ((1 : Fin 2).val) 0 ++ l)) $$ HO
  iapply (kv_local m K z0 (by decide) 0 _ rfl _ rfl _ rfl _ _ _ _ _) $$ [HL]
  · isplitr; · iexact HC
    isplitr; · iexact HR
    iexact HL
  iintro HL
  iapply (kv_send m K z0 (by decide) 1 (l) 0 1 (by decide) rfl _ (dev15_kd h) _ rfl _ rfl _ _ rfl rfl _ _ _ _ _) $$ [HO H1]
  · isplitr; · iexact HC
    isplitr; · iexact HR
    isplitl [HO]; · iexact HO
    iexact H1
  iintro ⟨HO, H1⟩
  rw [wp_ret]; imodintro
  iapply Hk
  isplitl [HO]; · iexact HO
  isplitl [H0]; · iexact H0
  isplitl [H1]; · iexact H1
  iexact HL

theorem p5 (l : List (GSem nD τ sig × ℕ)) (h) (Q : _ → sProp 𝕄) :
    iprop(Ctx m K ∗ RA ∗ OW z0 (kL z0 ((1 : Fin 2).val) 1 ++ l) ∗ grp 0 7 1 (kT m z0 1) (kD z0 1))
      ⊢ iprop((∀ v, OW z0 (kL z0 ((1 : Fin 2).val) 3 ++ (l)) ∗ grp 0 7 3 (kT m z0 1) (kD z0 1) -∗ Q v)
        -∗ wp frame (wpE (defs₀ (F := F)) 𝒱₀ z0 none) Set.univ (k0_part5 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z0 h) Q) := by
  rw [k0_part5_eq_skeleton]
  unfold k0_part5_skel
  simp only [Prog.lift, Prog.bind_op, Prog.bind_ret, Prog.pure_eq_ret, semSignalWord, semWaitWord, wp_deviceId]
  iintro ⟨#HC, #HR, HO, H1⟩ Hk
  iapply (kv_send m K z0 (by decide) 1 (l) 1 2 (by decide) rfl _ (dev16_kd h) _ rfl _ rfl _ _ rfl rfl _ _ _ _ _) $$ [HO H1]
  · isplitr; · iexact HC
    isplitr; · iexact HR
    isplitl [HO]; · iexact HO
    iexact H1
  iintro ⟨HO, H1⟩
  iapply (kv_send m K z0 (by decide) 1 (l) 2 3 (by decide) rfl _ (dev17_kd h) _ rfl _ rfl _ _ rfl rfl _ _ _ _ _) $$ [HO H1]
  · isplitr; · iexact HC
    isplitr; · iexact HR
    isplitl [HO]; · iexact HO
    iexact H1
  iintro ⟨HO, H1⟩
  rw [wp_ret]; imodintro
  iapply Hk
  isplitl [HO]; · iexact HO
  iexact H1

theorem p6 (l : List (GSem nD τ sig × ℕ)) (h) (Q : _ → sProp 𝕄) :
    iprop(Ctx m K ∗ RA ∗ OW z0 (kL z0 ((1 : Fin 2).val) 3 ++ l) ∗ grp 0 7 3 (kT m z0 1) (kD z0 1))
      ⊢ iprop((∀ v, OW z0 (kL z0 ((1 : Fin 2).val) 6 ++ (l)) ∗ grp 0 7 6 (kT m z0 1) (kD z0 1) -∗ Q v)
        -∗ wp frame (wpE (defs₀ (F := F)) 𝒱₀ z0 none) Set.univ (k0_part6 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z0 h) Q) := by
  rw [k0_part6_eq_skeleton]
  unfold k0_part6_skel
  simp only [Prog.lift, Prog.bind_op, Prog.bind_ret, Prog.pure_eq_ret, semSignalWord, semWaitWord, wp_deviceId]
  iintro ⟨#HC, #HR, HO, H1⟩ Hk
  iapply (kv_send m K z0 (by decide) 1 (l) 3 4 (by decide) rfl _ (dev18_kd h) _ rfl _ rfl _ _ rfl rfl _ _ _ _ _) $$ [HO H1]
  · isplitr; · iexact HC
    isplitr; · iexact HR
    isplitl [HO]; · iexact HO
    iexact H1
  iintro ⟨HO, H1⟩
  iapply (kv_send m K z0 (by decide) 1 (l) 4 5 (by decide) rfl _ (dev19_kd h) _ rfl _ rfl _ _ rfl rfl _ _ _ _ _) $$ [HO H1]
  · isplitr; · iexact HC
    isplitr; · iexact HR
    isplitl [HO]; · iexact HO
    iexact H1
  iintro ⟨HO, H1⟩
  iapply (kv_send m K z0 (by decide) 1 (l) 5 6 (by decide) rfl _ (dev20_kd h) _ rfl _ rfl _ _ rfl rfl _ _ _ _ _) $$ [HO H1]
  · isplitr; · iexact HC
    isplitr; · iexact HR
    isplitl [HO]; · iexact HO
    iexact H1
  iintro ⟨HO, H1⟩
  rw [wp_ret]; imodintro
  iapply Hk
  isplitl [HO]; · iexact HO
  iexact H1

theorem p7 (l : List (GSem nD τ sig × ℕ)) (h) (Q : _ → sProp 𝕄) :
    iprop(Ctx m K ∗ RA ∗ OW z1 (kL z1 ((0 : Fin 2).val) 0 ++ (kL z1 ((1 : Fin 2).val) 0 ++ l)) ∗ grp 0 7 0 (kT m z1 0) (kD z1 0))
      ⊢ iprop((∀ v, OW z1 (kL z1 ((0 : Fin 2).val) 2 ++ (kL z1 ((1 : Fin 2).val) 0 ++ l)) ∗ grp 0 7 2 (kT m z1 0) (kD z1 0) -∗ Q v)
        -∗ wp frame (wpE (defs₀ (F := F)) 𝒱₀ z1 none) Set.univ (k0_part7 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z1 h) Q) := by
  rw [k0_part7_eq_skeleton]
  unfold k0_part7_skel
  simp only [Prog.lift, Prog.bind_op, Prog.bind_ret, Prog.pure_eq_ret, semSignalWord, semWaitWord, wp_deviceId]
  iintro ⟨#HC, #HR, HO, H0⟩ Hk
  iapply (kv_send m K z1 (by decide) 0 (kL z1 ((1 : Fin 2).val) 0 ++ l) 0 1 (by decide) rfl _ (dev22_kd h) _ rfl _ rfl _ _ rfl rfl _ _ _ _ _) $$ [HO H0]
  · isplitr; · iexact HC
    isplitr; · iexact HR
    isplitl [HO]; · iexact HO
    iexact H0
  iintro ⟨HO, H0⟩
  iapply (kv_send m K z1 (by decide) 0 (kL z1 ((1 : Fin 2).val) 0 ++ l) 1 2 (by decide) rfl _ (dev23_kd h) _ rfl _ rfl _ _ rfl rfl _ _ _ _ _) $$ [HO H0]
  · isplitr; · iexact HC
    isplitr; · iexact HR
    isplitl [HO]; · iexact HO
    iexact H0
  iintro ⟨HO, H0⟩
  rw [wp_ret]; imodintro
  iapply Hk
  isplitl [HO]; · iexact HO
  iexact H0

theorem p8 (l : List (GSem nD τ sig × ℕ)) (h) (v) (Q : _ → sProp 𝕄) :
    iprop(Ctx m K ∗ RA ∗ OW z1 (kL z1 ((0 : Fin 2).val) 2 ++ (kL z1 ((1 : Fin 2).val) 0 ++ l)) ∗ grp 0 7 2 (kT m z1 0) (kD z1 0))
      ⊢ iprop((∀ v, OW z1 (kL z1 ((0 : Fin 2).val) 4 ++ (kL z1 ((1 : Fin 2).val) 0 ++ l)) ∗ grp 0 7 4 (kT m z1 0) (kD z1 0) -∗ Q v)
        -∗ wp frame (wpE (defs₀ (F := F)) 𝒱₀ z1 none) Set.univ (k0_part8 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z1 h v) Q) := by
  rw [k0_part8_eq_skeleton]
  unfold k0_part8_skel
  simp only [Prog.lift, Prog.bind_op, Prog.bind_ret, Prog.pure_eq_ret, semSignalWord, semWaitWord, wp_deviceId]
  iintro ⟨#HC, #HR, HO, H0⟩ Hk
  iapply (kv_send m K z1 (by decide) 0 (kL z1 ((1 : Fin 2).val) 0 ++ l) 2 3 (by decide) rfl _ (dev24_kd h) _ rfl _ rfl _ _ rfl rfl _ _ _ _ _) $$ [HO H0]
  · isplitr; · iexact HC
    isplitr; · iexact HR
    isplitl [HO]; · iexact HO
    iexact H0
  iintro ⟨HO, H0⟩
  iapply (kv_send m K z1 (by decide) 0 (kL z1 ((1 : Fin 2).val) 0 ++ l) 3 4 (by decide) rfl _ (dev25_kd h) _ rfl _ rfl _ _ rfl rfl _ _ _ _ _) $$ [HO H0]
  · isplitr; · iexact HC
    isplitr; · iexact HR
    isplitl [HO]; · iexact HO
    iexact H0
  iintro ⟨HO, H0⟩
  rw [wp_ret]; imodintro
  iapply Hk
  isplitl [HO]; · iexact HO
  iexact H0

theorem p9 (l : List (GSem nD τ sig × ℕ)) (h) (Q : _ → sProp 𝕄) :
    iprop(Ctx m K ∗ RA ∗ OW z1 (kL z1 ((0 : Fin 2).val) 4 ++ (kL z1 ((1 : Fin 2).val) 0 ++ l)) ∗ grp 0 7 4 (kT m z1 0) (kD z1 0))
      ⊢ iprop((∀ v, OW z1 (kL z1 ((0 : Fin 2).val) 6 ++ (kL z1 ((1 : Fin 2).val) 0 ++ l)) ∗ grp 0 7 6 (kT m z1 0) (kD z1 0) -∗ Q v)
        -∗ wp frame (wpE (defs₀ (F := F)) 𝒱₀ z1 none) Set.univ (k0_part9 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z1 h) Q) := by
  rw [k0_part9_eq_skeleton]
  unfold k0_part9_skel
  simp only [Prog.lift, Prog.bind_op, Prog.bind_ret, Prog.pure_eq_ret, semSignalWord, semWaitWord, wp_deviceId]
  iintro ⟨#HC, #HR, HO, H0⟩ Hk
  iapply (kv_send m K z1 (by decide) 0 (kL z1 ((1 : Fin 2).val) 0 ++ l) 4 5 (by decide) rfl _ (dev26_kd h) _ rfl _ rfl _ _ rfl rfl _ _ _ _ _) $$ [HO H0]
  · isplitr; · iexact HC
    isplitr; · iexact HR
    isplitl [HO]; · iexact HO
    iexact H0
  iintro ⟨HO, H0⟩
  iapply (kv_send m K z1 (by decide) 0 (kL z1 ((1 : Fin 2).val) 0 ++ l) 5 6 (by decide) rfl _ (dev27_kd h) _ rfl _ rfl _ _ rfl rfl _ _ _ _ _) $$ [HO H0]
  · isplitr; · iexact HC
    isplitr; · iexact HR
    isplitl [HO]; · iexact HO
    iexact H0
  iintro ⟨HO, H0⟩
  rw [wp_ret]; imodintro
  iapply Hk
  isplitl [HO]; · iexact HO
  iexact H0

theorem p10 (l : List (GSem nD τ sig × ℕ)) (h) (Q : _ → sProp 𝕄) :
    iprop(Ctx m K ∗ RA ∗ OW z1 (kL z1 ((0 : Fin 2).val) 6 ++ (kL z1 ((1 : Fin 2).val) 0 ++ l)) ∗ grp 0 7 6 (kT m z1 0) (kD z1 0) ∗ grp 0 7 0 (kT m z1 1) (kD z1 1) ∗ lT m z1 0)
      ⊢ iprop((∀ v, OW z1 (kL z1 ((1 : Fin 2).val) 1 ++ (l)) ∗ grp 0 7 7 (kT m z1 0) (kD z1 0) ∗ grp 0 7 1 (kT m z1 1) (kD z1 1) ∗ crd z1 22 -∗ Q v)
        -∗ wp frame (wpE (defs₀ (F := F)) 𝒱₀ z1 none) Set.univ (k0_part10 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z1 h) Q) := by
  rw [k0_part10_eq_skeleton]
  unfold k0_part10_skel
  simp only [Prog.lift, Prog.bind_op, Prog.bind_ret, Prog.pure_eq_ret, semSignalWord, semWaitWord, wp_deviceId]
  iintro ⟨#HC, #HR, HO, H0, H1, HL⟩ Hk
  iapply (kv_send m K z1 (by decide) 0 (kL z1 ((1 : Fin 2).val) 0 ++ l) 6 7 (by decide) rfl _ (dev28_kd h) _ rfl _ rfl _ _ rfl rfl _ _ _ _ _) $$ [HO H0]
  · isplitr; · iexact HC
    isplitr; · iexact HR
    isplitl [HO]; · iexact HO
    iexact H0
  iintro ⟨HO, H0⟩
  ihave HO := (OW_seven z1 z1 ((0 : Fin 2).val) (kL z1 ((1 : Fin 2).val) 0 ++ l)) $$ HO
  iapply (kv_local m K z1 (by decide) 0 _ rfl _ rfl _ rfl _ _ _ _ _) $$ [HL]
  · isplitr; · iexact HC
    isplitr; · iexact HR
    iexact HL
  iintro HL
  iapply (kv_send m K z1 (by decide) 1 (l) 0 1 (by decide) rfl _ (dev29_kd h) _ rfl _ rfl _ _ rfl rfl _ _ _ _ _) $$ [HO H1]
  · isplitr; · iexact HC
    isplitr; · iexact HR
    isplitl [HO]; · iexact HO
    iexact H1
  iintro ⟨HO, H1⟩
  rw [wp_ret]; imodintro
  iapply Hk
  isplitl [HO]; · iexact HO
  isplitl [H0]; · iexact H0
  isplitl [H1]; · iexact H1
  iexact HL

theorem p11 (l : List (GSem nD τ sig × ℕ)) (h) (Q : _ → sProp 𝕄) :
    iprop(Ctx m K ∗ RA ∗ OW z1 (kL z1 ((1 : Fin 2).val) 1 ++ l) ∗ grp 0 7 1 (kT m z1 1) (kD z1 1))
      ⊢ iprop((∀ v, OW z1 (kL z1 ((1 : Fin 2).val) 3 ++ (l)) ∗ grp 0 7 3 (kT m z1 1) (kD z1 1) -∗ Q v)
        -∗ wp frame (wpE (defs₀ (F := F)) 𝒱₀ z1 none) Set.univ (k0_part11 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z1 h) Q) := by
  rw [k0_part11_eq_skeleton]
  unfold k0_part11_skel
  simp only [Prog.lift, Prog.bind_op, Prog.bind_ret, Prog.pure_eq_ret, semSignalWord, semWaitWord, wp_deviceId]
  iintro ⟨#HC, #HR, HO, H1⟩ Hk
  iapply (kv_send m K z1 (by decide) 1 (l) 1 2 (by decide) rfl _ (dev30_kd h) _ rfl _ rfl _ _ rfl rfl _ _ _ _ _) $$ [HO H1]
  · isplitr; · iexact HC
    isplitr; · iexact HR
    isplitl [HO]; · iexact HO
    iexact H1
  iintro ⟨HO, H1⟩
  iapply (kv_send m K z1 (by decide) 1 (l) 2 3 (by decide) rfl _ (dev31_kd h) _ rfl _ rfl _ _ rfl rfl _ _ _ _ _) $$ [HO H1]
  · isplitr; · iexact HC
    isplitr; · iexact HR
    isplitl [HO]; · iexact HO
    iexact H1
  iintro ⟨HO, H1⟩
  rw [wp_ret]; imodintro
  iapply Hk
  isplitl [HO]; · iexact HO
  iexact H1

theorem p12 (l : List (GSem nD τ sig × ℕ)) (h) (Q : _ → sProp 𝕄) :
    iprop(Ctx m K ∗ RA ∗ OW z1 (kL z1 ((1 : Fin 2).val) 3 ++ l) ∗ grp 0 7 3 (kT m z1 1) (kD z1 1))
      ⊢ iprop((∀ v, OW z1 (kL z1 ((1 : Fin 2).val) 6 ++ (l)) ∗ grp 0 7 6 (kT m z1 1) (kD z1 1) -∗ Q v)
        -∗ wp frame (wpE (defs₀ (F := F)) 𝒱₀ z1 none) Set.univ (k0_part12 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z1 h) Q) := by
  rw [k0_part12_eq_skeleton]
  unfold k0_part12_skel
  simp only [Prog.lift, Prog.bind_op, Prog.bind_ret, Prog.pure_eq_ret, semSignalWord, semWaitWord, wp_deviceId]
  iintro ⟨#HC, #HR, HO, H1⟩ Hk
  iapply (kv_send m K z1 (by decide) 1 (l) 3 4 (by decide) rfl _ (dev32_kd h) _ rfl _ rfl _ _ rfl rfl _ _ _ _ _) $$ [HO H1]
  · isplitr; · iexact HC
    isplitr; · iexact HR
    isplitl [HO]; · iexact HO
    iexact H1
  iintro ⟨HO, H1⟩
  iapply (kv_send m K z1 (by decide) 1 (l) 4 5 (by decide) rfl _ (dev33_kd h) _ rfl _ rfl _ _ rfl rfl _ _ _ _ _) $$ [HO H1]
  · isplitr; · iexact HC
    isplitr; · iexact HR
    isplitl [HO]; · iexact HO
    iexact H1
  iintro ⟨HO, H1⟩
  iapply (kv_send m K z1 (by decide) 1 (l) 5 6 (by decide) rfl _ (dev34_kd h) _ rfl _ rfl _ _ rfl rfl _ _ _ _ _) $$ [HO H1]
  · isplitr; · iexact HC
    isplitr; · iexact HR
    isplitl [HO]; · iexact HO
    iexact H1
  iintro ⟨HO, H1⟩
  rw [wp_ret]; imodintro
  iapply Hk
  isplitl [HO]; · iexact HO
  iexact H1

theorem p13 (l : List (GSem nD τ sig × ℕ)) (ha : Abv 0 l) (Q : _ → sProp 𝕄) :
    iprop(Ctx m K ∗ OW z0 l ∗ grp 0 14 0 (fun i => wT z0 (4 + i)) (fun i => wD m z0 (4 + i)))
      ⊢ iprop((∀ v, OW z0 l ∗ grp 0 14 2 (fun i => wT z0 (4 + i)) (fun i => wD m z0 (4 + i)) -∗ Q v)
        -∗ wp frame (wpE (defs₀ (F := F)) 𝒱₀ z0 none) Set.univ (k0_part13 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part13_eq_skeleton]
  unfold k0_part13_skel
  simp only [Prog.lift, Prog.bind_op, Prog.bind_ret, Prog.pure_eq_ret, semSignalWord, semWaitWord, wp_deviceId]
  iintro ⟨#HC, HO, Hg⟩ Hk
  iapply (wait_step m K z0 l 0 14 0 1 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z0 l 0 14 1 2 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p14 (l : List (GSem nD τ sig × ℕ)) (ha : Abv 0 l) (Q : _ → sProp 𝕄) :
    iprop(Ctx m K ∗ OW z0 l ∗ grp 0 14 2 (fun i => wT z0 (4 + i)) (fun i => wD m z0 (4 + i)))
      ⊢ iprop((∀ v, OW z0 l ∗ grp 0 14 5 (fun i => wT z0 (4 + i)) (fun i => wD m z0 (4 + i)) -∗ Q v)
        -∗ wp frame (wpE (defs₀ (F := F)) 𝒱₀ z0 none) Set.univ (k0_part14 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part14_eq_skeleton]
  unfold k0_part14_skel
  simp only [Prog.lift, Prog.bind_op, Prog.bind_ret, Prog.pure_eq_ret, semSignalWord, semWaitWord, wp_deviceId]
  iintro ⟨#HC, HO, Hg⟩ Hk
  iapply (wait_step m K z0 l 0 14 2 3 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z0 l 0 14 3 4 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z0 l 0 14 4 5 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p15 (l : List (GSem nD τ sig × ℕ)) (ha : Abv 0 l) (Q : _ → sProp 𝕄) :
    iprop(Ctx m K ∗ OW z0 l ∗ grp 0 14 5 (fun i => wT z0 (4 + i)) (fun i => wD m z0 (4 + i)))
      ⊢ iprop((∀ v, OW z0 l ∗ grp 0 14 8 (fun i => wT z0 (4 + i)) (fun i => wD m z0 (4 + i)) -∗ Q v)
        -∗ wp frame (wpE (defs₀ (F := F)) 𝒱₀ z0 none) Set.univ (k0_part15 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part15_eq_skeleton]
  unfold k0_part15_skel
  simp only [Prog.lift, Prog.bind_op, Prog.bind_ret, Prog.pure_eq_ret, semSignalWord, semWaitWord, wp_deviceId]
  iintro ⟨#HC, HO, Hg⟩ Hk
  iapply (wait_step m K z0 l 0 14 5 6 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z0 l 0 14 6 7 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z0 l 0 14 7 8 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p16 (l : List (GSem nD τ sig × ℕ)) (ha : Abv 0 l) (Q : _ → sProp 𝕄) :
    iprop(Ctx m K ∗ OW z0 l ∗ grp 0 14 8 (fun i => wT z0 (4 + i)) (fun i => wD m z0 (4 + i)))
      ⊢ iprop((∀ v, OW z0 l ∗ grp 0 14 11 (fun i => wT z0 (4 + i)) (fun i => wD m z0 (4 + i)) -∗ Q v)
        -∗ wp frame (wpE (defs₀ (F := F)) 𝒱₀ z0 none) Set.univ (k0_part16 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part16_eq_skeleton]
  unfold k0_part16_skel
  simp only [Prog.lift, Prog.bind_op, Prog.bind_ret, Prog.pure_eq_ret, semSignalWord, semWaitWord, wp_deviceId]
  iintro ⟨#HC, HO, Hg⟩ Hk
  iapply (wait_step m K z0 l 0 14 8 9 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z0 l 0 14 9 10 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z0 l 0 14 10 11 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p17 (l : List (GSem nD τ sig × ℕ)) (ha : Abv 0 l) (Q : _ → sProp 𝕄) :
    iprop(Ctx m K ∗ OW z1 l ∗ grp 0 14 0 (fun i => wT z1 (4 + i)) (fun i => wD m z1 (4 + i)))
      ⊢ iprop((∀ v, OW z1 l ∗ grp 0 14 2 (fun i => wT z1 (4 + i)) (fun i => wD m z1 (4 + i)) -∗ Q v)
        -∗ wp frame (wpE (defs₀ (F := F)) 𝒱₀ z1 none) Set.univ (k0_part17 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part17_eq_skeleton]
  unfold k0_part17_skel
  simp only [Prog.lift, Prog.bind_op, Prog.bind_ret, Prog.pure_eq_ret, semSignalWord, semWaitWord, wp_deviceId]
  iintro ⟨#HC, HO, Hg⟩ Hk
  iapply (wait_step m K z1 l 0 14 0 1 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z1 l 0 14 1 2 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p18 (l : List (GSem nD τ sig × ℕ)) (ha : Abv 0 l) (Q : _ → sProp 𝕄) :
    iprop(Ctx m K ∗ OW z1 l ∗ grp 0 14 2 (fun i => wT z1 (4 + i)) (fun i => wD m z1 (4 + i)))
      ⊢ iprop((∀ v, OW z1 l ∗ grp 0 14 5 (fun i => wT z1 (4 + i)) (fun i => wD m z1 (4 + i)) -∗ Q v)
        -∗ wp frame (wpE (defs₀ (F := F)) 𝒱₀ z1 none) Set.univ (k0_part18 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part18_eq_skeleton]
  unfold k0_part18_skel
  simp only [Prog.lift, Prog.bind_op, Prog.bind_ret, Prog.pure_eq_ret, semSignalWord, semWaitWord, wp_deviceId]
  iintro ⟨#HC, HO, Hg⟩ Hk
  iapply (wait_step m K z1 l 0 14 2 3 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z1 l 0 14 3 4 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z1 l 0 14 4 5 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p19 (l : List (GSem nD τ sig × ℕ)) (ha : Abv 0 l) (Q : _ → sProp 𝕄) :
    iprop(Ctx m K ∗ OW z1 l ∗ grp 0 14 5 (fun i => wT z1 (4 + i)) (fun i => wD m z1 (4 + i)))
      ⊢ iprop((∀ v, OW z1 l ∗ grp 0 14 8 (fun i => wT z1 (4 + i)) (fun i => wD m z1 (4 + i)) -∗ Q v)
        -∗ wp frame (wpE (defs₀ (F := F)) 𝒱₀ z1 none) Set.univ (k0_part19 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part19_eq_skeleton]
  unfold k0_part19_skel
  simp only [Prog.lift, Prog.bind_op, Prog.bind_ret, Prog.pure_eq_ret, semSignalWord, semWaitWord, wp_deviceId]
  iintro ⟨#HC, HO, Hg⟩ Hk
  iapply (wait_step m K z1 l 0 14 5 6 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z1 l 0 14 6 7 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z1 l 0 14 7 8 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p20 (l : List (GSem nD τ sig × ℕ)) (ha : Abv 0 l) (Q : _ → sProp 𝕄) :
    iprop(Ctx m K ∗ OW z1 l ∗ grp 0 14 8 (fun i => wT z1 (4 + i)) (fun i => wD m z1 (4 + i)))
      ⊢ iprop((∀ v, OW z1 l ∗ grp 0 14 11 (fun i => wT z1 (4 + i)) (fun i => wD m z1 (4 + i)) -∗ Q v)
        -∗ wp frame (wpE (defs₀ (F := F)) 𝒱₀ z1 none) Set.univ (k0_part20 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part20_eq_skeleton]
  unfold k0_part20_skel
  simp only [Prog.lift, Prog.bind_op, Prog.bind_ret, Prog.pure_eq_ret, semSignalWord, semWaitWord, wp_deviceId]
  iintro ⟨#HC, HO, Hg⟩ Hk
  iapply (wait_step m K z1 l 0 14 8 9 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z1 l 0 14 9 10 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  iapply (wait_step m K z1 l 0 14 10 11 (fun i => 4 + i) (by decide) (by decide) rfl (by decide) (by decide) (Or.inl ⟨by decide, by decide, by decide⟩) (ha) _ rfl _ _ (credK _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

end Cert.KernelIdeal.Run

end
-- ==== Proof.Ideal.PA.lean ====
module

public import proofs.«01_k».proof.Proof.Ideal.Glue

@[expose] public section

/-! # The signals to all other devices -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

theorem p21 (c : Dev nD) (l : List (GSem nD τ sig × ℕ)) (Q : _ → sProp 𝕄) :
    iprop(Ctx m K ∗ rch c ∗ OW c (bL c 0 ++ l) ∗ bigSep (Finset.Ico 0 7) (bT c))
      ⊢ iprop((∀ v30 c8 v31, OW c (bL c 2 ++ l) ∗ bigSep (Finset.Ico 2 7) (bT c) -∗ Q ⟨c, Scalar.remsi (Scalar.divsi (Dev.word c) 1#32) 8#32, (SemArray.scalar (sig.barrier 0 rfl) : Sems sig S_), v30, c8, v31⟩)
        -∗ wp frame (wpE (defs₀ (F := F)) 𝒱₀ c none) Set.univ (k0_part21 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 ) Q) := by
  rw [k0_part21_eq_skeleton]
  unfold k0_part21_skel
  simp only [Prog.lift, Prog.bind_op, Prog.bind_ret, Prog.pure_eq_ret, semSignalWord, semWaitWord, wp_deviceId]
  iintro ⟨#HC, #Hr, HO, Hg⟩ Hk
  iapply (bar_signal m K c l 0 1 (by decide) rfl _ (dev1_dv c) _ rfl _ rfl _ _) $$ [HO Hg]
  · isplitr; · iexact HC
    isplitr; · iexact Hr
    isplitl [HO]; · iexact HO
    iexact Hg
  iintro ⟨HO, Hg⟩
  iapply (bar_signal m K c l 1 2 (by decide) rfl _ (dev2_dv c) _ rfl _ rfl _ _) $$ [HO Hg]
  · isplitr; · iexact HC
    isplitr; · iexact Hr
    isplitl [HO]; · iexact HO
    iexact Hg
  iintro ⟨HO, Hg⟩
  rw [wp_ret]; imodintro
  iapply Hk
  isplitl [HO]; · iexact HO
  iexact Hg

theorem p22 (c : Dev nD) (l : List (GSem nD τ sig × ℕ)) (v2) (v30) (c8) (v31) (Q : _ → sProp 𝕄) :
    iprop(Ctx m K ∗ rch c ∗ OW c (bL c 2 ++ l) ∗ bigSep (Finset.Ico 2 7) (bT c))
      ⊢ iprop((∀ v, OW c (bL c 4 ++ l) ∗ bigSep (Finset.Ico 4 7) (bT c) -∗ Q v)
        -∗ wp frame (wpE (defs₀ (F := F)) 𝒱₀ c none) Set.univ (k0_part22 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 (SemArray.scalar (sig.barrier 0 rfl) : Sems sig S_) v30 c8 v31) Q) := by
  rw [k0_part22_eq_skeleton]
  unfold k0_part22_skel
  simp only [Prog.lift, Prog.bind_op, Prog.bind_ret, Prog.pure_eq_ret, semSignalWord, semWaitWord, wp_deviceId]
  iintro ⟨#HC, #Hr, HO, Hg⟩ Hk
  iapply (bar_signal m K c l 2 3 (by decide) rfl _ (dev3_dv c) _ rfl _ rfl _ _) $$ [HO Hg]
  · isplitr; · iexact HC
    isplitr; · iexact Hr
    isplitl [HO]; · iexact HO
    iexact Hg
  iintro ⟨HO, Hg⟩
  iapply (bar_signal m K c l 3 4 (by decide) rfl _ (dev4_dv c) _ rfl _ rfl _ _) $$ [HO Hg]
  · isplitr; · iexact HC
    isplitr; · iexact Hr
    isplitl [HO]; · iexact HO
    iexact Hg
  iintro ⟨HO, Hg⟩
  rw [wp_ret]; imodintro
  iapply Hk
  isplitl [HO]; · iexact HO
  iexact Hg

theorem p23 (c : Dev nD) (l : List (GSem nD τ sig × ℕ)) (v2) (v59) (v64) (v65) (x) (Q : _ → sProp 𝕄) :
    iprop(Ctx m K ∗ rch c ∗ OW c (bL c 4 ++ l) ∗ bigSep (Finset.Ico 4 7) (bT c) ∗ owns (c : Thread nD τ) A0 fullShare x)
      ⊢ iprop((OW c (bL c 7 ++ l) ∗ bigSep (Finset.Ico 7 7) (bT c) ∗ owns (c : Thread nD τ) A0 fullShare x -∗ Q (k0_pay1 x))
        -∗ wp frame (wpE (defs₀ (F := F)) 𝒱₀ c none) Set.univ (k0_part23 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 (SemArray.scalar (sig.barrier 0 rfl) : Sems sig S_) v59 v64 v65) Q) := by
  rw [k0_part23_eq_skeleton]
  unfold k0_part23_skel
  simp only [Prog.lift, Prog.bind_op, Prog.bind_ret, Prog.pure_eq_ret, semSignalWord, semWaitWord, wp_deviceId]
  iintro ⟨#HC, #Hr, HO, Hg, HA⟩ Hk
  iapply (bar_signal m K c l 4 5 (by decide) rfl _ (dev5_dv c) _ rfl _ rfl _ _) $$ [HO Hg]
  · isplitr; · iexact HC
    isplitr; · iexact Hr
    isplitl [HO]; · iexact HO
    iexact Hg
  iintro ⟨HO, Hg⟩
  iapply (bar_signal m K c l 5 6 (by decide) rfl _ (dev6_dv c) _ rfl _ rfl _ _) $$ [HO Hg]
  · isplitr; · iexact HC
    isplitr; · iexact Hr
    isplitl [HO]; · iexact HO
    iexact Hg
  iintro ⟨HO, Hg⟩
  iapply (bar_signal m K c l 6 7 (by decide) rfl _ (dev7_dv c) _ rfl _ rfl _ _) $$ [HO Hg]
  · isplitr; · iexact HC
    isplitr; · iexact Hr
    isplitl [HO]; · iexact HO
    iexact Hg
  iintro ⟨HO, Hg⟩
  iapply (ld_owns c A0 x ![0, 0, 0] _ (fun a => by match a with | 0 => rfl | 1 => rfl | 2 => rfl) _ _ _) $$ [HA]
  · iexact HA
  iintro HA
  rw [wp_ret]; imodintro
  iapply Hk
  isplitl [HO]; · iexact HO
  isplitl [Hg]; · iexact Hg
  iexact HA

end Cert.KernelIdeal.Run

end
-- ==== Proof.Ideal.PB.lean ====
module

public import proofs.«01_k».proof.Proof.Ideal.Hand
public import proofs.«01_k».proof.Proof.Ideal.PK
public import proofs.«01_k».proof.Proof.Ideal.PA

@[expose] public section

/-! # The barrier, the sends of keys and values, and the waits for them -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

abbrev k3 (v2 : BitVec 32) : Prop := Scalar.cmpi .ne (Scalar.extui (Scalar.cmpi .eq v2 0#32) : BitVec 32) 0#32 = 1#1
abbrev k4 (v2 : BitVec 32) : Prop := Scalar.cmpi .ne (Scalar.extui (Scalar.cmpi .ne v2 0#32) : BitVec 32) 0#32 = 1#1
abbrev k5 (v2 : BitVec 32) : Prop := Scalar.cmpi .ne (Scalar.extui (Scalar.cmpi .eq v2 1#32) : BitVec 32) 0#32 = 1#1
abbrev k6 (v2 : BitVec 32) : Prop := Scalar.cmpi .ne (Scalar.extui (Scalar.cmpi .ne v2 1#32) : BitVec 32) 0#32 = 1#1

/-- What a send of keys or values needs, without the piece it writes to. -/
def kU (c : Dev nD) (t : Fin 2) (n : ℕ) : sProp 𝕄 :=
  iprop(dutyTok ER (cl c (4 + 2 * n + t.val)) 0 0 ∗ dutyTok ER (cl (kd c n) (18 + 2 * c.val + t.val)) 0 0 ∗ pS t (kd c n) c (kvV m t c))

theorem kT_of (c : Dev nD) (t : Fin 2) : iprop(bigSep (Finset.Ico 0 7) (kU m c t) ∗ bigSep (Finset.Ico 0 7) (kP c t)) ⊢ grp 0 7 0 (kT m c t) (kD c t) := by
  rw [← bsep]
  refine strans (bmono fun n _ => ?_) grp_start
  unfold kU kP kT
  iintro ⟨⟨H1, H2, H3⟩, H4⟩
  isplitl [H1]; · iexact H1
  isplitl [H2]; · iexact H2
  isplitl [H3]; · iexact H3
  iexact H4

/-- A source of keys and values before its sends; `o` is the other source's number. -/
def sPre (z : Dev nD) (o : ℕ) : sProp 𝕄 :=
  iprop(bigSep (Finset.Ico 0 7) (kU m z 0) ∗ bigSep (Finset.Ico 0 7) (kU m z 1) ∗ lT m z 0 ∗ lT m z 1
    ∗ atPos ER (cl z 22) 0 ∅ 0 ∗ atPos ER (cl z 23) 0 ∅ 0 ∗ wT z (18 + 2 * o) ∗ wT z (19 + 2 * o))
/-- A source after its keys are complete. -/
def sMid (z : Dev nD) (o : ℕ) : sProp 𝕄 :=
  iprop(bigSep (Finset.Ico 0 7) (kD z 0) ∗ bigSep (Finset.Ico 0 7) (kD z 1) ∗ pS 0 z z (kvV m 0 z)
    ∗ atPos ER (cl z 22) 1 ∅ 0 ∗ wT z 23 ∗ atPos ER (cl z (18 + 2 * o)) 1 ∅ 0 ∗ wT z (19 + 2 * o))
/-- A source after its values are complete. -/
def sEnd (z : Dev nD) (o : ℕ) : sProp 𝕄 :=
  iprop(bigSep (Finset.Ico 0 7) (kD z 0) ∗ bigSep (Finset.Ico 0 7) (kD z 1) ∗ pS 0 z z (kvV m 0 z) ∗ pS 1 z z (kvV m 1 z)
    ∗ atPos ER (cl z 22) 1 ∅ 0 ∗ atPos ER (cl z 23) 1 ∅ 0 ∗ atPos ER (cl z (18 + 2 * o)) 1 ∅ 0 ∗ atPos ER (cl z (19 + 2 * o)) 1 ∅ 0)
/-- The other devices, at the same three points. -/
def tPre (c : Dev nD) : sProp 𝕄 := iprop(wT c 18 ∗ wT c 20 ∗ wT c 19 ∗ wT c 21)
def tMid (c : Dev nD) : sProp 𝕄 := iprop(atPos ER (cl c 18) 1 ∅ 0 ∗ atPos ER (cl c 20) 1 ∅ 0 ∗ wT c 19 ∗ wT c 21)
def tEnd (c : Dev nD) : sProp 𝕄 :=
  iprop(atPos ER (cl c 18) 1 ∅ 0 ∗ atPos ER (cl c 20) 1 ∅ 0 ∗ atPos ER (cl c 19) 1 ∅ 0 ∗ atPos ER (cl c 21) 1 ∅ 0)

theorem wD_kR (c : Dev nD) (s t : Fin 2) (k : ℕ) (hk : k = 18 + 2 * s.val + t.val) :
    wD m c k ⊢ iprop(atPos ER (cl c k) 1 ∅ 0 ∗ pD t s c (kvAll m t c)) := by
  subst hk; unfold wD; rw [cellPay_kR]
theorem wD_kL (c : Dev nD) (s t : Fin 2) (k : ℕ) (hk : k = 22 + t.val) (hs : s = f2 c.val) :
    wD m c k ⊢ iprop(atPos ER (cl c k) 1 ∅ 0 ∗ pD t s c (kvAll m t c) ∗ pS t c c (kvV m t c)) := by
  subst hk hs; unfold wD; rw [cellPay_kL]
theorem kvW_k (c : Dev nD) : iprop(pD 0 0 c (kvAll m 0 c) ∗ pD 0 1 c (kvAll m 0 c)) ⊢ kW m c := kv_join 0 c (kvAll m 0 c)
theorem kvW_v (c : Dev nD) : iprop(pD 1 0 c (kvAll m 1 c) ∗ pD 1 1 c (kvAll m 1 c)) ⊢ vW m c := kv_join 1 c (kvAll m 1 c)
theorem wT_mk (c : Dev nD) (k : ℕ) : iprop(crd c k ∗ atPos ER (cl c k) 0 ∅ 0) ⊢ (wT c k : sProp 𝕄) := by unfold wT; exact BI.Entails.refl _

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

set_option maxHeartbeats 2000000 in
theorem p24_0  (l : List (GSem nD τ sig × ℕ)) (v2 : BitVec 32) (g3 : k3 v2) (g4 : ¬k4 v2) (g5 : ¬k5 v2) (g6 : k6 v2) (v96) (x) (ha : Abv 1 (kL z0 0 0 ++ (kL z0 1 0 ++ l))) (hb : Abv 0 l) (hb2 : Abv 2 l) (Q : _ → sProp 𝕄) :
    iprop(Ctx m K ∗ rch z0 ∗ OW z0 (kL z0 0 0 ++ (kL z0 1 0 ++ l)) ∗ cred (tallyAt (bcl z0) () 7) ∗ atPos ER (bcl z0) 0 ∅ 0 ∗ owns (z0 : Thread nD τ) A1 fullShare x ∗ sPre m z0 1)
      ⊢ iprop((RA ∗ OW z0 l ∗ atPos ER (bcl z0) 1 ∅ 0 ∗ bigSep (Finset.Ico 0 7) (rP z0) ∗ bigSep (Finset.Ico 0 7) (gP z0) ∗ owns (z0 : Thread nD τ) A1 fullShare x ∗ kW m z0 ∗ sMid m z0 1 -∗ Q ⟨k0_pay2 v96 x, k0_pay3, k0_pay4 v96 x, k0_pay5 v96 x⟩)
        -∗ wp frame (wpE (defs₀ (F := F)) 𝒱₀ z0 none) Set.univ (k0_part24 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z0 v2 (SemArray.scalar (sig.barrier 0 rfl) : Sems sig S_) v96) Q) := by
  rw [k0_part24_eq_skeleton]
  unfold k0_part24_skel
  simp only [Prog.lift, Prog.bind_op, Prog.bind_ret, Prog.pure_eq_ret, semSignalWord, semWaitWord, wp_deviceId]
  unfold sPre
  iintro ⟨#HC, #Hr, HO, Hcr, Hat, HA, HU0, HU1, HL0, HL1, Ha22, Ha23, Hw, Hw2⟩ Hk
  iapply (ld_owns z0 A1 x _ _ (fun a => by match a with | 0 => rfl | 1 => rfl) _ _ _) $$ [HA]
  · iexact HA
  iintro HA
  iapply (bar_wait m K z0 _ ha _ rfl _ (by decide) _ _) $$ [HO Hcr Hat]
  · isplitr; · iexact HC
    isplitl [HO]; · iexact HO
    isplitl [Hcr]; · iexact Hcr
    iexact Hat
  iintro ⟨HO, Hat, Hb⟩
  ihave Hb := (bar_open z0) $$ [Hb]
  · isplitr; · iexact Hr
    iexact Hb
  icases Hb with ⟨#HR, HrP, HgP, HkP⟩
  rw [dif_pos (show k0_cond1 z0 = 1#1 by decide)]
  ihave HkP := (kv_open z0 (by decide)) $$ HkP
  icases HkP with ⟨HP0, HP1⟩
  ihave H0 := (kT_of m z0 0) $$ [HU0 HP0]
  · isplitl [HU0]; · iexact HU0
    iexact HP0
  ihave H1 := (kT_of m z0 1) $$ [HU1 HP1]
  · isplitl [HU1]; · iexact HU1
    iexact HP1
  rw [wp_bind]
  iapply (p1 m K A0 h0 A1 h1 A4 h4 A5 h5 l _ _) $$ [HO H0]
  · isplitr; · iexact HC
    isplitr; · iexact HR
    isplitl [HO]; · iexact HO
    iexact H0
  iintro %v1224 ⟨HO, H0⟩
  rw [wp_bind]
  iapply (p2 m K A0 h0 A1 h1 A4 h4 A5 h5 l _ _ _) $$ [HO H0]
  · isplitr; · iexact HC
    isplitr; · iexact HR
    isplitl [HO]; · iexact HO
    iexact H0
  iintro %_ ⟨HO, H0⟩
  rw [wp_bind]
  iapply (p3 m K A0 h0 A1 h1 A4 h4 A5 h5 l _ _) $$ [HO H0]
  · isplitr; · iexact HC
    isplitr; · iexact HR
    isplitl [HO]; · iexact HO
    iexact H0
  iintro %_ ⟨HO, H0⟩
  rw [wp_bind]
  iapply (p4 m K A0 h0 A1 h1 A4 h4 A5 h5 l _ _) $$ [HO H0 H1 HL0]
  · isplitr; · iexact HC
    isplitr; · iexact HR
    isplitl [HO]; · iexact HO
    isplitl [H0]; · iexact H0
    isplitl [H1]; · iexact H1
    iexact HL0
  iintro %_ ⟨HO, H0, H1, HL0⟩
  rw [wp_bind]
  iapply (p5 m K A0 h0 A1 h1 A4 h4 A5 h5 l _ _) $$ [HO H1]
  · isplitr; · iexact HC
    isplitr; · iexact HR
    isplitl [HO]; · iexact HO
    iexact H1
  iintro %_ ⟨HO, H1⟩
  rw [wp_bind]
  iapply (p6 m K A0 h0 A1 h1 A4 h4 A5 h5 l _ _) $$ [HO H1]
  · isplitr; · iexact HC
    isplitr; · iexact HR
    isplitl [HO]; · iexact HO
    iexact H1
  iintro %_ ⟨HO, H1⟩
  iapply (kv_send m K z0 (by decide) 1 l 6 7 (by decide) rfl _ (dev21_kd (by decide)) _ rfl _ rfl _ _ rfl rfl _ _ _ _ _) $$ [HO H1]
  · isplitr; · iexact HC
    isplitr; · iexact HR
    isplitl [HO]; · iexact HO
    iexact H1
  iintro ⟨HO, H1⟩
  ihave HO := (OW_seven z0 z0 ((1 : Fin 2).val) l) $$ HO
  iapply (kv_local m K z0 (by decide) 1 _ rfl _ rfl _ rfl _ _ _ _ _) $$ [HL1]
  · isplitr; · iexact HC
    isplitr; · iexact HR
    iexact HL1
  iintro HL1
  ihave Hw22 := (wT_mk z0 22) $$ [HL0 Ha22]
  · isplitl [HL0]; · iexact HL0
    iexact Ha22
  ihave Hw23 := (wT_mk z0 23) $$ [HL1 Ha23]
  · isplitl [HL1]; · iexact HL1
    iexact Ha23
  rw [dif_neg (show ¬k0_cond2 z0 = 1#1 by decide)]
  rw [dif_pos g3]
  iapply (wait_op m K z0 l 22 (by decide) (by decide) (by decide) ((by assumption)) _ rfl _ _ (credK _) _ _ _ _) $$ [HO Hw22]
  · isplitr; · iexact HC
    isplitl [HO]; · iexact HO
    iexact Hw22
  iintro ⟨HO, Hw22⟩
  rw [dif_neg g4]
  rw [dif_neg g5]
  rw [dif_pos g6]
  iapply (wait_op m K z0 l (18 + 2 * 1) (by decide) (by decide) (by decide) ((by assumption)) _ rfl _ _ (credK _) _ _ _ _) $$ [HO Hw]
  · isplitr; · iexact HC
    isplitl [HO]; · iexact HO
    iexact Hw
  iintro ⟨HO, Hw⟩
  ihave Hw22 := (wD_kL m z0 0 0 _ rfl rfl) $$ Hw22
  icases Hw22 with ⟨Ha22, Hd0, HpS⟩
  ihave Hw := (wD_kR m z0 1 0 _ rfl) $$ Hw
  icases Hw with ⟨Ha18, Hd1⟩
  ihave HK := (kvW_k m z0) $$ [Hd0 Hd1]
  · isplitl [Hd0]; · iexact Hd0
    iexact Hd1
  ihave H0 := grp_end $$ H0
  ihave H1 := grp_end $$ H1
  rw [wp_ret]; imodintro
  iapply Hk
  isplitr; · iexact HR
  isplitl [HO]; · iexact HO
  isplitl [Hat]; · iexact Hat
  isplitl [HrP]; · iexact HrP
  isplitl [HgP]; · iexact HgP
  isplitl [HA]; · iexact HA
  isplitl [HK]; · iexact HK
  unfold sMid
  isplitl [H0]; · iexact H0
  isplitl [H1]; · iexact H1
  isplitl [HpS]; · iexact HpS
  isplitl [Ha22]; · iexact Ha22
  isplitl [Hw23]; · iexact Hw23
  isplitl [Ha18]; · iexact Ha18
  iexact Hw2

set_option maxHeartbeats 2000000 in
theorem p24_1  (l : List (GSem nD τ sig × ℕ)) (v2 : BitVec 32) (g3 : ¬k3 v2) (g4 : k4 v2) (g5 : k5 v2) (g6 : ¬k6 v2) (v96) (x) (ha : Abv 1 (kL z1 0 0 ++ (kL z1 1 0 ++ l))) (hb : Abv 0 l) (hb2 : Abv 2 l) (Q : _ → sProp 𝕄) :
    iprop(Ctx m K ∗ rch z1 ∗ OW z1 (kL z1 0 0 ++ (kL z1 1 0 ++ l)) ∗ cred (tallyAt (bcl z1) () 7) ∗ atPos ER (bcl z1) 0 ∅ 0 ∗ owns (z1 : Thread nD τ) A1 fullShare x ∗ sPre m z1 0)
      ⊢ iprop((RA ∗ OW z1 l ∗ atPos ER (bcl z1) 1 ∅ 0 ∗ bigSep (Finset.Ico 0 7) (rP z1) ∗ bigSep (Finset.Ico 0 7) (gP z1) ∗ owns (z1 : Thread nD τ) A1 fullShare x ∗ kW m z1 ∗ sMid m z1 0 -∗ Q ⟨k0_pay2 v96 x, k0_pay3, k0_pay4 v96 x, k0_pay5 v96 x⟩)
        -∗ wp frame (wpE (defs₀ (F := F)) 𝒱₀ z1 none) Set.univ (k0_part24 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 z1 v2 (SemArray.scalar (sig.barrier 0 rfl) : Sems sig S_) v96) Q) := by
  rw [k0_part24_eq_skeleton]
  unfold k0_part24_skel
  simp only [Prog.lift, Prog.bind_op, Prog.bind_ret, Prog.pure_eq_ret, semSignalWord, semWaitWord, wp_deviceId]
  unfold sPre
  iintro ⟨#HC, #Hr, HO, Hcr, Hat, HA, HU0, HU1, HL0, HL1, Ha22, Ha23, Hw, Hw2⟩ Hk
  iapply (ld_owns z1 A1 x _ _ (fun a => by match a with | 0 => rfl | 1 => rfl) _ _ _) $$ [HA]
  · iexact HA
  iintro HA
  iapply (bar_wait m K z1 _ ha _ rfl _ (by decide) _ _) $$ [HO Hcr Hat]
  · isplitr; · iexact HC
    isplitl [HO]; · iexact HO
    isplitl [Hcr]; · iexact Hcr
    iexact Hat
  iintro ⟨HO, Hat, Hb⟩
  ihave Hb := (bar_open z1) $$ [Hb]
  · isplitr; · iexact Hr
    iexact Hb
  icases Hb with ⟨#HR, HrP, HgP, HkP⟩
  rw [dif_neg (show ¬k0_cond1 z1 = 1#1 by decide)]
  rw [dif_pos (show k0_cond2 z1 = 1#1 by decide)]
  ihave HkP := (kv_open z1 (by decide)) $$ HkP
  icases HkP with ⟨HP0, HP1⟩
  ihave H0 := (kT_of m z1 0) $$ [HU0 HP0]
  · isplitl [HU0]; · iexact HU0
    iexact HP0
  ihave H1 := (kT_of m z1 1) $$ [HU1 HP1]
  · isplitl [HU1]; · iexact HU1
    iexact HP1
  rw [wp_bind]
  iapply (p7 m K A0 h0 A1 h1 A4 h4 A5 h5 l _ _) $$ [HO H0]
  · isplitr; · iexact HC
    isplitr; · iexact HR
    isplitl [HO]; · iexact HO
    iexact H0
  iintro %v1224 ⟨HO, H0⟩
  rw [wp_bind]
  iapply (p8 m K A0 h0 A1 h1 A4 h4 A5 h5 l _ _ _) $$ [HO H0]
  · isplitr; · iexact HC
    isplitr; · iexact HR
    isplitl [HO]; · iexact HO
    iexact H0
  iintro %_ ⟨HO, H0⟩
  rw [wp_bind]
  iapply (p9 m K A0 h0 A1 h1 A4 h4 A5 h5 l _ _) $$ [HO H0]
  · isplitr; · iexact HC
    isplitr; · iexact HR
    isplitl [HO]; · iexact HO
    iexact H0
  iintro %_ ⟨HO, H0⟩
  rw [wp_bind]
  iapply (p10 m K A0 h0 A1 h1 A4 h4 A5 h5 l _ _) $$ [HO H0 H1 HL0]
  · isplitr; · iexact HC
    isplitr; · iexact HR
    isplitl [HO]; · iexact HO
    isplitl [H0]; · iexact H0
    isplitl [H1]; · iexact H1
    iexact HL0
  iintro %_ ⟨HO, H0, H1, HL0⟩
  rw [wp_bind]
  iapply (p11 m K A0 h0 A1 h1 A4 h4 A5 h5 l _ _) $$ [HO H1]
  · isplitr; · iexact HC
    isplitr; · iexact HR
    isplitl [HO]; · iexact HO
    iexact H1
  iintro %_ ⟨HO, H1⟩
  rw [wp_bind]
  iapply (p12 m K A0 h0 A1 h1 A4 h4 A5 h5 l _ _) $$ [HO H1]
  · isplitr; · iexact HC
    isplitr; · iexact HR
    isplitl [HO]; · iexact HO
    iexact H1
  iintro %_ ⟨HO, H1⟩
  iapply (kv_send m K z1 (by decide) 1 l 6 7 (by decide) rfl _ (dev35_kd (by decide)) _ rfl _ rfl _ _ rfl rfl _ _ _ _ _) $$ [HO H1]
  · isplitr; · iexact HC
    isplitr; · iexact HR
    isplitl [HO]; · iexact HO
    iexact H1
  iintro ⟨HO, H1⟩
  ihave HO := (OW_seven z1 z1 ((1 : Fin 2).val) l) $$ HO
  iapply (kv_local m K z1 (by decide) 1 _ rfl _ rfl _ rfl _ _ _ _ _) $$ [HL1]
  · isplitr; · iexact HC
    isplitr; · iexact HR
    iexact HL1
  iintro HL1
  ihave Hw22 := (wT_mk z1 22) $$ [HL0 Ha22]
  · isplitl [HL0]; · iexact HL0
    iexact Ha22
  ihave Hw23 := (wT_mk z1 23) $$ [HL1 Ha23]
  · isplitl [HL1]; · iexact HL1
    iexact Ha23
  rw [dif_neg g3]
  rw [dif_pos g4]
  iapply (wait_op m K z1 l (18 + 2 * 0) (by decide) (by decide) (by decide) ((by assumption)) _ rfl _ _ (credK _) _ _ _ _) $$ [HO Hw]
  · isplitr; · iexact HC
    isplitl [HO]; · iexact HO
    iexact Hw
  iintro ⟨HO, Hw⟩
  rw [dif_pos g5]
  iapply (wait_op m K z1 l 22 (by decide) (by decide) (by decide) ((by assumption)) _ rfl _ _ (credK _) _ _ _ _) $$ [HO Hw22]
  · isplitr; · iexact HC
    isplitl [HO]; · iexact HO
    iexact Hw22
  iintro ⟨HO, Hw22⟩
  rw [dif_neg g6]
  ihave Hw22 := (wD_kL m z1 1 0 _ rfl rfl) $$ Hw22
  icases Hw22 with ⟨Ha22, Hd1, HpS⟩
  ihave Hw := (wD_kR m z1 0 0 _ rfl) $$ Hw
  icases Hw with ⟨Ha18, Hd0⟩
  ihave HK := (kvW_k m z1) $$ [Hd0 Hd1]
  · isplitl [Hd0]; · iexact Hd0
    iexact Hd1
  ihave H0 := grp_end $$ H0
  ihave H1 := grp_end $$ H1
  rw [wp_ret]; imodintro
  iapply Hk
  isplitr; · iexact HR
  isplitl [HO]; · iexact HO
  isplitl [Hat]; · iexact Hat
  isplitl [HrP]; · iexact HrP
  isplitl [HgP]; · iexact HgP
  isplitl [HA]; · iexact HA
  isplitl [HK]; · iexact HK
  unfold sMid
  isplitl [H0]; · iexact H0
  isplitl [H1]; · iexact H1
  isplitl [HpS]; · iexact HpS
  isplitl [Ha22]; · iexact Ha22
  isplitl [Hw23]; · iexact Hw23
  isplitl [Ha18]; · iexact Ha18
  iexact Hw2

set_option maxHeartbeats 2000000 in
theorem p24_2 (c : Dev nD) (hc : ¬c.val < 2) (l : List (GSem nD τ sig × ℕ)) (v2 : BitVec 32) (g3 : ¬k3 v2) (g4 : k4 v2) (g5 : ¬k5 v2) (g6 : k6 v2) (g1 : ¬k0_cond1 c = 1#1) (g2 : ¬k0_cond2 c = 1#1) (v96) (x) (ha : Abv 1 (kL c 0 0 ++ (kL c 1 0 ++ l))) (hb : Abv 0 l) (hb2 : Abv 2 l) (Q : _ → sProp 𝕄) :
    iprop(Ctx m K ∗ rch c ∗ OW c (kL c 0 0 ++ (kL c 1 0 ++ l)) ∗ cred (tallyAt (bcl c) () 7) ∗ atPos ER (bcl c) 0 ∅ 0 ∗ owns (c : Thread nD τ) A1 fullShare x ∗ tPre c)
      ⊢ iprop((RA ∗ OW c l ∗ atPos ER (bcl c) 1 ∅ 0 ∗ bigSep (Finset.Ico 0 7) (rP c) ∗ bigSep (Finset.Ico 0 7) (gP c) ∗ owns (c : Thread nD τ) A1 fullShare x ∗ kW m c ∗ tMid c -∗ Q ⟨k0_pay2 v96 x, k0_pay3, k0_pay4 v96 x, k0_pay5 v96 x⟩)
        -∗ wp frame (wpE (defs₀ (F := F)) 𝒱₀ c none) Set.univ (k0_part24 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 (SemArray.scalar (sig.barrier 0 rfl) : Sems sig S_) v96) Q) := by
  rw [k0_part24_eq_skeleton]
  unfold k0_part24_skel
  simp only [Prog.lift, Prog.bind_op, Prog.bind_ret, Prog.pure_eq_ret, semSignalWord, semWaitWord, wp_deviceId]
  rw [kL_ge c hc, kL_ge c hc, List.nil_append, List.nil_append] at ha ⊢
  unfold tPre
  iintro ⟨#HC, #Hr, HO, Hcr, Hat, HA, Hw18, Hw20, Hw19, Hw21⟩ Hk
  iapply (ld_owns c A1 x _ _ (fun a => by match a with | 0 => rfl | 1 => rfl) _ _ _) $$ [HA]
  · iexact HA
  iintro HA
  iapply (bar_wait m K c _ ha _ rfl _ (by decide) _ _) $$ [HO Hcr Hat]
  · isplitr; · iexact HC
    isplitl [HO]; · iexact HO
    isplitl [Hcr]; · iexact Hcr
    iexact Hat
  iintro ⟨HO, Hat, Hb⟩
  ihave Hb := (bar_open c) $$ [Hb]
  · isplitr; · iexact Hr
    iexact Hb
  icases Hb with ⟨#HR, HrP, HgP, HkP⟩
  rw [dif_neg g1]
  rw [dif_neg g2]
  rw [dif_neg g3]
  rw [dif_pos g4]
  iapply (wait_op m K c l 18 (by decide) (by decide) (by unfold live; omega) ((by assumption)) _ rfl _ _ (credK _) _ _ _ _) $$ [HO Hw18]
  · isplitr; · iexact HC
    isplitl [HO]; · iexact HO
    iexact Hw18
  iintro ⟨HO, Hw18⟩
  rw [dif_neg g5]
  rw [dif_pos g6]
  iapply (wait_op m K c l 20 (by decide) (by decide) (by unfold live; omega) ((by assumption)) _ rfl _ _ (credK _) _ _ _ _) $$ [HO Hw20]
  · isplitr; · iexact HC
    isplitl [HO]; · iexact HO
    iexact Hw20
  iintro ⟨HO, Hw20⟩
  ihave Hw18 := (wD_kR m c 0 0 _ rfl) $$ Hw18
  icases Hw18 with ⟨Ha18, Hd0⟩
  ihave Hw20 := (wD_kR m c 1 0 _ rfl) $$ Hw20
  icases Hw20 with ⟨Ha20, Hd1⟩
  ihave HK := (kvW_k m c) $$ [Hd0 Hd1]
  · isplitl [Hd0]; · iexact Hd0
    iexact Hd1
  rw [wp_ret]; imodintro
  iapply Hk
  isplitr; · iexact HR
  isplitl [HO]; · iexact HO
  isplitl [Hat]; · iexact Hat
  isplitl [HrP]; · iexact HrP
  isplitl [HgP]; · iexact HgP
  isplitl [HA]; · iexact HA
  isplitl [HK]; · iexact HK
  unfold tMid
  isplitl [Ha18]; · iexact Ha18
  isplitl [Ha20]; · iexact Ha20
  isplitl [Hw19]; · iexact Hw19
  iexact Hw21

set_option maxHeartbeats 1000000 in
theorem p30_0  (l : List (GSem nD τ sig × ℕ)) (v2 : BitVec 32) (g3 : k3 v2) (g4 : ¬k4 v2) (g5 : ¬k5 v2) (g6 : k6 v2) (v148) (v171) (hb : Abv 0 l) (hb2 : Abv 2 l) (Q : _ → sProp 𝕄) :
    iprop(Ctx m K ∗ OW z0 l ∗ sMid m z0 1)
      ⊢ iprop((OW z0 l ∗ vW m z0 ∗ sEnd m z0 1 -∗ Q ⟨k0_pay23 v148 (ldB (vAll m z0) 0 0 0) (ldB (vAll m z0) 1 0 0), k0_pay24 v171 (ldB (vAll m z0) 0 0 1) (ldB (vAll m z0) 1 0 1)⟩)
        -∗ wp frame (wpE (defs₀ (F := F)) 𝒱₀ z0 none) Set.univ (k0_part30 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v148 v171) Q) := by
  rw [k0_part30_eq_skeleton]
  unfold k0_part30_skel
  simp only [Prog.lift, Prog.bind_op, Prog.bind_ret, Prog.pure_eq_ret, semSignalWord, semWaitWord, wp_deviceId]
  unfold sMid
  iintro ⟨#HC, HO, H0, H1, HpS, Ha22, Hw23, Ha18, Hw2⟩ Hk
  rw [dif_pos g3]
  iapply (wait_op m K z0 l 23 (by decide) (by decide) (by decide) ((by assumption)) _ rfl _ _ (credK _) _ _ _ _) $$ [HO Hw23]
  · isplitr; · iexact HC
    isplitl [HO]; · iexact HO
    iexact Hw23
  iintro ⟨HO, Hw23⟩
  rw [dif_neg g4]
  rw [dif_neg g5]
  rw [dif_pos g6]
  iapply (wait_op m K z0 l (19 + 2 * 1) (by decide) (by decide) (by decide) ((by assumption)) _ rfl _ _ (credK _) _ _ _ _) $$ [HO Hw2]
  · isplitr; · iexact HC
    isplitl [HO]; · iexact HO
    iexact Hw2
  iintro ⟨HO, Hw2⟩
  ihave Hw23 := (wD_kL m z0 0 1 _ rfl rfl) $$ Hw23
  icases Hw23 with ⟨Ha23, Hd0, HpT⟩
  ihave Hw2 := (wD_kR m z0 1 1 _ rfl) $$ Hw2
  icases Hw2 with ⟨Ha19, Hd1⟩
  ihave HV := (kvW_v m z0) $$ [Hd0 Hd1]
  · isplitl [Hd0]; · iexact Hd0
    iexact Hd1
  iapply (ld_v m z0 0 0 0 _ _ _ _) $$ [HV]
  · iexact HV
  iintro HV
  iapply (ld_v m z0 1 0 0 _ _ _ _) $$ [HV]
  · iexact HV
  iintro HV
  iapply (ld_v m z0 0 0 1 _ _ _ _) $$ [HV]
  · iexact HV
  iintro HV
  iapply (ld_v m z0 1 0 1 _ _ _ _) $$ [HV]
  · iexact HV
  iintro HV
  rw [wp_ret]; imodintro
  iapply Hk
  isplitl [HO]; · iexact HO
  isplitl [HV]; · iexact HV
  unfold sEnd
  isplitl [H0]; · iexact H0
  isplitl [H1]; · iexact H1
  isplitl [HpS]; · iexact HpS
  isplitl [HpT]; · iexact HpT
  isplitl [Ha22]; · iexact Ha22
  isplitl [Ha23]; · iexact Ha23
  isplitl [Ha18]; · iexact Ha18
  iexact Ha19

set_option maxHeartbeats 1000000 in
theorem p30_1  (l : List (GSem nD τ sig × ℕ)) (v2 : BitVec 32) (g3 : ¬k3 v2) (g4 : k4 v2) (g5 : k5 v2) (g6 : ¬k6 v2) (v148) (v171) (hb : Abv 0 l) (hb2 : Abv 2 l) (Q : _ → sProp 𝕄) :
    iprop(Ctx m K ∗ OW z1 l ∗ sMid m z1 0)
      ⊢ iprop((OW z1 l ∗ vW m z1 ∗ sEnd m z1 0 -∗ Q ⟨k0_pay23 v148 (ldB (vAll m z1) 0 0 0) (ldB (vAll m z1) 1 0 0), k0_pay24 v171 (ldB (vAll m z1) 0 0 1) (ldB (vAll m z1) 1 0 1)⟩)
        -∗ wp frame (wpE (defs₀ (F := F)) 𝒱₀ z1 none) Set.univ (k0_part30 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v148 v171) Q) := by
  rw [k0_part30_eq_skeleton]
  unfold k0_part30_skel
  simp only [Prog.lift, Prog.bind_op, Prog.bind_ret, Prog.pure_eq_ret, semSignalWord, semWaitWord, wp_deviceId]
  unfold sMid
  iintro ⟨#HC, HO, H0, H1, HpS, Ha22, Hw23, Ha18, Hw2⟩ Hk
  rw [dif_neg g3]
  rw [dif_pos g4]
  iapply (wait_op m K z1 l (19 + 2 * 0) (by decide) (by decide) (by decide) ((by assumption)) _ rfl _ _ (credK _) _ _ _ _) $$ [HO Hw2]
  · isplitr; · iexact HC
    isplitl [HO]; · iexact HO
    iexact Hw2
  iintro ⟨HO, Hw2⟩
  rw [dif_pos g5]
  iapply (wait_op m K z1 l 23 (by decide) (by decide) (by decide) ((by assumption)) _ rfl _ _ (credK _) _ _ _ _) $$ [HO Hw23]
  · isplitr; · iexact HC
    isplitl [HO]; · iexact HO
    iexact Hw23
  iintro ⟨HO, Hw23⟩
  rw [dif_neg g6]
  ihave Hw23 := (wD_kL m z1 1 1 _ rfl rfl) $$ Hw23
  icases Hw23 with ⟨Ha23, Hd1, HpT⟩
  ihave Hw2 := (wD_kR m z1 0 1 _ rfl) $$ Hw2
  icases Hw2 with ⟨Ha19, Hd0⟩
  ihave HV := (kvW_v m z1) $$ [Hd0 Hd1]
  · isplitl [Hd0]; · iexact Hd0
    iexact Hd1
  iapply (ld_v m z1 0 0 0 _ _ _ _) $$ [HV]
  · iexact HV
  iintro HV
  iapply (ld_v m z1 1 0 0 _ _ _ _) $$ [HV]
  · iexact HV
  iintro HV
  iapply (ld_v m z1 0 0 1 _ _ _ _) $$ [HV]
  · iexact HV
  iintro HV
  iapply (ld_v m z1 1 0 1 _ _ _ _) $$ [HV]
  · iexact HV
  iintro HV
  rw [wp_ret]; imodintro
  iapply Hk
  isplitl [HO]; · iexact HO
  isplitl [HV]; · iexact HV
  unfold sEnd
  isplitl [H0]; · iexact H0
  isplitl [H1]; · iexact H1
  isplitl [HpS]; · iexact HpS
  isplitl [HpT]; · iexact HpT
  isplitl [Ha22]; · iexact Ha22
  isplitl [Ha23]; · iexact Ha23
  isplitl [Ha18]; · iexact Ha18
  iexact Ha19

set_option maxHeartbeats 1000000 in
theorem p30_2 (c : Dev nD) (hc : ¬c.val < 2) (l : List (GSem nD τ sig × ℕ)) (v2 : BitVec 32) (g3 : ¬k3 v2) (g4 : k4 v2) (g5 : ¬k5 v2) (g6 : k6 v2) (v148) (v171) (hb : Abv 0 l) (hb2 : Abv 2 l) (Q : _ → sProp 𝕄) :
    iprop(Ctx m K ∗ OW c l ∗ tMid c)
      ⊢ iprop((OW c l ∗ vW m c ∗ tEnd c -∗ Q ⟨k0_pay23 v148 (ldB (vAll m c) 0 0 0) (ldB (vAll m c) 1 0 0), k0_pay24 v171 (ldB (vAll m c) 0 0 1) (ldB (vAll m c) 1 0 1)⟩)
        -∗ wp frame (wpE (defs₀ (F := F)) 𝒱₀ c none) Set.univ (k0_part30 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v148 v171) Q) := by
  rw [k0_part30_eq_skeleton]
  unfold k0_part30_skel
  simp only [Prog.lift, Prog.bind_op, Prog.bind_ret, Prog.pure_eq_ret, semSignalWord, semWaitWord, wp_deviceId]
  unfold tMid
  iintro ⟨#HC, HO, Ha18, Ha20, Hw19, Hw21⟩ Hk
  rw [dif_neg g3]
  rw [dif_pos g4]
  iapply (wait_op m K c l 19 (by decide) (by decide) (by unfold live; omega) ((by assumption)) _ rfl _ _ (credK _) _ _ _ _) $$ [HO Hw19]
  · isplitr; · iexact HC
    isplitl [HO]; · iexact HO
    iexact Hw19
  iintro ⟨HO, Hw19⟩
  rw [dif_neg g5]
  rw [dif_pos g6]
  iapply (wait_op m K c l 21 (by decide) (by decide) (by unfold live; omega) ((by assumption)) _ rfl _ _ (credK _) _ _ _ _) $$ [HO Hw21]
  · isplitr; · iexact HC
    isplitl [HO]; · iexact HO
    iexact Hw21
  iintro ⟨HO, Hw21⟩
  ihave Hw19 := (wD_kR m c 0 1 _ rfl) $$ Hw19
  icases Hw19 with ⟨Ha19, Hd0⟩
  ihave Hw21 := (wD_kR m c 1 1 _ rfl) $$ Hw21
  icases Hw21 with ⟨Ha21, Hd1⟩
  ihave HV := (kvW_v m c) $$ [Hd0 Hd1]
  · isplitl [Hd0]; · iexact Hd0
    iexact Hd1
  iapply (ld_v m c 0 0 0 _ _ _ _) $$ [HV]
  · iexact HV
  iintro HV
  iapply (ld_v m c 1 0 0 _ _ _ _) $$ [HV]
  · iexact HV
  iintro HV
  iapply (ld_v m c 0 0 1 _ _ _ _) $$ [HV]
  · iexact HV
  iintro HV
  iapply (ld_v m c 1 0 1 _ _ _ _) $$ [HV]
  · iexact HV
  iintro HV
  rw [wp_ret]; imodintro
  iapply Hk
  isplitl [HO]; · iexact HO
  isplitl [HV]; · iexact HV
  unfold tEnd
  isplitl [Ha18]; · iexact Ha18
  isplitl [Ha20]; · iexact Ha20
  isplitl [Ha19]; · iexact Ha19
  iexact Ha21

end Cert.KernelIdeal.Run

end
-- ==== Proof.Ideal.PY.lean ====
module

public import proofs.«01_k».proof.Proof.Ideal.PB

@[expose] public section

/-! # What a device starts with and ends with, for its keys and values -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-! ## Positions -/

abbrev pos (c : Dev nD) (k : ℕ) : sProp 𝕄 := atPos ER (cl c k) 0 ∅ 0
abbrev pos1 (c : Dev nD) (k : ℕ) : sProp 𝕄 := atPos ER (cl c k) 1 ∅ 0
/-- The position a cell ends at: one round on if it is used on this device. -/
def posE (c : Dev nD) (k : ℕ) : sProp 𝕄 := atPos ER (cl c k) (if live c k then 1 else 0) ∅ 0

theorem posE_live (c : Dev nD) (k : ℕ) (h : live c k) : (posE c k : sProp 𝕄) = pos1 c k := by unfold posE pos1; rw [if_pos h]
theorem posE_not (c : Dev nD) (k : ℕ) (h : ¬live c k) : (posE c k : sProp 𝕄) = pos c k := by unfold posE pos; rw [if_neg h]

theorem ico_app {a b c : ℕ} (h : a ≤ b) (h' : b ≤ c) (Φ : ℕ → sProp 𝕄) : bigSep (Finset.Ico a c) Φ = iprop(bigSep (Finset.Ico a b) Φ ∗ bigSep (Finset.Ico b c) Φ) :=
  by rw [← Finset.Ico_union_Ico_eq_Ico h h']; exact bigSep_union (Finset.Ico_disjoint_Ico_consecutive a b c)
theorem ico_shift (a n : ℕ) (Φ : ℕ → sProp 𝕄) : bigSep (Finset.Ico a (a + n)) Φ = bigSep (Finset.Ico 0 n) fun i => Φ (a + i) := by
  induction n with
  | zero => rw [Nat.add_zero, Finset.Ico_self, Finset.Ico_self, bigSep_empty, bigSep_empty]
  | succ n ih =>
    rw [← Nat.add_assoc, bigSep_Ico_succ_top (by omega), bigSep_Ico_succ_top (Nat.zero_le n), ih]
theorem ico_one (a : ℕ) (Φ : ℕ → sProp 𝕄) : bigSep (Finset.Ico a (a + 1)) Φ = Φ a := bigSep_Ico_one a Φ

theorem ico20 (Φ : ℕ → sProp 𝕄) : bigSep (Finset.Ico 4 24) Φ
    = iprop(bigSep (Finset.Ico 0 14) (fun i => Φ (4 + i)) ∗ Φ 18 ∗ Φ 19 ∗ Φ 20 ∗ Φ 21 ∗ Φ 22 ∗ Φ 23) := by
  rw [ico_app (b := 18) (by decide) (by decide), ico_app (a := 18) (b := 19) (by decide) (by decide), ico_app (a := 19) (b := 20) (by decide) (by decide),
    ico_app (a := 20) (b := 21) (by decide) (by decide), ico_app (a := 21) (b := 22) (by decide) (by decide), ico_app (a := 22) (b := 23) (by decide) (by decide),
    ico_one 18, ico_one 19, ico_one 20, ico_one 21, ico_one 22, ico_one 23, ico_shift 4 14]
theorem ico4 (Φ : ℕ → sProp 𝕄) : bigSep (Finset.Ico 18 22) Φ = iprop(Φ 18 ∗ Φ 19 ∗ Φ 20 ∗ Φ 21) := by
  rw [ico_app (a := 18) (b := 19) (by decide) (by decide), ico_app (a := 19) (b := 20) (by decide) (by decide),
    ico_app (a := 20) (b := 21) (by decide) (by decide), ico_one 18, ico_one 19, ico_one 20, ico_one 21]
theorem ico30 (Φ : ℕ → sProp 𝕄) : bigSep (Finset.Ico 24 54) Φ
    = iprop(bigSep (Finset.Ico 0 7) (fun i => Φ (24 + i)) ∗ Φ 31 ∗ bigSep (Finset.Ico 0 7) (fun i => Φ (32 + i))
      ∗ bigSep (Finset.Ico 0 7) (fun i => Φ (39 + i)) ∗ Φ 46 ∗ bigSep (Finset.Ico 0 7) (fun i => Φ (47 + i))) := by
  rw [ico_app (b := 31) (by decide) (by decide), ico_app (a := 31) (b := 32) (by decide) (by decide), ico_app (a := 32) (b := 39) (by decide) (by decide),
    ico_app (a := 39) (b := 46) (by decide) (by decide), ico_app (a := 46) (b := 47) (by decide) (by decide), ico_one 31, ico_one 46, ico_shift 24 7, ico_shift 32 7, ico_shift 39 7, ico_shift 47 7]

theorem evens (Φ : ℕ → sProp 𝕄) (k : ℕ) : bigSep (Finset.Ico 0 (2 * k)) Φ
    ⊣⊢ iprop(bigSep (Finset.Ico 0 k) (fun n => Φ (2 * n)) ∗ bigSep (Finset.Ico 0 k) (fun n => Φ (2 * n + 1))) := by
  induction k with
  | zero =>
    rw [Nat.mul_zero, Finset.Ico_self, bigSep_empty, bigSep_empty, bigSep_empty]
    constructor
    · iintro -; isplitr; · iempintro
      iempintro
    · iintro -; iempintro
  | succ k ih =>
    rw [show 2 * (k + 1) = 2 * k + 1 + 1 by omega, ico_app (b := 2 * k + 1) (by omega) (by omega), ico_app (b := 2 * k) (by omega) (by omega), ico_one, ico_one,
      ico_app (b := k) (by omega) (by omega) (fun n => Φ (2 * n)), ico_app (b := k) (by omega) (by omega) (fun n => Φ (2 * n + 1)), ico_one, ico_one]
    constructor
    · iintro ⟨⟨H, H1⟩, H2⟩
      ihave H := ih.1 $$ H
      icases H with ⟨H3, H4⟩
      isplitl [H3 H1]
      · isplitl [H3]; · iexact H3
        iexact H1
      isplitl [H4]; · iexact H4
      iexact H2
    · iintro ⟨⟨H3, H1⟩, H4, H2⟩
      isplitr [H2]
      · isplitr [H1]
        · iapply ih.2
          isplitl [H3]; · iexact H3
          iexact H4
        iexact H1
      iexact H2

/-- Waits ready to be made: the credits and the positions. -/
theorem wmk (c : Dev nD) (b n : ℕ) : iprop(bigSep (Finset.Ico 0 n) (fun i => crd c (b + i)) ∗ bigSep (Finset.Ico 0 n) (fun i => pos c (b + i)))
    ⊢ grp 0 n 0 (fun i => wT c (b + i)) (fun i => wD m c (b + i)) := by
  rw [← bsep]
  refine strans (bmono fun i _ => ?_) grp_start
  unfold wT pos; exact BI.Entails.refl _

/-! ## A device's keys and values -/

def kTok (c : Dev nD) (t : Fin 2) : sProp 𝕄 := bigSep (Finset.Ico 0 7) fun n =>
  iprop(dutyTok ER (cl c (4 + 2 * n + t.val)) 0 0 ∗ dutyTok ER (cl (kd c n) (18 + 2 * c.val + t.val)) 0 0)
def kvTok (c : Dev nD) : sProp 𝕄 :=
  if c.val < 2 then iprop(kTok c 0 ∗ kTok c 1 ∗ dutyTok ER (cl c 22) 0 0 ∗ dutyTok ER (cl c 23) 0 0) else iprop(emp)
def crdL (c : Dev nD) (k : ℕ) : sProp 𝕄 := if live c k then crd c k else iprop(emp)

/-- What a device needs for its share of the keys and values. -/
def kvPre (c : Dev nD) : sProp 𝕄 :=
  iprop(kvTok c ∗ barKV c c ∗ kvSW 0 c (kvV m 0 c) ∗ kvSW 1 c (kvV m 1 c) ∗ bigSep (Finset.Ico 4 24) (pos c) ∗ bigSep (Finset.Ico 18 22) (crdL c))
/-- What it is left with. -/
def kvFin (c : Dev nD) : sProp 𝕄 :=
  iprop(kvSW 0 c (kvV m 0 c) ∗ kvSW 1 c (kvV m 1 c) ∗ bigSep (Finset.Ico 4 24) (posE c))

theorem kU_mk (c : Dev nD) (t : Fin 2) : iprop(kTok c t ∗ bigSep (Finset.Ico 0 7) fun n => pS t (kd c n) c (kvV m t c)) ⊢ bigSep (Finset.Ico 0 7) (kU m c t) := by
  unfold kTok
  rw [← bsep]
  refine bmono fun n _ => ?_
  unfold kU
  iintro ⟨⟨H1, H2⟩, H3⟩
  isplitl [H1]; · iexact H1
  isplitl [H2]; · iexact H2
  iexact H3

theorem src_open_0 : kvPre m z0 ⊢ iprop(sPre m z0 1 ∗ bigSep (Finset.Ico 0 14) (fun i => pos z0 (4 + i)) ∗ pos z0 18 ∗ pos z0 19) := by
  unfold kvPre kvTok barKV
  rw [ico20, ico4, if_pos (by decide), if_pos (by decide), kvS_cut 0 z0 (by decide), kvS_cut 1 z0 (by decide)]
  unfold crdL
  rw [if_neg (show ¬live z0 18 by decide), if_neg (show ¬live z0 19 by decide), if_pos (show live z0 20 by decide), if_pos (show live z0 21 by decide)]
  iintro ⟨⟨HT0, HT1, H22, H23⟩, ⟨HB0, HB1⟩, ⟨HS0, HK0⟩, ⟨HS1, HK1⟩, ⟨Hq, Hp18, Hp19, Hp20, Hp21, Hp22, Hp23⟩, Hc18, Hc19, Hc20, Hc21⟩
  isplitr [Hq Hp18 Hp19]
  · unfold sPre lT wT
    isplitl [HT0 HK0]
    · iapply (kU_mk m z0 0)
      isplitl [HT0]; · iexact HT0
      iexact HK0
    isplitl [HT1 HK1]
    · iapply (kU_mk m z0 1)
      isplitl [HT1]; · iexact HT1
      iexact HK1
    isplitl [H22 HS0 HB0]
    · isplitl [H22]; · iexact H22
      isplitl [HS0]; · iexact HS0
      iexact HB0
    isplitl [H23 HS1 HB1]
    · isplitl [H23]; · iexact H23
      isplitl [HS1]; · iexact HS1
      iexact HB1
    isplitl [Hp22]; · iexact Hp22
    isplitl [Hp23]; · iexact Hp23
    isplitl [Hc20 Hp20]
    · isplitl [Hc20]; · iexact Hc20
      iexact Hp20
    isplitl [Hc21]; · iexact Hc21
    iexact Hp21
  isplitl [Hq]; · iexact Hq
  isplitl [Hp18]; · iexact Hp18
  iexact Hp19

theorem src_waits_0 : iprop(bigSep (Finset.Ico 0 7) (kD z0 0) ∗ bigSep (Finset.Ico 0 7) (kD z0 1) ∗ bigSep (Finset.Ico 0 14) (fun i => pos z0 (4 + i)))
    ⊢ grp 0 14 0 (fun i => wT z0 (4 + i)) (fun i => wD m z0 (4 + i)) := by
  iintro ⟨H0, H1, Hq⟩
  iapply (wmk m z0 4 14)
  isplitr [Hq]
  · iapply (evens (fun i => crd z0 (4 + i)) 7).2
    isplitl [H0]
    · iapply (Entails.of_eq (bigSep_congr fun n _ => ?_)) $$ H0
      rfl
    iapply (Entails.of_eq (bigSep_congr fun n _ => ?_)) $$ H1
    rfl
  iexact Hq

theorem src_close_0 : iprop(grp 0 14 14 (fun i => wT z0 (4 + i)) (fun i => wD m z0 (4 + i)) ∗ pS 0 z0 z0 (kvV m 0 z0) ∗ pS 1 z0 z0 (kvV m 1 z0)
      ∗ pos1 z0 22 ∗ pos1 z0 23 ∗ pos1 z0 20 ∗ pos1 z0 21 ∗ pos z0 18 ∗ pos z0 19) ⊢ kvFin m z0 := by
  unfold kvFin
  rw [ico20, kvS_cut 0 z0 (by decide), kvS_cut 1 z0 (by decide), bigSep_congr (fun i hi => posE_live z0 (4 + i) (Or.inl ⟨by omega, by have := (Finset.mem_Ico.mp hi).2; omega, by decide⟩)),
    posE_live z0 22 (by decide), posE_live z0 23 (by decide), posE_live z0 20 (by decide), posE_live z0 21 (by decide), posE_not z0 18 (by decide), posE_not z0 19 (by decide)]
  refine strans (smono grp_end14 (BI.Entails.refl _)) ?_
  rw [wD_split]
  iintro ⟨⟨Hq, Hc⟩, HS0, HS1, Hp22, Hp23, Hp20, Hp21, Hp18, Hp19⟩
  ihave Hc := (evens (fun i => cellPay m z0 (4 + i)) 7).1 $$ Hc
  icases Hc with ⟨H0, H1⟩
  isplitl [HS0 H0]
  · isplitl [HS0]; · iexact HS0
    iapply (Entails.of_eq (bigSep_congr fun n hn => ?_)) $$ H0
    exact cellPay_kS m z0 (Finset.mem_Ico.mp hn).2 0
  isplitl [HS1 H1]
  · isplitl [HS1]; · iexact HS1
    iapply (Entails.of_eq (bigSep_congr fun n hn => ?_)) $$ H1
    exact cellPay_kS m z0 (Finset.mem_Ico.mp hn).2 1
  isplitl [Hq]; · iexact Hq
  isplitl [Hp18]; · iexact Hp18
  isplitl [Hp19]; · iexact Hp19
  isplitl [Hp20]; · iexact Hp20
  isplitl [Hp21]; · iexact Hp21
  isplitl [Hp22]; · iexact Hp22
  iexact Hp23

theorem src_open_1 : kvPre m z1 ⊢ iprop(sPre m z1 0 ∗ bigSep (Finset.Ico 0 14) (fun i => pos z1 (4 + i)) ∗ pos z1 20 ∗ pos z1 21) := by
  unfold kvPre kvTok barKV
  rw [ico20, ico4, if_pos (by decide), if_pos (by decide), kvS_cut 0 z1 (by decide), kvS_cut 1 z1 (by decide)]
  unfold crdL
  rw [if_pos (show live z1 18 by decide), if_pos (show live z1 19 by decide), if_neg (show ¬live z1 20 by decide), if_neg (show ¬live z1 21 by decide)]
  iintro ⟨⟨HT0, HT1, H22, H23⟩, ⟨HB0, HB1⟩, ⟨HS0, HK0⟩, ⟨HS1, HK1⟩, ⟨Hq, Hp18, Hp19, Hp20, Hp21, Hp22, Hp23⟩, Hc18, Hc19, Hc20, Hc21⟩
  isplitr [Hq Hp20 Hp21]
  · unfold sPre lT wT
    isplitl [HT0 HK0]
    · iapply (kU_mk m z1 0)
      isplitl [HT0]; · iexact HT0
      iexact HK0
    isplitl [HT1 HK1]
    · iapply (kU_mk m z1 1)
      isplitl [HT1]; · iexact HT1
      iexact HK1
    isplitl [H22 HS0 HB0]
    · isplitl [H22]; · iexact H22
      isplitl [HS0]; · iexact HS0
      iexact HB0
    isplitl [H23 HS1 HB1]
    · isplitl [H23]; · iexact H23
      isplitl [HS1]; · iexact HS1
      iexact HB1
    isplitl [Hp22]; · iexact Hp22
    isplitl [Hp23]; · iexact Hp23
    isplitl [Hc18 Hp18]
    · isplitl [Hc18]; · iexact Hc18
      iexact Hp18
    isplitl [Hc19]; · iexact Hc19
    iexact Hp19
  isplitl [Hq]; · iexact Hq
  isplitl [Hp20]; · iexact Hp20
  iexact Hp21

theorem src_waits_1 : iprop(bigSep (Finset.Ico 0 7) (kD z1 0) ∗ bigSep (Finset.Ico 0 7) (kD z1 1) ∗ bigSep (Finset.Ico 0 14) (fun i => pos z1 (4 + i)))
    ⊢ grp 0 14 0 (fun i => wT z1 (4 + i)) (fun i => wD m z1 (4 + i)) := by
  iintro ⟨H0, H1, Hq⟩
  iapply (wmk m z1 4 14)
  isplitr [Hq]
  · iapply (evens (fun i => crd z1 (4 + i)) 7).2
    isplitl [H0]
    · iapply (Entails.of_eq (bigSep_congr fun n _ => ?_)) $$ H0
      rfl
    iapply (Entails.of_eq (bigSep_congr fun n _ => ?_)) $$ H1
    rfl
  iexact Hq

theorem src_close_1 : iprop(grp 0 14 14 (fun i => wT z1 (4 + i)) (fun i => wD m z1 (4 + i)) ∗ pS 0 z1 z1 (kvV m 0 z1) ∗ pS 1 z1 z1 (kvV m 1 z1)
      ∗ pos1 z1 22 ∗ pos1 z1 23 ∗ pos1 z1 18 ∗ pos1 z1 19 ∗ pos z1 20 ∗ pos z1 21) ⊢ kvFin m z1 := by
  unfold kvFin
  rw [ico20, kvS_cut 0 z1 (by decide), kvS_cut 1 z1 (by decide), bigSep_congr (fun i hi => posE_live z1 (4 + i) (Or.inl ⟨by omega, by have := (Finset.mem_Ico.mp hi).2; omega, by decide⟩)),
    posE_live z1 22 (by decide), posE_live z1 23 (by decide), posE_live z1 18 (by decide), posE_live z1 19 (by decide), posE_not z1 20 (by decide), posE_not z1 21 (by decide)]
  refine strans (smono grp_end14 (BI.Entails.refl _)) ?_
  rw [wD_split]
  iintro ⟨⟨Hq, Hc⟩, HS0, HS1, Hp22, Hp23, Hp18, Hp19, Hp20, Hp21⟩
  ihave Hc := (evens (fun i => cellPay m z1 (4 + i)) 7).1 $$ Hc
  icases Hc with ⟨H0, H1⟩
  isplitl [HS0 H0]
  · isplitl [HS0]; · iexact HS0
    iapply (Entails.of_eq (bigSep_congr fun n hn => ?_)) $$ H0
    exact cellPay_kS m z1 (Finset.mem_Ico.mp hn).2 0
  isplitl [HS1 H1]
  · isplitl [HS1]; · iexact HS1
    iapply (Entails.of_eq (bigSep_congr fun n hn => ?_)) $$ H1
    exact cellPay_kS m z1 (Finset.mem_Ico.mp hn).2 1
  isplitl [Hq]; · iexact Hq
  isplitl [Hp18]; · iexact Hp18
  isplitl [Hp19]; · iexact Hp19
  isplitl [Hp20]; · iexact Hp20
  isplitl [Hp21]; · iexact Hp21
  isplitl [Hp22]; · iexact Hp22
  iexact Hp23

theorem oth_open (c : Dev nD) (hc : ¬c.val < 2) : kvPre m c ⊢ iprop(tPre c ∗ kvSW 0 c (kvV m 0 c) ∗ kvSW 1 c (kvV m 1 c) ∗ bigSep (Finset.Ico 0 14) (fun i => pos c (4 + i)) ∗ pos c 22 ∗ pos c 23) := by
  unfold kvPre kvTok barKV
  rw [ico20, ico4, if_neg hc, if_neg hc]
  unfold crdL
  rw [if_pos (show live c 18 by unfold live; omega), if_pos (show live c 19 by unfold live; omega), if_pos (show live c 20 by unfold live; omega), if_pos (show live c 21 by unfold live; omega)]
  iintro ⟨-, -, HS0, HS1, ⟨Hq, Hp18, Hp19, Hp20, Hp21, Hp22, Hp23⟩, Hc18, Hc19, Hc20, Hc21⟩
  isplitr [HS0 HS1 Hq Hp22 Hp23]
  · unfold tPre wT
    isplitl [Hc18 Hp18]
    · isplitl [Hc18]; · iexact Hc18
      iexact Hp18
    isplitl [Hc20 Hp20]
    · isplitl [Hc20]; · iexact Hc20
      iexact Hp20
    isplitl [Hc19 Hp19]
    · isplitl [Hc19]; · iexact Hc19
      iexact Hp19
    isplitl [Hc21]; · iexact Hc21
    iexact Hp21
  isplitl [HS0]; · iexact HS0
  isplitl [HS1]; · iexact HS1
  isplitl [Hq]; · iexact Hq
  isplitl [Hp22]; · iexact Hp22
  iexact Hp23

theorem oth_close (c : Dev nD) (hc : ¬c.val < 2) : iprop(tEnd c ∗ kvSW 0 c (kvV m 0 c) ∗ kvSW 1 c (kvV m 1 c) ∗ bigSep (Finset.Ico 0 14) (fun i => pos c (4 + i)) ∗ pos c 22 ∗ pos c 23) ⊢ kvFin m c := by
  unfold kvFin tEnd
  rw [ico20, bigSep_congr (fun i hi => posE_not c (4 + i) (by have := (Finset.mem_Ico.mp hi).2; unfold live; omega)),
    posE_live c 18 (show live c 18 by unfold live; omega), posE_live c 19 (show live c 19 by unfold live; omega), posE_live c 20 (show live c 20 by unfold live; omega), posE_live c 21 (show live c 21 by unfold live; omega), posE_not c 22 (show ¬live c 22 by unfold live; omega), posE_not c 23 (show ¬live c 23 by unfold live; omega)]
  iintro ⟨⟨Hp18, Hp20, Hp19, Hp21⟩, HS0, HS1, Hq, Hp22, Hp23⟩
  isplitl [HS0]; · iexact HS0
  isplitl [HS1]; · iexact HS1
  isplitl [Hq]; · iexact Hq
  isplitl [Hp18]; · iexact Hp18
  isplitl [Hp19]; · iexact Hp19
  isplitl [Hp20]; · iexact Hp20
  isplitl [Hp21]; · iexact Hp21
  isplitl [Hp22]; · iexact Hp22
  iexact Hp23

end Cert.KernelIdeal.Run

end
-- ==== Proof.Ideal.PX.lean ====
module

public import proofs.«01_k».proof.Proof.Ideal.PY

@[expose] public section

/-! # Parts 24 and 30, on any device -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-- The core's place in the mesh, as the kernel computes it. -/
abbrev w2 (c : Dev nD) : BitVec 32 := Scalar.remsi (Scalar.divsi (Dev.word c) 1#32) 8#32

theorem dev3 (c : Dev nD) : c = z0 ∨ c = z1 ∨ ¬c.val < 2 := by revert c; decide
theorem w3 (c : Dev nD) (h : ¬c.val < 2) : ¬k3 (w2 c) := by revert c; decide
theorem w4 (c : Dev nD) (h : ¬c.val < 2) : k4 (w2 c) := by revert c; decide
theorem w5 (c : Dev nD) (h : ¬c.val < 2) : ¬k5 (w2 c) := by revert c; decide
theorem w6 (c : Dev nD) (h : ¬c.val < 2) : k6 (w2 c) := by revert c; decide
theorem n1 (c : Dev nD) (h : ¬c.val < 2) : ¬k0_cond1 c = 1#1 := by revert c; decide
theorem n2 (c : Dev nD) (h : ¬c.val < 2) : ¬k0_cond2 c = 1#1 := by revert c; decide

/-- A device's keys and values once its keys are complete. -/
def kvMid (c : Dev nD) : sProp 𝕄 :=
  iprop((⌜c = z0⌝ ∗ sMid m z0 1 ∗ bigSep (Finset.Ico 0 14) (fun i => pos z0 (4 + i)) ∗ pos z0 18 ∗ pos z0 19)
    ∨ (⌜c = z1⌝ ∗ sMid m z1 0 ∗ bigSep (Finset.Ico 0 14) (fun i => pos z1 (4 + i)) ∗ pos z1 20 ∗ pos z1 21)
    ∨ (⌜¬c.val < 2⌝ ∗ tMid c ∗ kvSW 0 c (kvV m 0 c) ∗ kvSW 1 c (kvV m 1 c) ∗ bigSep (Finset.Ico 0 14) (fun i => pos c (4 + i)) ∗ pos c 22 ∗ pos c 23))
/-- The same once its values are complete too. -/
def kvEnd (c : Dev nD) : sProp 𝕄 :=
  iprop((⌜c = z0⌝ ∗ sEnd m z0 1 ∗ bigSep (Finset.Ico 0 14) (fun i => pos z0 (4 + i)) ∗ pos z0 18 ∗ pos z0 19)
    ∨ (⌜c = z1⌝ ∗ sEnd m z1 0 ∗ bigSep (Finset.Ico 0 14) (fun i => pos z1 (4 + i)) ∗ pos z1 20 ∗ pos z1 21)
    ∨ (⌜¬c.val < 2⌝ ∗ tEnd c ∗ kvSW 0 c (kvV m 0 c) ∗ kvSW 1 c (kvV m 1 c) ∗ bigSep (Finset.Ico 0 14) (fun i => pos c (4 + i)) ∗ pos c 22 ∗ pos c 23))

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

theorem p24 (c : Dev nD) (l : List (GSem nD τ sig × ℕ)) (v96) (x) (ha : Abv 1 (kL c 0 0 ++ (kL c 1 0 ++ l))) (hb : Abv 0 l) (hb2 : Abv 2 l) (Q : _ → sProp 𝕄) :
    iprop(Ctx m K ∗ rch c ∗ OW c (kL c 0 0 ++ (kL c 1 0 ++ l)) ∗ cred (tallyAt (bcl c) () 7) ∗ atPos ER (bcl c) 0 ∅ 0 ∗ owns (c : Thread nD τ) A1 fullShare x ∗ kvPre m c)
      ⊢ iprop((RA ∗ OW c l ∗ atPos ER (bcl c) 1 ∅ 0 ∗ bigSep (Finset.Ico 0 7) (rP c) ∗ bigSep (Finset.Ico 0 7) (gP c) ∗ owns (c : Thread nD τ) A1 fullShare x ∗ kW m c ∗ kvMid m c -∗ Q ⟨k0_pay2 v96 x, k0_pay3, k0_pay4 v96 x, k0_pay5 v96 x⟩)
        -∗ wp frame (wpE (defs₀ (F := F)) 𝒱₀ c none) Set.univ (k0_part24 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c (w2 c) (SemArray.scalar (sig.barrier 0 rfl) : Sems sig S_) v96) Q) := by
  rcases dev3 c with rfl | rfl | hc
  · iintro ⟨#HC, #Hr, HO, Hcr, Hat, HA, Hkv⟩ Hk
    ihave Hkv := (src_open_0 m) $$ Hkv
    icases Hkv with ⟨Hs, Hq, Hp1, Hp2⟩
    iapply (p24_0 m K A0 h0 A1 h1 A4 h4 A5 h5 l (w2 z0) (by decide) (by decide) (by decide) (by decide) v96 x ha hb hb2 _) $$ [HO Hcr Hat HA Hs]
    · isplitr; · iexact HC
      isplitr; · iexact Hr
      isplitl [HO]; · iexact HO
      isplitl [Hcr]; · iexact Hcr
      isplitl [Hat]; · iexact Hat
      isplitl [HA]; · iexact HA
      iexact Hs
    iintro ⟨#HR, HO, Hat, HrP, HgP, HA, HK, Hs⟩
    iapply Hk
    isplitr; · iexact HR
    isplitl [HO]; · iexact HO
    isplitl [Hat]; · iexact Hat
    isplitl [HrP]; · iexact HrP
    isplitl [HgP]; · iexact HgP
    isplitl [HA]; · iexact HA
    isplitl [HK]; · iexact HK
    unfold kvMid; ileft
    isplitr; · ipureintro; first | rfl | exact hc
    isplitl [Hs]; · iexact Hs
    isplitl [Hq]; · iexact Hq
    isplitl [Hp1]; · iexact Hp1
    iexact Hp2
  · iintro ⟨#HC, #Hr, HO, Hcr, Hat, HA, Hkv⟩ Hk
    ihave Hkv := (src_open_1 m) $$ Hkv
    icases Hkv with ⟨Hs, Hq, Hp1, Hp2⟩
    iapply (p24_1 m K A0 h0 A1 h1 A4 h4 A5 h5 l (w2 z1) (by decide) (by decide) (by decide) (by decide) v96 x ha hb hb2 _) $$ [HO Hcr Hat HA Hs]
    · isplitr; · iexact HC
      isplitr; · iexact Hr
      isplitl [HO]; · iexact HO
      isplitl [Hcr]; · iexact Hcr
      isplitl [Hat]; · iexact Hat
      isplitl [HA]; · iexact HA
      iexact Hs
    iintro ⟨#HR, HO, Hat, HrP, HgP, HA, HK, Hs⟩
    iapply Hk
    isplitr; · iexact HR
    isplitl [HO]; · iexact HO
    isplitl [Hat]; · iexact Hat
    isplitl [HrP]; · iexact HrP
    isplitl [HgP]; · iexact HgP
    isplitl [HA]; · iexact HA
    isplitl [HK]; · iexact HK
    unfold kvMid; iright; ileft
    isplitr; · ipureintro; first | rfl | exact hc
    isplitl [Hs]; · iexact Hs
    isplitl [Hq]; · iexact Hq
    isplitl [Hp1]; · iexact Hp1
    iexact Hp2
  · iintro ⟨#HC, #Hr, HO, Hcr, Hat, HA, Hkv⟩ Hk
    ihave Hkv := (oth_open m c hc) $$ Hkv
    icases Hkv with ⟨Hs, HS0, HS1, Hq, Hp1, Hp2⟩
    iapply (p24_2 m K A0 h0 A1 h1 A4 h4 A5 h5 c hc l (w2 c) (w3 c hc) (w4 c hc) (w5 c hc) (w6 c hc) (n1 c hc) (n2 c hc) v96 x ha hb hb2 _) $$ [HO Hcr Hat HA Hs]
    · isplitr; · iexact HC
      isplitr; · iexact Hr
      isplitl [HO]; · iexact HO
      isplitl [Hcr]; · iexact Hcr
      isplitl [Hat]; · iexact Hat
      isplitl [HA]; · iexact HA
      iexact Hs
    iintro ⟨#HR, HO, Hat, HrP, HgP, HA, HK, Hs⟩
    iapply Hk
    isplitr; · iexact HR
    isplitl [HO]; · iexact HO
    isplitl [Hat]; · iexact Hat
    isplitl [HrP]; · iexact HrP
    isplitl [HgP]; · iexact HgP
    isplitl [HA]; · iexact HA
    isplitl [HK]; · iexact HK
    unfold kvMid; iright; iright
    isplitr; · ipureintro; first | rfl | exact hc
    isplitl [Hs]; · iexact Hs
    isplitl [HS0]; · iexact HS0
    isplitl [HS1]; · iexact HS1
    isplitl [Hq]; · iexact Hq
    isplitl [Hp1]; · iexact Hp1
    iexact Hp2

theorem p30 (c : Dev nD) (l : List (GSem nD τ sig × ℕ)) (v148) (v171) (hb : Abv 0 l) (hb2 : Abv 2 l) (Q : _ → sProp 𝕄) :
    iprop(Ctx m K ∗ OW c l ∗ kvMid m c)
      ⊢ iprop((OW c l ∗ vW m c ∗ kvEnd m c -∗ Q ⟨k0_pay23 v148 (ldB (vAll m c) 0 0 0) (ldB (vAll m c) 1 0 0), k0_pay24 v171 (ldB (vAll m c) 0 0 1) (ldB (vAll m c) 1 0 1)⟩)
        -∗ wp frame (wpE (defs₀ (F := F)) 𝒱₀ c none) Set.univ (k0_part30 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 (w2 c) v148 v171) Q) := by
  unfold kvMid
  iintro ⟨#HC, HO, Hm⟩ Hk
  icases Hm with (⟨%hc, Hs, Hq, Hp1, Hp2⟩ | ⟨%hc, Hs, Hq, Hp1, Hp2⟩ | ⟨%hc, Hs, HS0, HS1, Hq, Hp1, Hp2⟩)
  · subst hc
    iapply (p30_0 m K A0 h0 A1 h1 A4 h4 A5 h5 l (w2 z0) (by decide) (by decide) (by decide) (by decide) v148 v171 hb hb2 _) $$ [HO Hs]
    · isplitr; · iexact HC
      isplitl [HO]; · iexact HO
      iexact Hs
    iintro ⟨HO, HV, Hs⟩
    iapply Hk
    isplitl [HO]; · iexact HO
    isplitl [HV]; · iexact HV
    unfold kvEnd; ileft
    isplitr; · ipureintro; first | rfl | exact hc
    isplitl [Hs]; · iexact Hs
    isplitl [Hq]; · iexact Hq
    isplitl [Hp1]; · iexact Hp1
    iexact Hp2
  · subst hc
    iapply (p30_1 m K A0 h0 A1 h1 A4 h4 A5 h5 l (w2 z1) (by decide) (by decide) (by decide) (by decide) v148 v171 hb hb2 _) $$ [HO Hs]
    · isplitr; · iexact HC
      isplitl [HO]; · iexact HO
      iexact Hs
    iintro ⟨HO, HV, Hs⟩
    iapply Hk
    isplitl [HO]; · iexact HO
    isplitl [HV]; · iexact HV
    unfold kvEnd; iright; ileft
    isplitr; · ipureintro; first | rfl | exact hc
    isplitl [Hs]; · iexact Hs
    isplitl [Hq]; · iexact Hq
    isplitl [Hp1]; · iexact Hp1
    iexact Hp2
  · iapply (p30_2 m K A0 h0 A1 h1 A4 h4 A5 h5 c hc l (w2 c) (w3 c hc) (w4 c hc) (w5 c hc) (w6 c hc) v148 v171 hb hb2 _) $$ [HO Hs]
    · isplitr; · iexact HC
      isplitl [HO]; · iexact HO
      iexact Hs
    iintro ⟨HO, HV, Hs⟩
    iapply Hk
    isplitl [HO]; · iexact HO
    isplitl [HV]; · iexact HV
    unfold kvEnd; iright; iright
    isplitr; · ipureintro; first | rfl | exact hc
    isplitl [Hs]; · iexact Hs
    isplitl [HS0]; · iexact HS0
    isplitl [HS1]; · iexact HS1
    isplitl [Hq]; · iexact Hq
    isplitl [Hp1]; · iexact Hp1
    iexact Hp2

end Cert.KernelIdeal.Run

end
-- ==== Proof.Ideal.PC.lean ====
module

public import proofs.«01_k».proof.Proof.Ideal.Mem

@[expose] public section

/-! # The attention of one device: loads of keys and values, and the partial product -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

theorem p25 (c : Dev nD)  (v111 : IVec S128x256 1) (v125 : FVec F S128x4x64 .f32) (v127 : FVec F S128x64 .f32) (Q : _ → sProp 𝕄) :
    iprop(kW m c)
      ⊢ iprop((kW m c -∗ Q ⟨k0_pay6 v111 v127 (ldB (kAll m c) 0 0 0) (ldB (kAll m c) 1 0 0), k0_pay7 v111 v125 (ldB (kAll m c) 0 0 1) (ldB (kAll m c) 1 0 1), k0_pay8 v111 v125 (ldB (kAll m c) 0 0 1) (ldB (kAll m c) 1 0 1)⟩)
        -∗ wp frame (wpE (defs₀ (F := F)) 𝒱₀ c none) Set.univ (k0_part25 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v111 v125 v127) Q) := by
  rw [k0_part25_eq_skeleton]
  unfold k0_part25_skel
  simp only [Prog.lift, Prog.bind_op, Prog.bind_ret, Prog.pure_eq_ret, semSignalWord, semWaitWord, wp_deviceId]
  iintro HK Hk
  iapply (ld_k m c 0 0 0 _ _ _ _) $$ [HK]
  · iexact HK
  iintro HK
  iapply (ld_k m c 1 0 0 _ _ _ _) $$ [HK]
  · iexact HK
  iintro HK
  iapply (ld_k m c 0 0 1 _ _ _ _) $$ [HK]
  · iexact HK
  iintro HK
  iapply (ld_k m c 1 0 1 _ _ _ _) $$ [HK]
  · iexact HK
  iintro HK
  rw [wp_ret]; imodintro
  iapply Hk
  iexact HK

theorem p26 (c : Dev nD)  (v111 : IVec S128x256 1) (v125 : FVec F S128x4x64 .f32) (v161 : FVec F S128x256 .f32) (v162 : FVec F S128 .f32) (Q : _ → sProp 𝕄) :
    iprop(kW m c)
      ⊢ iprop((kW m c -∗ Q ⟨k0_pay9 v161 v162, k0_pay10 v111 v125 (ldB (kAll m c) 0 0 2) (ldB (kAll m c) 1 0 2), k0_pay11 v125, k0_pay12 (ldB (kAll m c) 0 0 3)⟩)
        -∗ wp frame (wpE (defs₀ (F := F)) 𝒱₀ c none) Set.univ (k0_part26 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v111 v125 v161 v162) Q) := by
  rw [k0_part26_eq_skeleton]
  unfold k0_part26_skel
  simp only [Prog.lift, Prog.bind_op, Prog.bind_ret, Prog.pure_eq_ret, semSignalWord, semWaitWord, wp_deviceId]
  iintro HK Hk
  iapply (ld_k m c 0 0 2 _ _ _ _) $$ [HK]
  · iexact HK
  iintro HK
  iapply (ld_k m c 1 0 2 _ _ _ _) $$ [HK]
  · iexact HK
  iintro HK
  iapply (ld_k m c 0 0 3 _ _ _ _) $$ [HK]
  · iexact HK
  iintro HK
  rw [wp_ret]; imodintro
  iapply Hk
  iexact HK

theorem p27 (c : Dev nD)  (v100 : FVec F S256x256 .f32) (v111 : IVec S128x256 1) (v196 : FVec F S128x64 .f32) (v198 : FVec F S64x128 .bf16) (Q : _ → sProp 𝕄) :
    iprop(kW m c)
      ⊢ iprop((kW m c -∗ Q ⟨k0_pay13 v111 v196 v198 (ldB (kAll m c) 1 0 3), k0_pay14 v100, k0_pay15 v100 v111 (ldB (kAll m c) 0 1 0) (ldB (kAll m c) 1 1 0)⟩)
        -∗ wp frame (wpE (defs₀ (F := F)) 𝒱₀ c none) Set.univ (k0_part27 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v100 v111 v196 v198) Q) := by
  rw [k0_part27_eq_skeleton]
  unfold k0_part27_skel
  simp only [Prog.lift, Prog.bind_op, Prog.bind_ret, Prog.pure_eq_ret, semSignalWord, semWaitWord, wp_deviceId]
  iintro HK Hk
  iapply (ld_k m c 1 0 3 _ _ _ _) $$ [HK]
  · iexact HK
  iintro HK
  iapply (ld_k m c 0 1 0 _ _ _ _) $$ [HK]
  · iexact HK
  iintro HK
  iapply (ld_k m c 1 1 0 _ _ _ _) $$ [HK]
  · iexact HK
  iintro HK
  rw [wp_ret]; imodintro
  iapply Hk
  iexact HK

theorem p28 (c : Dev nD)  (v111 : IVec S128x256 1) (v219 : FVec F S128x4x64 .f32) (v237 : FVec F S128x256 .f32) (Q : _ → sProp 𝕄) :
    iprop(kW m c)
      ⊢ iprop((kW m c -∗ Q ⟨k0_pay16 v237, k0_pay17 v111 v219 (ldB (kAll m c) 0 1 1) (ldB (kAll m c) 1 1 1), k0_pay18 v219, k0_pay19 (ldB (kAll m c) 0 1 2), k0_pay20 (ldB (kAll m c) 1 1 2)⟩)
        -∗ wp frame (wpE (defs₀ (F := F)) 𝒱₀ c none) Set.univ (k0_part28 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v111 v219 v237) Q) := by
  rw [k0_part28_eq_skeleton]
  unfold k0_part28_skel
  simp only [Prog.lift, Prog.bind_op, Prog.bind_ret, Prog.pure_eq_ret, semSignalWord, semWaitWord, wp_deviceId]
  iintro HK Hk
  iapply (ld_k m c 0 1 1 _ _ _ _) $$ [HK]
  · iexact HK
  iintro HK
  iapply (ld_k m c 1 1 1 _ _ _ _) $$ [HK]
  · iexact HK
  iintro HK
  iapply (ld_k m c 0 1 2 _ _ _ _) $$ [HK]
  · iexact HK
  iintro HK
  iapply (ld_k m c 1 1 2 _ _ _ _) $$ [HK]
  · iexact HK
  iintro HK
  rw [wp_ret]; imodintro
  iapply Hk
  iexact HK

theorem p29 (c : Dev nD)  (v111 : IVec S128x256 1) (v219 : FVec F S128x4x64 .f32) (v267 : FVec F S128x64 .f32) (v269 : FVec F S64x128 .bf16) (v271 : FVec F S64x128 .bf16) (Q : _ → sProp 𝕄) :
    iprop(kW m c)
      ⊢ iprop((kW m c -∗ Q ⟨k0_pay21 v111 v267 v269 v271, k0_pay22 v111 v219 (ldB (kAll m c) 0 1 3) (ldB (kAll m c) 1 1 3)⟩)
        -∗ wp frame (wpE (defs₀ (F := F)) 𝒱₀ c none) Set.univ (k0_part29 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v111 v219 v267 v269 v271) Q) := by
  rw [k0_part29_eq_skeleton]
  unfold k0_part29_skel
  simp only [Prog.lift, Prog.bind_op, Prog.bind_ret, Prog.pure_eq_ret, semSignalWord, semWaitWord, wp_deviceId]
  iintro HK Hk
  iapply (ld_k m c 0 1 3 _ _ _ _) $$ [HK]
  · iexact HK
  iintro HK
  iapply (ld_k m c 1 1 3 _ _ _ _) $$ [HK]
  · iexact HK
  iintro HK
  rw [wp_ret]; imodintro
  iapply Hk
  iexact HK

theorem p31 (c : Dev nD)  (v194 : FVec F S128x256 .bf16) (v217 : FVec F S128x256 .bf16) (v242 : FVec F S128x256 .bf16) (v329 : FVec F S128x64 .f32) (v335 : FVec F S128x64 .f32) (Q : _ → sProp 𝕄) :
    iprop(vW m c)
      ⊢ iprop((vW m c -∗ Q ⟨k0_pay25 v194 v217 v329 v335 (ldB (vAll m c) 0 0 2) (ldB (vAll m c) 1 0 2) (ldB (vAll m c) 0 0 3) (ldB (vAll m c) 1 0 3), k0_pay26 v242 (ldB (vAll m c) 0 1 0) (ldB (vAll m c) 1 1 0), k0_pay27 (ldB (vAll m c) 0 1 1)⟩)
        -∗ wp frame (wpE (defs₀ (F := F)) 𝒱₀ c none) Set.univ (k0_part31 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v194 v217 v242 v329 v335) Q) := by
  rw [k0_part31_eq_skeleton]
  unfold k0_part31_skel
  simp only [Prog.lift, Prog.bind_op, Prog.bind_ret, Prog.pure_eq_ret, semSignalWord, semWaitWord, wp_deviceId]
  iintro HV Hk
  iapply (ld_v m c 0 0 2 _ _ _ _) $$ [HV]
  · iexact HV
  iintro HV
  iapply (ld_v m c 1 0 2 _ _ _ _) $$ [HV]
  · iexact HV
  iintro HV
  iapply (ld_v m c 0 0 3 _ _ _ _) $$ [HV]
  · iexact HV
  iintro HV
  iapply (ld_v m c 1 0 3 _ _ _ _) $$ [HV]
  · iexact HV
  iintro HV
  iapply (ld_v m c 0 1 0 _ _ _ _) $$ [HV]
  · iexact HV
  iintro HV
  iapply (ld_v m c 1 1 0 _ _ _ _) $$ [HV]
  · iexact HV
  iintro HV
  iapply (ld_v m c 0 1 1 _ _ _ _) $$ [HV]
  · iexact HV
  iintro HV
  rw [wp_ret]; imodintro
  iapply Hk
  iexact HV

theorem p32 (c : Dev nD)  (v2 : BitVec 32) (v265 : FVec F S128x256 .bf16) (v288 : FVec F S128x256 .bf16) (v311 : FVec F S128x256 .bf16) (v348 : FVec F S128x256 .f32) (v354 : FVec F S128x64 .f32) (v356 : FVec F S64x128 .bf16) (wo) (fp) (Q : _ → sProp 𝕄) :
    iprop(vW m c ∗ owns (c : Thread nD τ) A4 fullShare wo ∗ pW c fp)
      ⊢ iprop((vW m c ∗ owns (c : Thread nD τ) A4 fullShare wo ∗ pW c (k0_pay28 v265 v288 v311 v348 v354 v356 (ldB (vAll m c) 1 1 1) (ldB (vAll m c) 0 1 2) (ldB (vAll m c) 1 1 2) (ldB (vAll m c) 0 1 3) (ldB (vAll m c) 1 1 3) wo) -∗ Q ⟨Scalar.addi v2 1#32, 8#32⟩)
        -∗ wp frame (wpE (defs₀ (F := F)) 𝒱₀ c none) Set.univ (k0_part32 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v265 v288 v311 v348 v354 v356) Q) := by
  rw [k0_part32_eq_skeleton]
  unfold k0_part32_skel
  simp only [Prog.lift, Prog.bind_op, Prog.bind_ret, Prog.pure_eq_ret, semSignalWord, semWaitWord, wp_deviceId]
  iintro ⟨HV, HA, Hp⟩ Hk
  iapply (ld_v m c 1 1 1 _ _ _ _) $$ [HV]
  · iexact HV
  iintro HV
  iapply (ld_v m c 0 1 2 _ _ _ _) $$ [HV]
  · iexact HV
  iintro HV
  iapply (ld_v m c 1 1 2 _ _ _ _) $$ [HV]
  · iexact HV
  iintro HV
  iapply (ld_v m c 0 1 3 _ _ _ _) $$ [HV]
  · iexact HV
  iintro HV
  iapply (ld_v m c 1 1 3 _ _ _ _) $$ [HV]
  · iexact HV
  iintro HV
  iapply (ld_owns c A4 wo _ _ (fun a => by match a with | 0 => rfl | 1 => rfl) _ _ _) $$ [HA]
  · iexact HA
  iintro HA
  iapply (ld_p c fp _ _ _ _) $$ [Hp]
  · iexact Hp
  iintro %w Hp
  iapply (st_p c fp (k0_pay28 v265 v288 v311 v348 v354 v356 (ldB (vAll m c) 1 1 1) (ldB (vAll m c) 0 1 2) (ldB (vAll m c) 1 1 2) (ldB (vAll m c) 0 1 3) (ldB (vAll m c) 1 1 3) wo) _ _ _ _ _) $$ [Hp]
  · iexact Hp
  iintro Hp
  rw [wp_ret]; imodintro
  iapply Hk
  isplitl [HV]; · iexact HV
  isplitl [HA]; · iexact HA
  iexact Hp

end Cert.KernelIdeal.Run

end
-- ==== Proof.Ideal.PD.lean ====
module

public import proofs.«01_k».proof.Proof.Ideal.Glue

@[expose] public section

/-! # Sending the rows of the partial product -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

theorem p33 (c : Dev nD) (l : List (GSem nD τ sig × ℕ)) (v2) (v383) (c8_i32_299) (Q : _ → sProp 𝕄) :
    iprop(Ctx m K ∗ RA ∗ OW c (rL c 0 ++ l) ∗ grp 0 7 0 (rT m c) (rD c))
      ⊢ iprop((∀ v, OW c (rL c 1 ++ l) ∗ grp 0 7 1 (rT m c) (rD c) -∗ Q v)
        -∗ wp frame (wpE (defs₀ (F := F)) 𝒱₀ c none) Set.univ (k0_part33 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v383 c8_i32_299) Q) := by
  rw [k0_part33_eq_skeleton]
  unfold k0_part33_skel
  simp only [Prog.lift, Prog.bind_op, Prog.bind_ret, Prog.pure_eq_ret, semSignalWord, semWaitWord, wp_deviceId]
  iintro ⟨#HC, #HR, HO, Hg⟩ Hk
  iapply (rs_send m K c l 0 1 (by decide) rfl _ (dev36_dv c) _ (pSrc_eq _ _ _ _ (off1_eq c 0)) _ rfl _ _ rfl rfl _ _ _ _ _) $$ [HO Hg]
  · isplitr; · iexact HC
    isplitr; · iexact HR
    isplitl [HO]; · iexact HO
    iexact Hg
  iintro ⟨HO, Hg⟩
  rw [wp_ret]; imodintro
  iapply Hk
  isplitl [HO]; · iexact HO
  iexact Hg

theorem p34 (c : Dev nD) (l : List (GSem nD τ sig × ℕ)) (v2) (v416) (Q : _ → sProp 𝕄) :
    iprop(Ctx m K ∗ RA ∗ OW c (rL c 1 ++ l) ∗ grp 0 7 1 (rT m c) (rD c))
      ⊢ iprop((∀ v, OW c (rL c 3 ++ l) ∗ grp 0 7 3 (rT m c) (rD c) -∗ Q v)
        -∗ wp frame (wpE (defs₀ (F := F)) 𝒱₀ c none) Set.univ (k0_part34 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v416) Q) := by
  rw [k0_part34_eq_skeleton]
  unfold k0_part34_skel
  simp only [Prog.lift, Prog.bind_op, Prog.bind_ret, Prog.pure_eq_ret, semSignalWord, semWaitWord, wp_deviceId]
  iintro ⟨#HC, #HR, HO, Hg⟩ Hk
  iapply (rs_send m K c l 1 2 (by decide) rfl _ (dev37_dv c) _ (pSrc_eq _ _ _ _ (off1_eq c 1)) _ rfl _ _ rfl rfl _ _ _ _ _) $$ [HO Hg]
  · isplitr; · iexact HC
    isplitr; · iexact HR
    isplitl [HO]; · iexact HO
    iexact Hg
  iintro ⟨HO, Hg⟩
  iapply (rs_send m K c l 2 3 (by decide) rfl _ (dev38_dv c) _ (pSrc_eq _ _ _ _ (off1_eq c 2)) _ rfl _ _ rfl rfl _ _ _ _ _) $$ [HO Hg]
  · isplitr; · iexact HC
    isplitr; · iexact HR
    isplitl [HO]; · iexact HO
    iexact Hg
  iintro ⟨HO, Hg⟩
  rw [wp_ret]; imodintro
  iapply Hk
  isplitl [HO]; · iexact HO
  iexact Hg

theorem p35 (c : Dev nD) (l : List (GSem nD τ sig × ℕ)) (v2) (v448) (v449) (c0_i32_349) (Q : _ → sProp 𝕄) :
    iprop(Ctx m K ∗ RA ∗ OW c (rL c 3 ++ l) ∗ grp 0 7 3 (rT m c) (rD c))
      ⊢ iprop((∀ v, OW c (rL c 4 ++ l) ∗ grp 0 7 4 (rT m c) (rD c) -∗ Q v)
        -∗ wp frame (wpE (defs₀ (F := F)) 𝒱₀ c none) Set.univ (k0_part35 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v448 v449 c0_i32_349) Q) := by
  rw [k0_part35_eq_skeleton]
  unfold k0_part35_skel
  simp only [Prog.lift, Prog.bind_op, Prog.bind_ret, Prog.pure_eq_ret, semSignalWord, semWaitWord, wp_deviceId]
  iintro ⟨#HC, #HR, HO, Hg⟩ Hk
  iapply (rs_send m K c l 3 4 (by decide) rfl _ (dev39_dv c) _ (pSrc_eq _ _ _ _ (off1_eq c 3)) _ rfl _ _ rfl rfl _ _ _ _ _) $$ [HO Hg]
  · isplitr; · iexact HC
    isplitr; · iexact HR
    isplitl [HO]; · iexact HO
    iexact Hg
  iintro ⟨HO, Hg⟩
  rw [wp_ret]; imodintro
  iapply Hk
  isplitl [HO]; · iexact HO
  iexact Hg

theorem p36 (c : Dev nD) (l : List (GSem nD τ sig × ℕ)) (v2) (Q : _ → sProp 𝕄) :
    iprop(Ctx m K ∗ RA ∗ OW c (rL c 4 ++ l) ∗ grp 0 7 4 (rT m c) (rD c))
      ⊢ iprop((∀ v, OW c (rL c 6 ++ l) ∗ grp 0 7 6 (rT m c) (rD c) -∗ Q v)
        -∗ wp frame (wpE (defs₀ (F := F)) 𝒱₀ c none) Set.univ (k0_part36 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2) Q) := by
  rw [k0_part36_eq_skeleton]
  unfold k0_part36_skel
  simp only [Prog.lift, Prog.bind_op, Prog.bind_ret, Prog.pure_eq_ret, semSignalWord, semWaitWord, wp_deviceId]
  iintro ⟨#HC, #HR, HO, Hg⟩ Hk
  iapply (rs_send m K c l 4 5 (by decide) rfl _ (dev40_dv c) _ (pSrc_eq _ _ _ _ (off1_eq c 4)) _ rfl _ _ rfl rfl _ _ _ _ _) $$ [HO Hg]
  · isplitr; · iexact HC
    isplitr; · iexact HR
    isplitl [HO]; · iexact HO
    iexact Hg
  iintro ⟨HO, Hg⟩
  iapply (rs_send m K c l 5 6 (by decide) rfl _ (dev41_dv c) _ (pSrc_eq _ _ _ _ (off1_eq c 5)) _ rfl _ _ rfl rfl _ _ _ _ _) $$ [HO Hg]
  · isplitr; · iexact HC
    isplitr; · iexact HR
    isplitl [HO]; · iexact HO
    iexact Hg
  iintro ⟨HO, Hg⟩
  rw [wp_ret]; imodintro
  iapply Hk
  isplitl [HO]; · iexact HO
  iexact Hg

theorem p37 (c : Dev nD) (l : List (GSem nD τ sig × ℕ)) (v2) (v511) (v512) (v513) (v516) (f) (Q : _ → sProp 𝕄) :
    iprop(Ctx m K ∗ RA ∗ OW c (rL c 6 ++ l) ∗ grp 0 7 6 (rT m c) (rD c) ∗ pP c c fullShare (pAll m c) ∗ pR 0 c fullShare f)
      ⊢ iprop((∀ v, OW c (rL c 7 ++ l) ∗ grp 0 7 7 (rT m c) (rD c) ∗ pP c c fullShare (pAll m c) ∗ pR 0 c fullShare (rAll m c) -∗ Q v)
        -∗ wp frame (wpE (defs₀ (F := F)) 𝒱₀ c none) Set.univ (k0_part37 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v511 v512 v513 v516) Q) := by
  rw [k0_part37_eq_skeleton]
  unfold k0_part37_skel
  simp only [Prog.lift, Prog.bind_op, Prog.bind_ret, Prog.pure_eq_ret, semSignalWord, semWaitWord, wp_deviceId]
  iintro ⟨#HC, #HR, HO, Hg, HP, H0⟩ Hk
  iapply (rs_send m K c l 6 7 (by decide) rfl _ (dev42_dv c) _ (pSrc_eq _ _ _ _ (off1_eq c 6)) _ rfl _ _ rfl rfl _ _ _ _ _) $$ [HO Hg]
  · isplitr; · iexact HC
    isplitr; · iexact HR
    isplitl [HO]; · iexact HO
    iexact Hg
  iintro ⟨HO, Hg⟩
  iapply (ld_pOwn m c _ _ (k0_off2_eq c) _ _ _) $$ [HP]
  · iexact HP
  iintro HP
  iapply (ld_r0 c f _ _ _ _) $$ [H0]
  · iexact H0
  iintro %w H0
  iapply (st_r0 m c f _ _ (k0_off2_eq c) _ _ _ _ _) $$ [H0]
  · iexact H0
  iintro H0
  rw [wp_ret]; imodintro
  iapply Hk
  isplitl [HO]; · iexact HO
  isplitl [Hg]; · iexact Hg
  isplitl [HP]; · iexact HP
  iexact H0

end Cert.KernelIdeal.Run

end
-- ==== Proof.Ideal.PE.lean ====
module

public import proofs.«01_k».proof.Proof.Ideal.Glue

@[expose] public section

/-! # The rows of the partial products arrive; sending the rows of the sum -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

theorem p38 (c : Dev nD) (l : List (GSem nD τ sig × ℕ)) (v2) (v548) (ha : Abv 3 l) (Q : _ → sProp 𝕄) :
    iprop(Ctx m K ∗ OW c l ∗ grp 0 7 0 (fun i => wT c (32 + i)) (fun i => wD m c (32 + i)))
      ⊢ iprop((∀ v, OW c l ∗ grp 0 7 2 (fun i => wT c (32 + i)) (fun i => wD m c (32 + i)) -∗ Q v)
        -∗ wp frame (wpE (defs₀ (F := F)) 𝒱₀ c none) Set.univ (k0_part38 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v548) Q) := by
  rw [k0_part38_eq_skeleton]
  unfold k0_part38_skel
  simp only [Prog.lift, Prog.bind_op, Prog.bind_ret, Prog.pure_eq_ret, semSignalWord, semWaitWord, wp_deviceId]
  iintro ⟨#HC, HO, Hg⟩ Hk
  iapply (wait_step m K c l 0 7 0 1 (fun i => 32 + i) (by decide) (by decide) rfl (by decide) (by decide) (Or.inr (Or.inr (Or.inr ⟨by decide, by decide, by decide⟩))) (ha) _ rfl _ _ (credR _) _ _ _ _) $$ [HO Hg]
  · isplitr; · iexact HC
    isplitl [HO]; · iexact HO
    iexact Hg
  iintro ⟨HO, Hg⟩
  iapply (wait_step m K c l 0 7 1 2 (fun i => 32 + i) (by decide) (by decide) rfl (by decide) (by decide) (Or.inr (Or.inr (Or.inr ⟨by decide, by decide, by decide⟩))) (ha) _ rfl _ _ (credR _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p39 (c : Dev nD) (l : List (GSem nD τ sig × ℕ)) (v2) (v576) (v577) (v578) (v579) (c0_i32_452) (ha : Abv 3 l) (Q : _ → sProp 𝕄) :
    iprop(Ctx m K ∗ OW c l ∗ grp 0 7 2 (fun i => wT c (32 + i)) (fun i => wD m c (32 + i)))
      ⊢ iprop((∀ v, OW c l ∗ grp 0 7 4 (fun i => wT c (32 + i)) (fun i => wD m c (32 + i)) -∗ Q v)
        -∗ wp frame (wpE (defs₀ (F := F)) 𝒱₀ c none) Set.univ (k0_part39 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v576 v577 v578 v579 c0_i32_452) Q) := by
  rw [k0_part39_eq_skeleton]
  unfold k0_part39_skel
  simp only [Prog.lift, Prog.bind_op, Prog.bind_ret, Prog.pure_eq_ret, semSignalWord, semWaitWord, wp_deviceId]
  iintro ⟨#HC, HO, Hg⟩ Hk
  iapply (wait_step m K c l 0 7 2 3 (fun i => 32 + i) (by decide) (by decide) rfl (by decide) (by decide) (Or.inr (Or.inr (Or.inr ⟨by decide, by decide, by decide⟩))) (ha) _ rfl _ _ (credR _) _ _ _ _) $$ [HO Hg]
  · isplitr; · iexact HC
    isplitl [HO]; · iexact HO
    iexact Hg
  iintro ⟨HO, Hg⟩
  iapply (wait_step m K c l 0 7 3 4 (fun i => 32 + i) (by decide) (by decide) rfl (by decide) (by decide) (Or.inr (Or.inr (Or.inr ⟨by decide, by decide, by decide⟩))) (ha) _ rfl _ _ (credR _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

theorem p40 (c : Dev nD) (l : List (GSem nD τ sig × ℕ)) (v2) (c5_i32_478) (ha : Abv 3 l) (Q : _ → sProp 𝕄) :
    iprop(Ctx m K ∗ OW c l ∗ grp 0 7 4 (fun i => wT c (32 + i)) (fun i => wD m c (32 + i)))
      ⊢ iprop((∀ v, OW c l ∗ grp 0 7 5 (fun i => wT c (32 + i)) (fun i => wD m c (32 + i)) -∗ Q v)
        -∗ wp frame (wpE (defs₀ (F := F)) 𝒱₀ c none) Set.univ (k0_part40 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 c5_i32_478) Q) := by
  rw [k0_part40_eq_skeleton]
  unfold k0_part40_skel
  simp only [Prog.lift, Prog.bind_op, Prog.bind_ret, Prog.pure_eq_ret, semSignalWord, semWaitWord, wp_deviceId]
  iintro ⟨#HC, HO, Hg⟩ Hk
  iapply (wait_step m K c l 0 7 4 5 (fun i => 32 + i) (by decide) (by decide) rfl (by decide) (by decide) (Or.inr (Or.inr (Or.inr ⟨by decide, by decide, by decide⟩))) (ha) _ rfl _ _ (credR _) _ _ _ _) $$ [HO Hg]
  · isplitr; · iexact HC
    isplitl [HO]; · iexact HO
    iexact Hg
  iintro ⟨HO, Hg⟩
  rw [wp_ret]; imodintro
  iapply Hk
  isplitl [HO]; · iexact HO
  iexact Hg

/-- All slots have arrived: the received rows, whole, and every arrival's cell finished. -/
def rIn (c : Dev nD) : sProp 𝕄 := iprop(rW c (rAll m c) ∗ bigSep (Finset.Ico 0 7) fun i => atPos ER (cl c (32 + i)) 1 ∅ 0)

theorem p41 (c : Dev nD) (l : List (GSem nD τ sig × ℕ)) (v2) (v643) (ha : Abv 3 l) (hj : iprop(pR 0 c fullShare (rAll m c) ∗ grp 0 7 7 (fun i => wT c (32 + i)) (fun i => wD m c (32 + i))) ⊢ rIn m c) (f) (Q : _ → sProp 𝕄) :
    iprop(Ctx m K ∗ OW c l ∗ grp 0 7 5 (fun i => wT c (32 + i)) (fun i => wD m c (32 + i)) ∗ pR 0 c fullShare (rAll m c) ∗ pO c c fullShare f)
      ⊢ iprop((∀ w, OW c l ∗ pO c c fullShare f ∗ rW c (rAll m c) ∗ bigSep (Finset.Ico 0 7) (fun i => atPos ER (cl c (32 + i)) 1 ∅ 0) -∗ Q ⟨k0_pay30 (rAll m c), w⟩)
        -∗ wp frame (wpE (defs₀ (F := F)) 𝒱₀ c none) Set.univ (k0_part41 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v643) Q) := by
  rw [k0_part41_eq_skeleton]
  unfold k0_part41_skel
  simp only [Prog.lift, Prog.bind_op, Prog.bind_ret, Prog.pure_eq_ret, semSignalWord, semWaitWord, wp_deviceId]
  iintro ⟨#HC, HO, Hg, H0, Ho⟩ Hk
  iapply (wait_step m K c l 0 7 5 6 (fun i => 32 + i) (by decide) (by decide) rfl (by decide) (by decide) (Or.inr (Or.inr (Or.inr ⟨by decide, by decide, by decide⟩))) (ha) _ rfl _ _ (credR _) _ _ _ _) $$ [HO Hg]
  · isplitr; · iexact HC
    isplitl [HO]; · iexact HO
    iexact Hg
  iintro ⟨HO, Hg⟩
  iapply (wait_step m K c l 0 7 6 7 (fun i => 32 + i) (by decide) (by decide) rfl (by decide) (by decide) (Or.inr (Or.inr (Or.inr ⟨by decide, by decide, by decide⟩))) (ha) _ rfl _ _ (credR _) _ _ _ _) $$ [HO Hg]
  · isplitr; · iexact HC
    isplitl [HO]; · iexact HO
    iexact Hg
  iintro ⟨HO, Hg⟩
  ihave Hr := hj $$ [H0 Hg]
  · isplitl [H0]; · iexact H0
    iexact Hg
  unfold rIn
  icases Hr with ⟨Hr, Hp⟩
  iapply (ld_r m c _ _ _ _) $$ [Hr]
  · iexact Hr
  iintro Hr
  iapply (ld_oOwn c f _ _ (k0_off2_eq c) _ _ _) $$ [Ho]
  · iexact Ho
  iintro %w Ho
  rw [wp_ret]; imodintro
  iapply Hk
  isplitl [HO]; · iexact HO
  isplitl [Ho]; · iexact Ho
  isplitl [Hr]; · iexact Hr
  iexact Hp

/-- What the `n`-th send of summed rows needs besides the rows. -/
def gT0 (c : Dev nD) (n : ℕ) : sProp 𝕄 :=
  iprop(dutyTok ER (cl c (39 + n)) 0 0 ∗ dutyTok ER (cl (dv c (n + 1)) (47 + n)) 0 0 ∗ ∃ f, pO c (dv c (n + 1)) fullShare f)

theorem p42 (c : Dev nD) (l : List (GSem nD τ sig × ℕ)) (v2) (w) (f) (hj : iprop(pO c c fullShare (oAll m) ∗ bigSep (Finset.Ico 0 7) (gT0 (F := F) c)) ⊢ iprop(pO c c (Transfers.shareDrop fullShare 7) (oAll m) ∗ grp 0 7 0 (gT m c) (gD c))) (Q : _ → sProp 𝕄) :
    iprop(Ctx m K ∗ RA ∗ OW c (gL c 0 ++ l) ∗ pO c c fullShare f ∗ bigSep (Finset.Ico 0 7) (gT0 c))
      ⊢ iprop((∀ v, OW c (gL c 1 ++ l) ∗ pO c c (Transfers.shareDrop fullShare 7) (oAll m) ∗ grp 0 7 1 (gT m c) (gD c) -∗ Q v)
        -∗ wp frame (wpE (defs₀ (F := F)) 𝒱₀ c none) Set.univ (k0_part42 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 (k0_pay30 (rAll m c)) w) Q) := by
  rw [k0_part42_eq_skeleton]
  unfold k0_part42_skel
  simp only [Prog.lift, Prog.bind_op, Prog.bind_ret, Prog.pure_eq_ret, semSignalWord, semWaitWord, wp_deviceId]
  iintro ⟨#HC, #HR, HO, Ho, Hs⟩ Hk
  iapply (st_oOwn m c f _ _ (k0_off2_eq c) _ _ _ _) $$ [Ho]
  · iexact Ho
  iintro Ho
  ihave Hx := hj $$ [Ho Hs]
  · isplitl [Ho]; · iexact Ho
    iexact Hs
  icases Hx with ⟨Ho, Hs⟩
  iapply (ag_send m K c l 0 1 (by decide) rfl _ (dev43_dv c) _ (oSrc_eq _ _ _ _ (k0_off3_eq c)) _ (oSrc_eq _ _ _ _ (k0_off3_eq c)) _ _ rfl rfl _ _ _ _ _) $$ [HO Hs]
  · isplitr; · iexact HC
    isplitr; · iexact HR
    isplitl [HO]; · iexact HO
    iexact Hs
  iintro ⟨HO, Hs⟩
  rw [wp_ret]; imodintro
  iapply Hk
  isplitl [HO]; · iexact HO
  isplitl [Ho]; · iexact Ho
  iexact Hs

theorem p43 (c : Dev nD) (l : List (GSem nD τ sig × ℕ)) (v2) (v703) (v704) (v709) (Q : _ → sProp 𝕄) :
    iprop(Ctx m K ∗ RA ∗ OW c (gL c 1 ++ l) ∗ grp 0 7 1 (gT m c) (gD c))
      ⊢ iprop((∀ v, OW c (gL c 3 ++ l) ∗ grp 0 7 3 (gT m c) (gD c) -∗ Q v)
        -∗ wp frame (wpE (defs₀ (F := F)) 𝒱₀ c none) Set.univ (k0_part43 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v703 v704 v709) Q) := by
  rw [k0_part43_eq_skeleton]
  unfold k0_part43_skel
  simp only [Prog.lift, Prog.bind_op, Prog.bind_ret, Prog.pure_eq_ret, semSignalWord, semWaitWord, wp_deviceId]
  iintro ⟨#HC, #HR, HO, Hs⟩ Hk
  iapply (ag_send m K c l 1 2 (by decide) rfl _ (dev44_dv c) _ (oSrc_eq _ _ _ _ (k0_off3_eq c)) _ (oSrc_eq _ _ _ _ (k0_off3_eq c)) _ _ rfl rfl _ _ _ _ _) $$ [HO Hs]
  · isplitr; · iexact HC
    isplitr; · iexact HR
    isplitl [HO]; · iexact HO
    iexact Hs
  iintro ⟨HO, Hs⟩
  iapply (ag_send m K c l 2 3 (by decide) rfl _ (dev45_dv c) _ (oSrc_eq _ _ _ _ (k0_off3_eq c)) _ (oSrc_eq _ _ _ _ (k0_off3_eq c)) _ _ rfl rfl _ _ _ _ _) $$ [HO Hs]
  · isplitr; · iexact HC
    isplitr; · iexact HR
    isplitl [HO]; · iexact HO
    iexact Hs
  iintro ⟨HO, Hs⟩
  rw [wp_ret]; imodintro
  iapply Hk
  isplitl [HO]; · iexact HO
  iexact Hs

theorem p44 (c : Dev nD) (l : List (GSem nD τ sig × ℕ)) (v2) (v743) (Q : _ → sProp 𝕄) :
    iprop(Ctx m K ∗ RA ∗ OW c (gL c 3 ++ l) ∗ grp 0 7 3 (gT m c) (gD c))
      ⊢ iprop((∀ v, OW c (gL c 4 ++ l) ∗ grp 0 7 4 (gT m c) (gD c) -∗ Q v)
        -∗ wp frame (wpE (defs₀ (F := F)) 𝒱₀ c none) Set.univ (k0_part44 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v743) Q) := by
  rw [k0_part44_eq_skeleton]
  unfold k0_part44_skel
  simp only [Prog.lift, Prog.bind_op, Prog.bind_ret, Prog.pure_eq_ret, semSignalWord, semWaitWord, wp_deviceId]
  iintro ⟨#HC, #HR, HO, Hs⟩ Hk
  iapply (ag_send m K c l 3 4 (by decide) rfl _ (dev46_dv c) _ (oSrc_eq _ _ _ _ (k0_off3_eq c)) _ (oSrc_eq _ _ _ _ (k0_off3_eq c)) _ _ rfl rfl _ _ _ _ _) $$ [HO Hs]
  · isplitr; · iexact HC
    isplitr; · iexact HR
    isplitl [HO]; · iexact HO
    iexact Hs
  iintro ⟨HO, Hs⟩
  rw [wp_ret]; imodintro
  iapply Hk
  isplitl [HO]; · iexact HO
  iexact Hs

theorem p45 (c : Dev nD) (l : List (GSem nD τ sig × ℕ)) (v2) (Q : _ → sProp 𝕄) :
    iprop(Ctx m K ∗ RA ∗ OW c (gL c 4 ++ l) ∗ grp 0 7 4 (gT m c) (gD c))
      ⊢ iprop((∀ v, OW c (gL c 6 ++ l) ∗ grp 0 7 6 (gT m c) (gD c) -∗ Q v)
        -∗ wp frame (wpE (defs₀ (F := F)) 𝒱₀ c none) Set.univ (k0_part45 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2) Q) := by
  rw [k0_part45_eq_skeleton]
  unfold k0_part45_skel
  simp only [Prog.lift, Prog.bind_op, Prog.bind_ret, Prog.pure_eq_ret, semSignalWord, semWaitWord, wp_deviceId]
  iintro ⟨#HC, #HR, HO, Hs⟩ Hk
  iapply (ag_send m K c l 4 5 (by decide) rfl _ (dev47_dv c) _ (oSrc_eq _ _ _ _ (k0_off3_eq c)) _ (oSrc_eq _ _ _ _ (k0_off3_eq c)) _ _ rfl rfl _ _ _ _ _) $$ [HO Hs]
  · isplitr; · iexact HC
    isplitr; · iexact HR
    isplitl [HO]; · iexact HO
    iexact Hs
  iintro ⟨HO, Hs⟩
  iapply (ag_send m K c l 5 6 (by decide) rfl _ (dev48_dv c) _ (oSrc_eq _ _ _ _ (k0_off3_eq c)) _ (oSrc_eq _ _ _ _ (k0_off3_eq c)) _ _ rfl rfl _ _ _ _ _) $$ [HO Hs]
  · isplitr; · iexact HC
    isplitr; · iexact HR
    isplitl [HO]; · iexact HO
    iexact Hs
  iintro ⟨HO, Hs⟩
  rw [wp_ret]; imodintro
  iapply Hk
  isplitl [HO]; · iexact HO
  iexact Hs

theorem p46 (c : Dev nD) (l : List (GSem nD τ sig × ℕ)) (v2) (v808) (v809) (v810) (c0_i32_629) (ha : Abv 4 l) (Q : _ → sProp 𝕄) :
    iprop(Ctx m K ∗ RA ∗ OW c (gL c 6 ++ l) ∗ grp 0 7 6 (gT m c) (gD c) ∗ grp 0 7 0 (fun i => wT c (47 + i)) (fun i => wD m c (47 + i)))
      ⊢ iprop((∀ v, OW c l ∗ grp 0 7 7 (gT m c) (gD c) ∗ grp 0 7 1 (fun i => wT c (47 + i)) (fun i => wD m c (47 + i)) -∗ Q v)
        -∗ wp frame (wpE (defs₀ (F := F)) 𝒱₀ c none) Set.univ (k0_part46 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v808 v809 v810 c0_i32_629) Q) := by
  rw [k0_part46_eq_skeleton]
  unfold k0_part46_skel
  simp only [Prog.lift, Prog.bind_op, Prog.bind_ret, Prog.pure_eq_ret, semSignalWord, semWaitWord, wp_deviceId]
  iintro ⟨#HC, #HR, HO, Hs, Hw⟩ Hk
  iapply (ag_send m K c l 6 7 (by decide) rfl _ (dev49_dv c) _ (oSrc_eq _ _ _ _ (k0_off3_eq c)) _ (oSrc_eq _ _ _ _ (k0_off3_eq c)) _ _ rfl rfl _ _ _ _ _) $$ [HO Hs]
  · isplitr; · iexact HC
    isplitr; · iexact HR
    isplitl [HO]; · iexact HO
    iexact Hs
  iintro ⟨HO, Hs⟩
  ihave HO := (OW_g7 c c l) $$ HO
  iapply (wait_step m K c l 0 7 0 1 (fun i => 47 + i) (by decide) (by decide) rfl (by decide) (by decide) (Or.inr (Or.inr (Or.inr ⟨by decide, by decide, by decide⟩))) (ha) _ rfl _ _ (credR _) _ _ _ _) $$ [HO Hw]
  · isplitr; · iexact HC
    isplitl [HO]; · iexact HO
    iexact Hw
  iintro ⟨HO, Hw⟩
  rw [wp_ret]; imodintro
  iapply Hk
  isplitl [HO]; · iexact HO
  isplitl [Hs]; · iexact Hs
  iexact Hw

end Cert.KernelIdeal.Run

end
-- ==== Proof.Ideal.PH.lean ====
module

public import proofs.«01_k».proof.Proof.Ideal.Glue

@[expose] public section

/-! # The rows of the sum arrive; the result; the sends have been read -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

theorem p47 (c : Dev nD) (l : List (GSem nD τ sig × ℕ)) (v2) (c32_i32_653) (ha : Abv 4 l) (Q : _ → sProp 𝕄) :
    iprop(Ctx m K ∗ OW c l ∗ grp 0 7 1 (fun i => wT c (47 + i)) (fun i => wD m c (47 + i)))
      ⊢ iprop((∀ v, OW c l ∗ grp 0 7 2 (fun i => wT c (47 + i)) (fun i => wD m c (47 + i)) -∗ Q v)
        -∗ wp frame (wpE (defs₀ (F := F)) 𝒱₀ c none) Set.univ (k0_part47 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 c32_i32_653) Q) := by
  rw [k0_part47_eq_skeleton]
  unfold k0_part47_skel
  simp only [Prog.lift, Prog.bind_op, Prog.bind_ret, Prog.pure_eq_ret, semSignalWord, semWaitWord, wp_deviceId]
  iintro ⟨#HC, HO, Hw⟩ Hk
  iapply (wait_step m K c l 0 7 1 2 (fun i => 47 + i) (by decide) (by decide) rfl (by decide) (by decide) (Or.inr (Or.inr (Or.inr ⟨by decide, by decide, by decide⟩))) (ha) _ rfl _ _ (credR _) _ _ _ _) $$ [HO Hw]
  · isplitr; · iexact HC
    isplitl [HO]; · iexact HO
    iexact Hw
  iintro ⟨HO, Hw⟩
  rw [wp_ret]; imodintro
  iapply Hk
  isplitl [HO]; · iexact HO
  iexact Hw

theorem p48 (c : Dev nD) (l : List (GSem nD τ sig × ℕ)) (v2) (ha : Abv 4 l) (Q : _ → sProp 𝕄) :
    iprop(Ctx m K ∗ OW c l ∗ grp 0 7 2 (fun i => wT c (47 + i)) (fun i => wD m c (47 + i)))
      ⊢ iprop((∀ v, OW c l ∗ grp 0 7 4 (fun i => wT c (47 + i)) (fun i => wD m c (47 + i)) -∗ Q v)
        -∗ wp frame (wpE (defs₀ (F := F)) 𝒱₀ c none) Set.univ (k0_part48 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2) Q) := by
  rw [k0_part48_eq_skeleton]
  unfold k0_part48_skel
  simp only [Prog.lift, Prog.bind_op, Prog.bind_ret, Prog.pure_eq_ret, semSignalWord, semWaitWord, wp_deviceId]
  iintro ⟨#HC, HO, Hw⟩ Hk
  iapply (wait_step m K c l 0 7 2 3 (fun i => 47 + i) (by decide) (by decide) rfl (by decide) (by decide) (Or.inr (Or.inr (Or.inr ⟨by decide, by decide, by decide⟩))) (ha) _ rfl _ _ (credR _) _ _ _ _) $$ [HO Hw]
  · isplitr; · iexact HC
    isplitl [HO]; · iexact HO
    iexact Hw
  iintro ⟨HO, Hw⟩
  iapply (wait_step m K c l 0 7 3 4 (fun i => 47 + i) (by decide) (by decide) rfl (by decide) (by decide) (Or.inr (Or.inr (Or.inr ⟨by decide, by decide, by decide⟩))) (ha) _ rfl _ _ (credR _) _ _ _ _) $$ [HO Hw]
  · isplitr; · iexact HC
    isplitl [HO]; · iexact HO
    iexact Hw
  iintro ⟨HO, Hw⟩
  rw [wp_ret]; imodintro
  iapply Hk
  isplitl [HO]; · iexact HO
  iexact Hw

theorem p49 (c : Dev nD) (l : List (GSem nD τ sig × ℕ)) (v2) (v905) (v906) (v907) (v908) (v909) (ha : Abv 4 l) (Q : _ → sProp 𝕄) :
    iprop(Ctx m K ∗ OW c l ∗ grp 0 7 4 (fun i => wT c (47 + i)) (fun i => wD m c (47 + i)))
      ⊢ iprop((∀ v, OW c l ∗ grp 0 7 6 (fun i => wT c (47 + i)) (fun i => wD m c (47 + i)) -∗ Q v)
        -∗ wp frame (wpE (defs₀ (F := F)) 𝒱₀ c none) Set.univ (k0_part49 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v905 v906 v907 v908 v909) Q) := by
  rw [k0_part49_eq_skeleton]
  unfold k0_part49_skel
  simp only [Prog.lift, Prog.bind_op, Prog.bind_ret, Prog.pure_eq_ret, semSignalWord, semWaitWord, wp_deviceId]
  iintro ⟨#HC, HO, Hw⟩ Hk
  iapply (wait_step m K c l 0 7 4 5 (fun i => 47 + i) (by decide) (by decide) rfl (by decide) (by decide) (Or.inr (Or.inr (Or.inr ⟨by decide, by decide, by decide⟩))) (ha) _ rfl _ _ (credR _) _ _ _ _) $$ [HO Hw]
  · isplitr; · iexact HC
    isplitl [HO]; · iexact HO
    iexact Hw
  iintro ⟨HO, Hw⟩
  iapply (wait_step m K c l 0 7 5 6 (fun i => 47 + i) (by decide) (by decide) rfl (by decide) (by decide) (Or.inr (Or.inr (Or.inr ⟨by decide, by decide, by decide⟩))) (ha) _ rfl _ _ (credR _) _ _ _ _) $$ [HO Hw]
  · isplitr; · iexact HC
    isplitl [HO]; · iexact HO
    iexact Hw
  iintro ⟨HO, Hw⟩
  rw [wp_ret]; imodintro
  iapply Hk
  isplitl [HO]; · iexact HO
  iexact Hw

theorem p50 (c : Dev nD) (l : List (GSem nD τ sig × ℕ)) (v2) (v941) (c8_i32_730) (c0_i32_731) (ha : Abv 4 l) (x)
    (hj : iprop(pO c c (Transfers.shareDrop fullShare 7) (oAll m) ∗ grp 0 7 7 (fun i => wT c (47 + i)) (fun i => wD m c (47 + i)))
      ⊢ iprop(oW c (Transfers.shareDrop fullShare 7) (oAll m) ∗ (oW c (Transfers.shareDrop fullShare 7) (oAll m)
        -∗ pO c c (Transfers.shareDrop fullShare 7) (oAll m) ∗ grp 0 7 7 (fun i => wT c (47 + i)) (fun i => wD m c (47 + i))))) (Q : _ → sProp 𝕄) :
    iprop(Ctx m K ∗ OW c l ∗ grp 0 7 6 (fun i => wT c (47 + i)) (fun i => wD m c (47 + i)) ∗ pO c c (Transfers.shareDrop fullShare 7) (oAll m) ∗ owns (c : Thread nD τ) A5 fullShare x)
      ⊢ iprop((∀ v, OW c l ∗ grp 0 7 7 (fun i => wT c (47 + i)) (fun i => wD m c (47 + i)) ∗ pO c c (Transfers.shareDrop fullShare 7) (oAll m) ∗ owns (c : Thread nD τ) A5 fullShare (out m) -∗ Q v)
        -∗ wp frame (wpE (defs₀ (F := F)) 𝒱₀ c none) Set.univ (k0_part50 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v941 c8_i32_730 c0_i32_731) Q) := by
  rw [k0_part50_eq_skeleton]
  unfold k0_part50_skel
  simp only [Prog.lift, Prog.bind_op, Prog.bind_ret, Prog.pure_eq_ret, semSignalWord, semWaitWord, wp_deviceId]
  iintro ⟨#HC, HO, Hw, Ho, H5⟩ Hk
  iapply (wait_step m K c l 0 7 6 7 (fun i => 47 + i) (by decide) (by decide) rfl (by decide) (by decide) (Or.inr (Or.inr (Or.inr ⟨by decide, by decide, by decide⟩))) (ha) _ rfl _ _ (credR _) _ _ _ _) $$ [HO Hw]
  · isplitr; · iexact HC
    isplitl [HO]; · iexact HO
    iexact Hw
  iintro ⟨HO, Hw⟩
  ihave Hx := hj $$ [Ho Hw]
  · isplitl [Ho]; · iexact Ho
    iexact Hw
  icases Hx with ⟨Ho, Hb⟩
  iapply (ld_o m c _ _ _ _ _) $$ [Ho]
  · iexact Ho
  iintro Ho
  ihave Hx := Hb $$ Ho
  icases Hx with ⟨Ho, Hw⟩
  iapply (ld_owns_any c A5 x _ _ _ _) $$ [H5]
  · iexact H5
  iintro %w H5
  iapply (st_owns c A5 x _ ![0, 0, 0] _ (fun a => by match a with | 0 => rfl | 1 => rfl | 2 => rfl) _ _ _ _) $$ [H5]
  · iexact H5
  iintro H5
  rw [wp_ret]; imodintro
  iapply Hk
  isplitl [HO]; · iexact HO
  isplitl [Hw]; · iexact Hw
  isplitl [Ho]; · iexact Ho
  iexact H5

theorem p51 (c : Dev nD) (l : List (GSem nD τ sig × ℕ)) (v2) (ha : Abv 0 l) (Q : _ → sProp 𝕄) :
    iprop(Ctx m K ∗ OW c l ∗ grp 0 7 0 (fun i => wT c (24 + i)) (fun i => wD m c (24 + i)) ∗ grp 0 7 0 (fun i => wT c (39 + i)) (fun i => wD m c (39 + i)))
      ⊢ iprop((∀ v, OW c l ∗ grp 0 7 1 (fun i => wT c (24 + i)) (fun i => wD m c (24 + i)) ∗ grp 0 7 1 (fun i => wT c (39 + i)) (fun i => wD m c (39 + i)) -∗ Q v)
        -∗ wp frame (wpE (defs₀ (F := F)) 𝒱₀ c none) Set.univ (k0_part51 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2) Q) := by
  rw [k0_part51_eq_skeleton]
  unfold k0_part51_skel
  simp only [Prog.lift, Prog.bind_op, Prog.bind_ret, Prog.pure_eq_ret, semSignalWord, semWaitWord, wp_deviceId]
  iintro ⟨#HC, HO, Ha, Hb⟩ Hk
  iapply (wait_step m K c l 0 7 0 1 (fun i => 24 + i) (by decide) (by decide) rfl (by decide) (by decide) (Or.inr (Or.inr (Or.inr ⟨by decide, by decide, by decide⟩))) (ha) _ rfl _ _ (credR _) _ _ _ _) $$ [HO Ha]
  · isplitr; · iexact HC
    isplitl [HO]; · iexact HO
    iexact Ha
  iintro ⟨HO, Ha⟩
  iapply (wait_step m K c l 0 7 0 1 (fun i => 39 + i) (by decide) (by decide) rfl (by decide) (by decide) (Or.inr (Or.inr (Or.inr ⟨by decide, by decide, by decide⟩))) (ha) _ rfl _ _ (credR _) _ _ _ _) $$ [HO Hb]
  · isplitr; · iexact HC
    isplitl [HO]; · iexact HO
    iexact Hb
  iintro ⟨HO, Hb⟩
  rw [wp_ret]; imodintro
  iapply Hk
  isplitl [HO]; · iexact HO
  isplitl [Ha]; · iexact Ha
  iexact Hb

theorem p52 (c : Dev nD) (l : List (GSem nD τ sig × ℕ)) (v2) (v1006) (ha : Abv 0 l) (Q : _ → sProp 𝕄) :
    iprop(Ctx m K ∗ OW c l ∗ grp 0 7 1 (fun i => wT c (24 + i)) (fun i => wD m c (24 + i)) ∗ grp 0 7 1 (fun i => wT c (39 + i)) (fun i => wD m c (39 + i)))
      ⊢ iprop((∀ v, OW c l ∗ grp 0 7 2 (fun i => wT c (24 + i)) (fun i => wD m c (24 + i)) ∗ grp 0 7 2 (fun i => wT c (39 + i)) (fun i => wD m c (39 + i)) -∗ Q v)
        -∗ wp frame (wpE (defs₀ (F := F)) 𝒱₀ c none) Set.univ (k0_part52 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1006) Q) := by
  rw [k0_part52_eq_skeleton]
  unfold k0_part52_skel
  simp only [Prog.lift, Prog.bind_op, Prog.bind_ret, Prog.pure_eq_ret, semSignalWord, semWaitWord, wp_deviceId]
  iintro ⟨#HC, HO, Ha, Hb⟩ Hk
  iapply (wait_step m K c l 0 7 1 2 (fun i => 24 + i) (by decide) (by decide) rfl (by decide) (by decide) (Or.inr (Or.inr (Or.inr ⟨by decide, by decide, by decide⟩))) (ha) _ rfl _ _ (credR _) _ _ _ _) $$ [HO Ha]
  · isplitr; · iexact HC
    isplitl [HO]; · iexact HO
    iexact Ha
  iintro ⟨HO, Ha⟩
  iapply (wait_step m K c l 0 7 1 2 (fun i => 39 + i) (by decide) (by decide) rfl (by decide) (by decide) (Or.inr (Or.inr (Or.inr ⟨by decide, by decide, by decide⟩))) (ha) _ rfl _ _ (credR _) _ _ _ _) $$ [HO Hb]
  · isplitr; · iexact HC
    isplitl [HO]; · iexact HO
    iexact Hb
  iintro ⟨HO, Hb⟩
  rw [wp_ret]; imodintro
  iapply Hk
  isplitl [HO]; · iexact HO
  isplitl [Ha]; · iexact Ha
  iexact Hb

theorem p53 (c : Dev nD) (l : List (GSem nD τ sig × ℕ)) (v2) (v1032) (v1033) (v1034) (v1035) (c0_i32_811) (ha : Abv 0 l) (Q : _ → sProp 𝕄) :
    iprop(Ctx m K ∗ OW c l ∗ grp 0 7 2 (fun i => wT c (24 + i)) (fun i => wD m c (24 + i)) ∗ grp 0 7 2 (fun i => wT c (39 + i)) (fun i => wD m c (39 + i)))
      ⊢ iprop((∀ v, OW c l ∗ grp 0 7 3 (fun i => wT c (24 + i)) (fun i => wD m c (24 + i)) ∗ grp 0 7 3 (fun i => wT c (39 + i)) (fun i => wD m c (39 + i)) -∗ Q v)
        -∗ wp frame (wpE (defs₀ (F := F)) 𝒱₀ c none) Set.univ (k0_part53 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1032 v1033 v1034 v1035 c0_i32_811) Q) := by
  rw [k0_part53_eq_skeleton]
  unfold k0_part53_skel
  simp only [Prog.lift, Prog.bind_op, Prog.bind_ret, Prog.pure_eq_ret, semSignalWord, semWaitWord, wp_deviceId]
  iintro ⟨#HC, HO, Ha, Hb⟩ Hk
  iapply (wait_step m K c l 0 7 2 3 (fun i => 24 + i) (by decide) (by decide) rfl (by decide) (by decide) (Or.inr (Or.inr (Or.inr ⟨by decide, by decide, by decide⟩))) (ha) _ rfl _ _ (credR _) _ _ _ _) $$ [HO Ha]
  · isplitr; · iexact HC
    isplitl [HO]; · iexact HO
    iexact Ha
  iintro ⟨HO, Ha⟩
  iapply (wait_step m K c l 0 7 2 3 (fun i => 39 + i) (by decide) (by decide) rfl (by decide) (by decide) (Or.inr (Or.inr (Or.inr ⟨by decide, by decide, by decide⟩))) (ha) _ rfl _ _ (credR _) _ _ _ _) $$ [HO Hb]
  · isplitr; · iexact HC
    isplitl [HO]; · iexact HO
    iexact Hb
  iintro ⟨HO, Hb⟩
  rw [wp_ret]; imodintro
  iapply Hk
  isplitl [HO]; · iexact HO
  isplitl [Ha]; · iexact Ha
  iexact Hb

theorem p54 (c : Dev nD) (l : List (GSem nD τ sig × ℕ)) (v2) (v1066) (v1067) (ha : Abv 0 l) (Q : _ → sProp 𝕄) :
    iprop(Ctx m K ∗ OW c l ∗ grp 0 7 3 (fun i => wT c (24 + i)) (fun i => wD m c (24 + i)) ∗ grp 0 7 3 (fun i => wT c (39 + i)) (fun i => wD m c (39 + i)))
      ⊢ iprop((∀ v, OW c l ∗ grp 0 7 4 (fun i => wT c (24 + i)) (fun i => wD m c (24 + i)) ∗ grp 0 7 4 (fun i => wT c (39 + i)) (fun i => wD m c (39 + i)) -∗ Q v)
        -∗ wp frame (wpE (defs₀ (F := F)) 𝒱₀ c none) Set.univ (k0_part54 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1066 v1067) Q) := by
  rw [k0_part54_eq_skeleton]
  unfold k0_part54_skel
  simp only [Prog.lift, Prog.bind_op, Prog.bind_ret, Prog.pure_eq_ret, semSignalWord, semWaitWord, wp_deviceId]
  iintro ⟨#HC, HO, Ha, Hb⟩ Hk
  iapply (wait_step m K c l 0 7 3 4 (fun i => 24 + i) (by decide) (by decide) rfl (by decide) (by decide) (Or.inr (Or.inr (Or.inr ⟨by decide, by decide, by decide⟩))) (ha) _ rfl _ _ (credR _) _ _ _ _) $$ [HO Ha]
  · isplitr; · iexact HC
    isplitl [HO]; · iexact HO
    iexact Ha
  iintro ⟨HO, Ha⟩
  iapply (wait_step m K c l 0 7 3 4 (fun i => 39 + i) (by decide) (by decide) rfl (by decide) (by decide) (Or.inr (Or.inr (Or.inr ⟨by decide, by decide, by decide⟩))) (ha) _ rfl _ _ (credR _) _ _ _ _) $$ [HO Hb]
  · isplitr; · iexact HC
    isplitl [HO]; · iexact HO
    iexact Hb
  iintro ⟨HO, Hb⟩
  rw [wp_ret]; imodintro
  iapply Hk
  isplitl [HO]; · iexact HO
  isplitl [Ha]; · iexact Ha
  iexact Hb

theorem p55 (c : Dev nD) (l : List (GSem nD τ sig × ℕ)) (v2) (v1098) (c8_i32_864) (ha : Abv 0 l) (Q : _ → sProp 𝕄) :
    iprop(Ctx m K ∗ OW c l ∗ grp 0 7 4 (fun i => wT c (24 + i)) (fun i => wD m c (24 + i)) ∗ grp 0 7 4 (fun i => wT c (39 + i)) (fun i => wD m c (39 + i)))
      ⊢ iprop((∀ v, OW c l ∗ grp 0 7 5 (fun i => wT c (24 + i)) (fun i => wD m c (24 + i)) ∗ grp 0 7 4 (fun i => wT c (39 + i)) (fun i => wD m c (39 + i)) -∗ Q v)
        -∗ wp frame (wpE (defs₀ (F := F)) 𝒱₀ c none) Set.univ (k0_part55 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v1098 c8_i32_864) Q) := by
  rw [k0_part55_eq_skeleton]
  unfold k0_part55_skel
  simp only [Prog.lift, Prog.bind_op, Prog.bind_ret, Prog.pure_eq_ret, semSignalWord, semWaitWord, wp_deviceId]
  iintro ⟨#HC, HO, Ha, Hb⟩ Hk
  iapply (wait_step m K c l 0 7 4 5 (fun i => 24 + i) (by decide) (by decide) rfl (by decide) (by decide) (Or.inr (Or.inr (Or.inr ⟨by decide, by decide, by decide⟩))) (ha) _ rfl _ _ (credR _) _ _ _ _) $$ [HO Ha]
  · isplitr; · iexact HC
    isplitl [HO]; · iexact HO
    iexact Ha
  iintro ⟨HO, Ha⟩
  rw [wp_ret]; imodintro
  iapply Hk
  isplitl [HO]; · iexact HO
  isplitl [Ha]; · iexact Ha
  iexact Hb

theorem p56 (c : Dev nD) (l : List (GSem nD τ sig × ℕ)) (v2) (ha : Abv 0 l) (Q : _ → sProp 𝕄) :
    iprop(Ctx m K ∗ OW c l ∗ grp 0 7 5 (fun i => wT c (24 + i)) (fun i => wD m c (24 + i)) ∗ grp 0 7 4 (fun i => wT c (39 + i)) (fun i => wD m c (39 + i)))
      ⊢ iprop((∀ v, OW c l ∗ grp 0 7 6 (fun i => wT c (24 + i)) (fun i => wD m c (24 + i)) ∗ grp 0 7 5 (fun i => wT c (39 + i)) (fun i => wD m c (39 + i)) -∗ Q v)
        -∗ wp frame (wpE (defs₀ (F := F)) 𝒱₀ c none) Set.univ (k0_part56 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2) Q) := by
  rw [k0_part56_eq_skeleton]
  unfold k0_part56_skel
  simp only [Prog.lift, Prog.bind_op, Prog.bind_ret, Prog.pure_eq_ret, semSignalWord, semWaitWord, wp_deviceId]
  iintro ⟨#HC, HO, Ha, Hb⟩ Hk
  iapply (wait_step m K c l 0 7 4 5 (fun i => 39 + i) (by decide) (by decide) rfl (by decide) (by decide) (Or.inr (Or.inr (Or.inr ⟨by decide, by decide, by decide⟩))) (ha) _ rfl _ _ (credR _) _ _ _ _) $$ [HO Hb]
  · isplitr; · iexact HC
    isplitl [HO]; · iexact HO
    iexact Hb
  iintro ⟨HO, Hb⟩
  iapply (wait_step m K c l 0 7 5 6 (fun i => 24 + i) (by decide) (by decide) rfl (by decide) (by decide) (Or.inr (Or.inr (Or.inr ⟨by decide, by decide, by decide⟩))) (ha) _ rfl _ _ (credR _) _ _ _ _) $$ [HO Ha]
  · isplitr; · iexact HC
    isplitl [HO]; · iexact HO
    iexact Ha
  iintro ⟨HO, Ha⟩
  rw [wp_ret]; imodintro
  iapply Hk
  isplitl [HO]; · iexact HO
  isplitl [Ha]; · iexact Ha
  iexact Hb

theorem p57 (c : Dev nD) (l : List (GSem nD τ sig × ℕ)) (v2) (ha : Abv 0 l) (Q : _ → sProp 𝕄) :
    iprop(Ctx m K ∗ OW c l ∗ grp 0 7 6 (fun i => wT c (24 + i)) (fun i => wD m c (24 + i)) ∗ grp 0 7 5 (fun i => wT c (39 + i)) (fun i => wD m c (39 + i)))
      ⊢ iprop((∀ v, OW c l ∗ grp 0 7 7 (fun i => wT c (24 + i)) (fun i => wD m c (24 + i)) ∗ grp 0 7 6 (fun i => wT c (39 + i)) (fun i => wD m c (39 + i)) -∗ Q v)
        -∗ wp frame (wpE (defs₀ (F := F)) 𝒱₀ c none) Set.univ (k0_part57 (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2) Q) := by
  rw [k0_part57_eq_skeleton]
  unfold k0_part57_skel
  simp only [Prog.lift, Prog.bind_op, Prog.bind_ret, Prog.pure_eq_ret, semSignalWord, semWaitWord, wp_deviceId]
  iintro ⟨#HC, HO, Ha, Hb⟩ Hk
  iapply (wait_step m K c l 0 7 5 6 (fun i => 39 + i) (by decide) (by decide) rfl (by decide) (by decide) (Or.inr (Or.inr (Or.inr ⟨by decide, by decide, by decide⟩))) (ha) _ rfl _ _ (credR _) _ _ _ _) $$ [HO Hb]
  · isplitr; · iexact HC
    isplitl [HO]; · iexact HO
    iexact Hb
  iintro ⟨HO, Hb⟩
  iapply (wait_step m K c l 0 7 6 7 (fun i => 24 + i) (by decide) (by decide) rfl (by decide) (by decide) (Or.inr (Or.inr (Or.inr ⟨by decide, by decide, by decide⟩))) (ha) _ rfl _ _ (credR _) _ _ _ _) $$ [HO Ha]
  · isplitr; · iexact HC
    isplitl [HO]; · iexact HO
    iexact Ha
  iintro ⟨HO, Ha⟩
  rw [wp_ret]; imodintro
  iapply Hk
  isplitl [HO]; · iexact HO
  isplitl [Ha]; · iexact Ha
  iexact Hb

end Cert.KernelIdeal.Run

end
-- ==== Proof.Ideal.PZ.lean ====
module

public import proofs.«01_k».proof.Proof.Ideal.PX
public import proofs.«01_k».proof.Proof.Ideal.PC
public import proofs.«01_k».proof.Proof.Ideal.PD
public import proofs.«01_k».proof.Proof.Ideal.PE
public import proofs.«01_k».proof.Proof.Ideal.PH

@[expose] public section

/-! # One device runs the whole kernel -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-- All units a device owes, in program order. -/
abbrev OL (c : Dev nD) : List (GSem nD τ sig × ℕ) := bL c 0 ++ (kL c 0 0 ++ (kL c 1 0 ++ (rL c 0 ++ (gL c 0 ++ []))))

/-- What the sends of partial rows need besides the rows, and what the sends of sums need. -/
def rU (c : Dev nD) (n : ℕ) : sProp 𝕄 := iprop(dutyTok ER (cl c (24 + n)) 0 0 ∗ dutyTok ER (cl (dv c (n + 1)) (32 + n)) 0 0)
def gU (c : Dev nD) (n : ℕ) : sProp 𝕄 := iprop(dutyTok ER (cl c (39 + n)) 0 0 ∗ dutyTok ER (cl (dv c (n + 1)) (47 + n)) 0 0)

theorem rT_mk (c : Dev nD) : iprop(bigSep (Finset.Ico 0 7) (rU c) ∗ bigSep (Finset.Ico 0 7) (fun n => pP (dv c (n + 1)) c fullShare (pAll m c)) ∗ bigSep (Finset.Ico 0 7) (rP c))
    ⊢ grp 0 7 0 (rT m c) (rD c) := by
  rw [← bsep, ← bsep]
  refine strans (bmono fun n _ => ?_) grp_start
  unfold rU rP rT
  iintro ⟨⟨H1, H2⟩, H3, H4⟩
  isplitl [H1]; · iexact H1
  isplitl [H2]; · iexact H2
  isplitl [H3]; · iexact H3
  iexact H4
theorem gT0_mk (c : Dev nD) : iprop(bigSep (Finset.Ico 0 7) (gU c) ∗ bigSep (Finset.Ico 0 7) (gP c)) ⊢ bigSep (Finset.Ico 0 7) (gT0 (F := F) c) := by
  rw [← bsep]
  refine bmono fun n _ => ?_
  unfold gU gP gT0
  iintro ⟨⟨H1, H2⟩, H3⟩
  isplitl [H1]; · iexact H1
  isplitl [H2]; · iexact H2
  iexact H3
theorem rD_w (c : Dev nD) {T : ℕ → sProp 𝕄} : iprop(grp 0 7 7 T (rD c) ∗ bigSep (Finset.Ico 0 7) (fun i => pos c (24 + i)))
    ⊢ grp 0 7 0 (fun i => wT c (24 + i)) (fun i => wD m c (24 + i)) :=
  strans (smono grp_end (BI.Entails.refl _)) (wmk m c 24 7)
theorem gD_w (c : Dev nD) {T : ℕ → sProp 𝕄} : iprop(grp 0 7 7 T (gD c) ∗ bigSep (Finset.Ico 0 7) (fun i => pos c (39 + i)))
    ⊢ grp 0 7 0 (fun i => wT c (39 + i)) (fun i => wD m c (39 + i)) :=
  strans (smono grp_end (BI.Entails.refl _)) (wmk m c 39 7)
theorem r_in' (c : Dev nD) : iprop(pR 0 c fullShare (rAll m c) ∗ grp 0 7 7 (fun i => wT c (32 + i)) (fun i => wD m c (32 + i))) ⊢ rIn m c := by
  unfold rIn; exact r_in m c _
theorem o_cut' (c : Dev nD) : iprop(pO c c fullShare (oAll m) ∗ bigSep (Finset.Ico 0 7) (gT0 (F := F) c))
    ⊢ iprop(pO c c (Transfers.shareDrop fullShare 7) (oAll m) ∗ grp 0 7 0 (gT m c) (gD c)) := o_cut m c

theorem pos_close (c : Dev nD) : iprop(bigSep (Finset.Ico 0 7) (fun i => pos1 c (24 + i)) ∗ pos c 31 ∗ bigSep (Finset.Ico 0 7) (fun i => pos1 c (32 + i))
      ∗ bigSep (Finset.Ico 0 7) (fun i => pos1 c (39 + i)) ∗ pos c 46 ∗ bigSep (Finset.Ico 0 7) (fun i => pos1 c (47 + i)))
    ⊢ bigSep (Finset.Ico 24 54) (posE (F := F) c) := by
  have h (a : ℕ) (ha : 24 ≤ a ∧ (a + 7 ≤ 31 ∨ 32 ≤ a) ∧ (a + 7 ≤ 46 ∨ 47 ≤ a)) : bigSep (Finset.Ico 0 7) (fun i => posE (F := F) c (a + i)) = bigSep (Finset.Ico 0 7) (fun i => pos1 c (a + i)) :=
    bigSep_congr fun i hi => posE_live c (a + i) (by have := (Finset.mem_Ico.mp hi).2; unfold live; omega)
  rw [ico30, h 24 (by decide), h 32 (by decide), h 39 (by decide), h 47 (by decide), posE_not c 31 (by unfold live; omega), posE_not c 46 (by unfold live; omega)]

theorem ab1 (c : Dev nD) : Abv 1 (kL c 0 0 ++ (kL c 1 0 ++ (rL c 0 ++ (gL c 0 ++ [])))) :=
  (abv_kL c 0 (by decide) 0 1 (by decide)).append ((abv_kL c 1 (by decide) 0 1 (by decide)).append ((abv_rL c 0 1 (by decide)).append ((abv_gL c 0 1 (by decide)).append Abv.nil)))
theorem ab0 (c : Dev nD) : Abv 0 (rL c 0 ++ (gL c 0 ++ [])) := (abv_rL c 0 0 (by decide)).append ((abv_gL c 0 0 (by decide)).append Abv.nil)
theorem ab2 (c : Dev nD) : Abv 2 (rL c 0 ++ (gL c 0 ++ [])) := (abv_rL c 0 2 (by decide)).append ((abv_gL c 0 2 (by decide)).append Abv.nil)
theorem ab3 (c : Dev nD) : Abv 3 (gL c 0 ++ []) := (abv_gL c 0 3 (by decide)).append Abv.nil

/-- Everything a device holds when the kernel starts on it, beside the staged arrays. -/
def bStart (c : Dev nD) (fp : (⟨S256x512, .bf16⟩ : BufTy).Contents (Elt F)) (fr : (⟨S8x32x512, .bf16⟩ : BufTy).Contents (Elt F)) (fo : (⟨S256x512, .bf16⟩ : BufTy).Contents (Elt F)) : sProp 𝕄 :=
  iprop(OW c (OL c) ∗ bigSep (Finset.Ico 0 7) (bT c) ∗ cred (tallyAt (bcl c) () 7) ∗ atPos ER (bcl c) 0 ∅ 0 ∗ kvPre m c
    ∗ bigSep (Finset.Ico 0 7) (rU c) ∗ bigSep (Finset.Ico 0 7) (gU c) ∗ bigSep (Finset.Ico 0 7) (fun i => crd c (32 + i)) ∗ bigSep (Finset.Ico 0 7) (fun i => crd c (47 + i))
    ∗ bigSep (Finset.Ico 24 54) (pos c) ∗ pW c fp ∗ pR 0 c fullShare fr ∗ pO c c fullShare fo)
/-- Everything it holds when the kernel is done. -/
def bEnd (c : Dev nD) : sProp 𝕄 :=
  iprop(OW c [] ∗ atPos ER (bcl c) 1 ∅ 0 ∗ kvFin m c ∗ bigSep (Finset.Ico 24 54) (posE c)
    ∗ kW m c ∗ vW m c ∗ pW c (pAll m c) ∗ rW c (rAll m c) ∗ oW c fullShare (oAll m))

theorem p_cut' (c : Dev nD) (f) (hf : f = pAll m c) : (pW c f : sProp 𝕄) ⊢ iprop(pP c c fullShare (pAll m c) ∗ bigSep (Finset.Ico 0 7) fun n => pP (dv c (n + 1)) c fullShare (pAll m c)) := by
  subst hf
  rw [p_cut]

variable (A0 : Memref sig .tc .vmem S2x128x512 .bf16) (h0 : A0.IsWhole) (A1 : Memref sig .tc .vmem S512x256 .bf16) (h1 : A1.IsWhole)
  (A4 : Memref sig .tc .vmem S256x512 .bf16) (h4 : A4.IsWhole) (A5 : Memref sig .tc .vmem S2x128x512 .f32) (h5 : A5.IsWhole)

set_option maxRecDepth 20000 in
set_option maxHeartbeats 8000000 in
theorem body_run (c : Dev nD) (fp) (fr) (fo) (x5) (Q : _ → sProp 𝕄) :
    iprop(Ctx m K ∗ rch c ∗ bStart m c fp fr fo ∗ owns (c : Thread nD τ) A0 fullShare (V m c main_arg0) ∗ owns (c : Thread nD τ) A1 fullShare (V m c main_arg1)
        ∗ owns (c : Thread nD τ) A4 fullShare (V m c main_arg4) ∗ owns (c : Thread nD τ) A5 fullShare x5)
      ⊢ iprop((bEnd m c ∗ owns (c : Thread nD τ) A0 fullShare (V m c main_arg0) ∗ owns (c : Thread nD τ) A1 fullShare (V m c main_arg1)
        ∗ owns (c : Thread nD τ) A4 fullShare (V m c main_arg4) ∗ owns (c : Thread nD τ) A5 fullShare (out m) -∗ |={Set.univ}=> Q ⟨⟩)
        -∗ wp frame (wpE (defs₀ (F := F)) 𝒱₀ c none) Set.univ (cc0_body (F := F) A0 h0 A1 h1 (Memref.whole main_v1) (Memref.isWhole_whole _) (Memref.whole main_v2) (Memref.isWhole_whole _) A4 h4 A5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11) Q) := by
  rw [cc0_body_eq_skeleton]
  unfold cc0_body_skel
  simp only [Prog.lift, Prog.bind_op, Prog.bind_ret, Prog.pure_eq_ret, wp_deviceId]
  unfold bStart
  rw [ico30]
  iintro ⟨#HC, #Hr, ⟨HO, HbT, Hcr, Hat, Hkv, HrU, HgU, HrC, HgC, ⟨Hp24, Hp31, Hp32, Hp39, Hp46, Hp47⟩, HpW, HR0, HO0⟩, HA0, HA1, HA4, HA5⟩ Hk
  ihave Hrw := (wmk m c 32 7) $$ [HrC Hp32]
  · isplitl [HrC]; · iexact HrC
    iexact Hp32
  ihave Hgw := (wmk m c 47 7) $$ [HgC Hp47]
  · isplitl [HgC]; · iexact HgC
    iexact Hp47
  rw [wp_bind]
  rw [k0_part58_eq_skeleton]
  unfold k0_part58_skel
  simp only [Prog.lift, Prog.bind_op, Prog.bind_ret, Prog.pure_eq_ret, wp_deviceId]
  rw [wp_bind]
  iapply (p21 m K A0 h0 A1 h1 A4 h4 A5 h5 c (kL c 0 0 ++ (kL c 1 0 ++ (rL c 0 ++ (gL c 0 ++ [])))) _) $$ [HO HbT]
  · isplitr; · iexact HC
    isplitr; · iexact Hr
    isplitl [HO]; · iexact HO
    iexact HbT
  iintro %v30 %c8 %v31 ⟨HO, HbT⟩
  rw [wp_bind]
  iapply (p22 m K A0 h0 A1 h1 A4 h4 A5 h5 c (kL c 0 0 ++ (kL c 1 0 ++ (rL c 0 ++ (gL c 0 ++ [])))) _ _ _ _ _) $$ [HO HbT]
  · isplitr; · iexact HC
    isplitr; · iexact Hr
    isplitl [HO]; · iexact HO
    iexact HbT
  iintro %v ⟨HO, HbT⟩
  obtain ⟨v59, v64, v65⟩ := v
  rw [wp_bind]
  iapply (p23 m K A0 h0 A1 h1 A4 h4 A5 h5 c (kL c 0 0 ++ (kL c 1 0 ++ (rL c 0 ++ (gL c 0 ++ [])))) _ _ _ _ _ _) $$ [HO HbT HA0]
  · isplitr; · iexact HC
    isplitr; · iexact Hr
    isplitl [HO]; · iexact HO
    isplitl [HbT]; · iexact HbT
    iexact HA0
  iintro ⟨HO, -, HA0⟩
  ihave HO := (OW_b7 c c (kL c 0 0 ++ (kL c 1 0 ++ (rL c 0 ++ (gL c 0 ++ []))))) $$ HO
  rw [wp_bind]
  iapply (p24 m K A0 h0 A1 h1 A4 h4 A5 h5 c (rL c 0 ++ (gL c 0 ++ [])) _ _ (ab1 c) (ab0 c) (ab2 c) _) $$ [HO Hcr Hat HA1 Hkv]
  · isplitr; · iexact HC
    isplitr; · iexact Hr
    isplitl [HO]; · iexact HO
    isplitl [Hcr]; · iexact Hcr
    isplitl [Hat]; · iexact Hat
    isplitl [HA1]; · iexact HA1
    iexact Hkv
  iintro ⟨#HR, HO, Hat, HrP, HgP, HA1, HK, Hkv⟩
  rw [wp_bind]
  iapply (p25 m A0 h0 A1 h1 A4 h4 A5 h5 c _ _ _ _) $$ [HK]
  · iexact HK
  iintro HK
  rw [wp_bind]
  iapply (p26 m A0 h0 A1 h1 A4 h4 A5 h5 c _ _ _ _ _) $$ [HK]
  · iexact HK
  iintro HK
  rw [wp_bind]
  iapply (p27 m A0 h0 A1 h1 A4 h4 A5 h5 c _ _ _ _ _) $$ [HK]
  · iexact HK
  iintro HK
  rw [wp_bind]
  iapply (p28 m A0 h0 A1 h1 A4 h4 A5 h5 c _ _ _ _) $$ [HK]
  · iexact HK
  iintro HK
  rw [wp_bind]
  iapply (p29 m A0 h0 A1 h1 A4 h4 A5 h5 c _ _ _ _ _ _) $$ [HK]
  · iexact HK
  iintro HK
  rw [wp_bind]
  iapply (p30 m K A0 h0 A1 h1 A4 h4 A5 h5 c (rL c 0 ++ (gL c 0 ++ [])) _ _ (ab0 c) (ab2 c) _) $$ [HO Hkv]
  · isplitr; · iexact HC
    isplitl [HO]; · iexact HO
    iexact Hkv
  iintro ⟨HO, HV, Hkv⟩
  rw [wp_bind]
  iapply (p31 m A0 h0 A1 h1 A4 h4 A5 h5 c _ _ _ _ _ _) $$ [HV]
  · iexact HV
  iintro HV
  rw [wp_bind]
  iapply (p32 m A0 h0 A1 h1 A4 h4 A5 h5 c _ _ _ _ _ _ _ _ _ _) $$ [HV HA4 HpW]
  · isplitl [HV]; · iexact HV
    isplitl [HA4]; · iexact HA4
    iexact HpW
  iintro ⟨HV, HA4, HpW⟩
  ihave Hpp := (p_cut' m c _ ?hpp) $$ HpW
  case hpp => unfold pAll part; dsimp only
  icases Hpp with ⟨Hpp, Hps⟩
  ihave HrT := (rT_mk m c) $$ [HrU Hps HrP]
  · isplitl [HrU]; · iexact HrU
    isplitl [Hps]; · iexact Hps
    iexact HrP
  rw [wp_bind]
  iapply (p33 m K A0 h0 A1 h1 A4 h4 A5 h5 c (gL c 0 ++ []) _ _ _ _) $$ [HO HrT]
  · isplitr; · iexact HC
    isplitr; · iexact HR
    isplitl [HO]; · iexact HO
    iexact HrT
  iintro %v ⟨HO, HrT⟩
  rw [wp_bind]
  iapply (p34 m K A0 h0 A1 h1 A4 h4 A5 h5 c (gL c 0 ++ []) _ _ _) $$ [HO HrT]
  · isplitr; · iexact HC
    isplitr; · iexact HR
    isplitl [HO]; · iexact HO
    iexact HrT
  iintro %v ⟨HO, HrT⟩
  obtain ⟨v448, v449, v450⟩ := v
  rw [wp_bind]
  iapply (p35 m K A0 h0 A1 h1 A4 h4 A5 h5 c (gL c 0 ++ []) _ _ _ _ _) $$ [HO HrT]
  · isplitr; · iexact HC
    isplitr; · iexact HR
    isplitl [HO]; · iexact HO
    iexact HrT
  iintro %v ⟨HO, HrT⟩
  rw [wp_bind]
  iapply (p36 m K A0 h0 A1 h1 A4 h4 A5 h5 c (gL c 0 ++ []) _ _) $$ [HO HrT]
  · isplitr; · iexact HC
    isplitr; · iexact HR
    isplitl [HO]; · iexact HO
    iexact HrT
  iintro %v ⟨HO, HrT⟩
  obtain ⟨v511, v512, v513, v516⟩ := v
  rw [wp_bind]
  iapply (p37 m K A0 h0 A1 h1 A4 h4 A5 h5 c (gL c 0 ++ []) _ _ _ _ _ fr _) $$ [HO HrT Hpp HR0]
  · isplitr; · iexact HC
    isplitr; · iexact HR
    isplitl [HO]; · iexact HO
    isplitl [HrT]; · iexact HrT
    isplitl [Hpp]; · iexact Hpp
    iexact HR0
  iintro %v548 ⟨HO, HrT, Hpp, HR0⟩
  ihave HO := (OW_r7 c c (gL c 0 ++ [])) $$ HO
  ihave Hrs := (rD_w m c) $$ [HrT Hp24]
  · isplitl [HrT]; · iexact HrT
    iexact Hp24
  rw [wp_bind]
  iapply (p38 m K A0 h0 A1 h1 A4 h4 A5 h5 c (gL c 0 ++ []) _ _ (ab3 c) _) $$ [HO Hrw]
  · isplitr; · iexact HC
    isplitl [HO]; · iexact HO
    iexact Hrw
  iintro %v ⟨HO, Hrw⟩
  obtain ⟨v576, v577, v578, v579, v580⟩ := v
  rw [wp_bind]
  iapply (p39 m K A0 h0 A1 h1 A4 h4 A5 h5 c (gL c 0 ++ []) _ _ _ _ _ _ (ab3 c) _) $$ [HO Hrw]
  · isplitr; · iexact HC
    isplitl [HO]; · iexact HO
    iexact Hrw
  iintro %v ⟨HO, Hrw⟩
  rw [wp_bind]
  iapply (p40 m K A0 h0 A1 h1 A4 h4 A5 h5 c (gL c 0 ++ []) _ _ (ab3 c) _) $$ [HO Hrw]
  · isplitr; · iexact HC
    isplitl [HO]; · iexact HO
    iexact Hrw
  iintro %v643 ⟨HO, Hrw⟩
  rw [wp_bind]
  iapply (p41 m K A0 h0 A1 h1 A4 h4 A5 h5 c (gL c 0 ++ []) _ _ (ab3 c) (r_in' m c) fo _) $$ [HO Hrw HR0 HO0]
  · isplitr; · iexact HC
    isplitl [HO]; · iexact HO
    isplitl [Hrw]; · iexact Hrw
    isplitl [HR0]; · iexact HR0
    iexact HO0
  iintro %w ⟨HO, HO0, HrW, Hp32⟩
  ihave HgT := (gT0_mk c) $$ [HgU HgP]
  · isplitl [HgU]; · iexact HgU
    iexact HgP
  rw [wp_bind]
  iapply (p42 m K A0 h0 A1 h1 A4 h4 A5 h5 c [] _ _ fo (o_cut' m c) _) $$ [HO HO0 HgT]
  · isplitr; · iexact HC
    isplitr; · iexact HR
    isplitl [HO]; · iexact HO
    isplitl [HO0]; · iexact HO0
    iexact HgT
  iintro %v ⟨HO, HO0, HgT⟩
  obtain ⟨v703, v704, v709⟩ := v
  rw [wp_bind]
  iapply (p43 m K A0 h0 A1 h1 A4 h4 A5 h5 c [] _ _ _ _ _) $$ [HO HgT]
  · isplitr; · iexact HC
    isplitr; · iexact HR
    isplitl [HO]; · iexact HO
    iexact HgT
  iintro %v743 ⟨HO, HgT⟩
  rw [wp_bind]
  iapply (p44 m K A0 h0 A1 h1 A4 h4 A5 h5 c [] _ _ _) $$ [HO HgT]
  · isplitr; · iexact HC
    isplitr; · iexact HR
    isplitl [HO]; · iexact HO
    iexact HgT
  iintro %v ⟨HO, HgT⟩
  rw [wp_bind]
  iapply (p45 m K A0 h0 A1 h1 A4 h4 A5 h5 c [] _ _) $$ [HO HgT]
  · isplitr; · iexact HC
    isplitr; · iexact HR
    isplitl [HO]; · iexact HO
    iexact HgT
  iintro %v ⟨HO, HgT⟩
  obtain ⟨v808, v809, v810, v811⟩ := v
  rw [wp_bind]
  iapply (p46 m K A0 h0 A1 h1 A4 h4 A5 h5 c [] _ _ _ _ _ Abv.nil _) $$ [HO HgT Hgw]
  · isplitr; · iexact HC
    isplitr; · iexact HR
    isplitl [HO]; · iexact HO
    isplitl [HgT]; · iexact HgT
    iexact Hgw
  iintro %v ⟨HO, HgT, Hgw⟩
  ihave Hgs := (gD_w m c) $$ [HgT Hp39]
  · isplitl [HgT]; · iexact HgT
    iexact Hp39
  rw [wp_bind]
  iapply (p47 m K A0 h0 A1 h1 A4 h4 A5 h5 c [] _ _ Abv.nil _) $$ [HO Hgw]
  · isplitr; · iexact HC
    isplitl [HO]; · iexact HO
    iexact Hgw
  iintro %v ⟨HO, Hgw⟩
  rw [wp_bind]
  iapply (p48 m K A0 h0 A1 h1 A4 h4 A5 h5 c [] _ Abv.nil _) $$ [HO Hgw]
  · isplitr; · iexact HC
    isplitl [HO]; · iexact HO
    iexact Hgw
  iintro %v ⟨HO, Hgw⟩
  obtain ⟨v905, v906, v907, v908, v909⟩ := v
  rw [wp_bind]
  iapply (p49 m K A0 h0 A1 h1 A4 h4 A5 h5 c [] _ _ _ _ _ _ Abv.nil _) $$ [HO Hgw]
  · isplitr; · iexact HC
    isplitl [HO]; · iexact HO
    iexact Hgw
  iintro %v ⟨HO, Hgw⟩
  obtain ⟨v941, v942, v943⟩ := v
  rw [wp_bind]
  iapply (p50 m K A0 h0 A1 h1 A4 h4 A5 h5 c [] _ _ _ _ Abv.nil x5 (o_open m c _) _) $$ [HO Hgw HO0 HA5]
  · isplitr; · iexact HC
    isplitl [HO]; · iexact HO
    isplitl [Hgw]; · iexact Hgw
    isplitl [HO0]; · iexact HO0
    iexact HA5
  iintro %v ⟨HO, Hgw, HO0, HA5⟩
  rw [wp_bind]
  iapply (p51 m K A0 h0 A1 h1 A4 h4 A5 h5 c [] _ Abv.nil _) $$ [HO Hrs Hgs]
  · isplitr; · iexact HC
    isplitl [HO]; · iexact HO
    isplitl [Hrs]; · iexact Hrs
    iexact Hgs
  iintro %v1006 ⟨HO, Hrs, Hgs⟩
  rw [wp_bind]
  iapply (p52 m K A0 h0 A1 h1 A4 h4 A5 h5 c [] _ _ Abv.nil _) $$ [HO Hrs Hgs]
  · isplitr; · iexact HC
    isplitl [HO]; · iexact HO
    isplitl [Hrs]; · iexact Hrs
    iexact Hgs
  iintro %v ⟨HO, Hrs, Hgs⟩
  obtain ⟨v1032, v1033, v1034, v1035, v1036⟩ := v
  rw [wp_bind]
  iapply (p53 m K A0 h0 A1 h1 A4 h4 A5 h5 c [] _ _ _ _ _ _ Abv.nil _) $$ [HO Hrs Hgs]
  · isplitr; · iexact HC
    isplitl [HO]; · iexact HO
    isplitl [Hrs]; · iexact Hrs
    iexact Hgs
  iintro %v ⟨HO, Hrs, Hgs⟩
  obtain ⟨v1066, v1067⟩ := v
  rw [wp_bind]
  iapply (p54 m K A0 h0 A1 h1 A4 h4 A5 h5 c [] _ _ _ Abv.nil _) $$ [HO Hrs Hgs]
  · isplitr; · iexact HC
    isplitl [HO]; · iexact HO
    isplitl [Hrs]; · iexact Hrs
    iexact Hgs
  iintro %v ⟨HO, Hrs, Hgs⟩
  obtain ⟨v1098, v1099⟩ := v
  rw [wp_bind]
  iapply (p55 m K A0 h0 A1 h1 A4 h4 A5 h5 c [] _ _ _ Abv.nil _) $$ [HO Hrs Hgs]
  · isplitr; · iexact HC
    isplitl [HO]; · iexact HO
    isplitl [Hrs]; · iexact Hrs
    iexact Hgs
  iintro %v ⟨HO, Hrs, Hgs⟩
  rw [wp_bind]
  iapply (p56 m K A0 h0 A1 h1 A4 h4 A5 h5 c [] _ Abv.nil _) $$ [HO Hrs Hgs]
  · isplitr; · iexact HC
    isplitl [HO]; · iexact HO
    isplitl [Hrs]; · iexact Hrs
    iexact Hgs
  iintro %v ⟨HO, Hrs, Hgs⟩
  rw [wp_bind]
  iapply (p57 m K A0 h0 A1 h1 A4 h4 A5 h5 c [] _ Abv.nil _) $$ [HO Hrs Hgs]
  · isplitr; · iexact HC
    isplitl [HO]; · iexact HO
    isplitl [Hrs]; · iexact Hrs
    iexact Hgs
  iintro %v ⟨HO, Hrs, Hgs⟩
  obtain ⟨v1187, v1188, v1193⟩ := v
  iapply (wait_step m K c [] 0 7 6 7 (fun i => 39 + i) (by decide) (by decide) rfl (by decide) (by decide) (by unfold live; omega) Abv.nil _ rfl _ _ (credR _) _ _ _ _) $$ [HO Hgs]
  · isplitr; · iexact HC
    isplitl [HO]; · iexact HO
    iexact Hgs
  iintro ⟨HO, Hgs⟩
  ihave HpW := (p_close m c _) $$ [Hpp Hrs]
  · isplitl [Hpp]; · iexact Hpp
    iexact Hrs
  icases HpW with ⟨HpW, Hp24⟩
  ihave HoW := (o_close m c _ _) $$ [HO0 Hgw Hgs]
  · isplitl [HO0]; · iexact HO0
    isplitl [Hgw]; · iexact Hgw
    iexact Hgs
  icases HoW with ⟨HoW, Hp47, Hp39⟩
  ihave Hpos := (pos_close c) $$ [Hp24 Hp31 Hp32 Hp39 Hp46 Hp47]
  · isplitl [Hp24]; · iexact Hp24
    isplitl [Hp31]; · iexact Hp31
    isplitl [Hp32]; · iexact Hp32
    isplitl [Hp39]; · iexact Hp39
    isplitl [Hp46]; · iexact Hp46
    iexact Hp47
  unfold kvEnd
  icases Hkv with (⟨%hc, Hs, Hq, Hp1, Hp2⟩ | ⟨%hc, Hs, Hq, Hp1, Hp2⟩ | ⟨%hc, Hs, HS0, HS1, Hq, Hp1, Hp2⟩)
  · subst hc
    unfold sEnd
    icases Hs with ⟨H0, H1, HpS, HpT, Ha22, Ha23, Ha18, Ha19⟩
    ihave Hg := (src_waits_0 m) $$ [H0 H1 Hq]
    · isplitl [H0]; · iexact H0
      isplitl [H1]; · iexact H1
      iexact Hq
    rw [dif_pos (show k3 (w2 z0) by decide)]
    rw [wp_bind]
    iapply (p13 m K A0 h0 A1 h1 A4 h4 A5 h5 [] Abv.nil _) $$ [HO Hg]
    · isplitr; · iexact HC
      isplitl [HO]; · iexact HO
      iexact Hg
    iintro %v ⟨HO, Hg⟩
    rw [wp_bind]
    iapply (p14 m K A0 h0 A1 h1 A4 h4 A5 h5 [] Abv.nil _) $$ [HO Hg]
    · isplitr; · iexact HC
      isplitl [HO]; · iexact HO
      iexact Hg
    iintro %v ⟨HO, Hg⟩
    rw [wp_bind]
    iapply (p15 m K A0 h0 A1 h1 A4 h4 A5 h5 [] Abv.nil _) $$ [HO Hg]
    · isplitr; · iexact HC
      isplitl [HO]; · iexact HO
      iexact Hg
    iintro %v ⟨HO, Hg⟩
    rw [wp_bind]
    iapply (p16 m K A0 h0 A1 h1 A4 h4 A5 h5 [] Abv.nil _) $$ [HO Hg]
    · isplitr; · iexact HC
      isplitl [HO]; · iexact HO
      iexact Hg
    iintro %v ⟨HO, Hg⟩
    iapply (wait_step m K z0 [] 0 14 11 12 (fun i => 4 + i) (by decide) (by decide) rfl (by decide) (by decide) (Or.inl ⟨by decide, by decide, by decide⟩) Abv.nil _ rfl _ _ (credK _) _ _ _ _) $$ [HO Hg]
    · isplitr; · iexact HC
      isplitl [HO]; · iexact HO
      iexact Hg
    iintro ⟨HO, Hg⟩
    iapply (wait_step m K z0 [] 0 14 12 13 (fun i => 4 + i) (by decide) (by decide) rfl (by decide) (by decide) (Or.inl ⟨by decide, by decide, by decide⟩) Abv.nil _ rfl _ _ (credK _) _ _ _ _) $$ [HO Hg]
    · isplitr; · iexact HC
      isplitl [HO]; · iexact HO
      iexact Hg
    iintro ⟨HO, Hg⟩
    iapply (wait_step m K z0 [] 0 14 13 14 (fun i => 4 + i) (by decide) (by decide) rfl (by decide) (by decide) (Or.inl ⟨by decide, by decide, by decide⟩) Abv.nil _ rfl _ _ (credK _) _ _ _ _) $$ [HO Hg]
    · isplitr; · iexact HC
      isplitl [HO]; · iexact HO
      iexact Hg
    iintro ⟨HO, Hg⟩
    ihave Hkv := (src_close_0 m) $$ [Hg HpS HpT Ha22 Ha23 Ha18 Ha19 Hp1 Hp2]
    · isplitl [Hg]; · iexact Hg
      isplitl [HpS]; · iexact HpS
      isplitl [HpT]; · iexact HpT
      isplitl [Ha22]; · iexact Ha22
      isplitl [Ha23]; · iexact Ha23
      isplitl [Ha18]; · iexact Ha18
      isplitl [Ha19]; · iexact Ha19
      isplitl [Hp1]; · iexact Hp1
      iexact Hp2
    rw [wp_ret]; imodintro
    rw [dif_neg (show ¬k5 (w2 z0) by decide)]
    rw [wp_ret]
    iapply Hk
    isplitr [HA0 HA1 HA4 HA5]
    · unfold bEnd
      isplitl [HO]; · iexact HO
      isplitl [Hat]; · iexact Hat
      isplitl [Hkv]; · iexact Hkv
      isplitl [Hpos]; · iexact Hpos
      isplitl [HK]; · iexact HK
      isplitl [HV]; · iexact HV
      isplitl [HpW]; · iexact HpW
      isplitl [HrW]; · iexact HrW
      iexact HoW
    isplitl [HA0]; · iexact HA0
    isplitl [HA1]; · iexact HA1
    isplitl [HA4]; · iexact HA4
    iexact HA5
  · subst hc
    unfold sEnd
    icases Hs with ⟨H0, H1, HpS, HpT, Ha22, Ha23, Ha18, Ha19⟩
    ihave Hg := (src_waits_1 m) $$ [H0 H1 Hq]
    · isplitl [H0]; · iexact H0
      isplitl [H1]; · iexact H1
      iexact Hq
    rw [dif_neg (show ¬k3 (w2 z1) by decide)]
    rw [wp_ret]; imodintro
    rw [dif_pos (show k5 (w2 z1) by decide)]
    rw [wp_bind]
    iapply (p17 m K A0 h0 A1 h1 A4 h4 A5 h5 [] Abv.nil _) $$ [HO Hg]
    · isplitr; · iexact HC
      isplitl [HO]; · iexact HO
      iexact Hg
    iintro %v ⟨HO, Hg⟩
    rw [wp_bind]
    iapply (p18 m K A0 h0 A1 h1 A4 h4 A5 h5 [] Abv.nil _) $$ [HO Hg]
    · isplitr; · iexact HC
      isplitl [HO]; · iexact HO
      iexact Hg
    iintro %v ⟨HO, Hg⟩
    rw [wp_bind]
    iapply (p19 m K A0 h0 A1 h1 A4 h4 A5 h5 [] Abv.nil _) $$ [HO Hg]
    · isplitr; · iexact HC
      isplitl [HO]; · iexact HO
      iexact Hg
    iintro %v ⟨HO, Hg⟩
    rw [wp_bind]
    iapply (p20 m K A0 h0 A1 h1 A4 h4 A5 h5 [] Abv.nil _) $$ [HO Hg]
    · isplitr; · iexact HC
      isplitl [HO]; · iexact HO
      iexact Hg
    iintro %v ⟨HO, Hg⟩
    iapply (wait_step m K z1 [] 0 14 11 12 (fun i => 4 + i) (by decide) (by decide) rfl (by decide) (by decide) (Or.inl ⟨by decide, by decide, by decide⟩) Abv.nil _ rfl _ _ (credK _) _ _ _ _) $$ [HO Hg]
    · isplitr; · iexact HC
      isplitl [HO]; · iexact HO
      iexact Hg
    iintro ⟨HO, Hg⟩
    iapply (wait_step m K z1 [] 0 14 12 13 (fun i => 4 + i) (by decide) (by decide) rfl (by decide) (by decide) (Or.inl ⟨by decide, by decide, by decide⟩) Abv.nil _ rfl _ _ (credK _) _ _ _ _) $$ [HO Hg]
    · isplitr; · iexact HC
      isplitl [HO]; · iexact HO
      iexact Hg
    iintro ⟨HO, Hg⟩
    iapply (wait_step m K z1 [] 0 14 13 14 (fun i => 4 + i) (by decide) (by decide) rfl (by decide) (by decide) (Or.inl ⟨by decide, by decide, by decide⟩) Abv.nil _ rfl _ _ (credK _) _ _ _ _) $$ [HO Hg]
    · isplitr; · iexact HC
      isplitl [HO]; · iexact HO
      iexact Hg
    iintro ⟨HO, Hg⟩
    ihave Hkv := (src_close_1 m) $$ [Hg HpS HpT Ha22 Ha23 Ha18 Ha19 Hp1 Hp2]
    · isplitl [Hg]; · iexact Hg
      isplitl [HpS]; · iexact HpS
      isplitl [HpT]; · iexact HpT
      isplitl [Ha22]; · iexact Ha22
      isplitl [Ha23]; · iexact Ha23
      isplitl [Ha18]; · iexact Ha18
      isplitl [Ha19]; · iexact Ha19
      isplitl [Hp1]; · iexact Hp1
      iexact Hp2
    rw [wp_ret]
    iapply Hk
    isplitr [HA0 HA1 HA4 HA5]
    · unfold bEnd
      isplitl [HO]; · iexact HO
      isplitl [Hat]; · iexact Hat
      isplitl [Hkv]; · iexact Hkv
      isplitl [Hpos]; · iexact Hpos
      isplitl [HK]; · iexact HK
      isplitl [HV]; · iexact HV
      isplitl [HpW]; · iexact HpW
      isplitl [HrW]; · iexact HrW
      iexact HoW
    isplitl [HA0]; · iexact HA0
    isplitl [HA1]; · iexact HA1
    isplitl [HA4]; · iexact HA4
    iexact HA5
  · rw [dif_neg (w3 c hc)]
    rw [wp_ret]; imodintro
    rw [dif_neg (w5 c hc)]
    ihave Hkv := (oth_close m c hc) $$ [Hs HS0 HS1 Hq Hp1 Hp2]
    · isplitl [Hs]; · iexact Hs
      isplitl [HS0]; · iexact HS0
      isplitl [HS1]; · iexact HS1
      isplitl [Hq]; · iexact Hq
      isplitl [Hp1]; · iexact Hp1
      iexact Hp2
    rw [wp_ret]
    iapply Hk
    isplitr [HA0 HA1 HA4 HA5]
    · unfold bEnd
      isplitl [HO]; · iexact HO
      isplitl [Hat]; · iexact Hat
      isplitl [Hkv]; · iexact Hkv
      isplitl [Hpos]; · iexact Hpos
      isplitl [HK]; · iexact HK
      isplitl [HV]; · iexact HV
      isplitl [HpW]; · iexact HpW
      isplitl [HrW]; · iexact HrW
      iexact HoW
    isplitl [HA0]; · iexact HA0
    isplitl [HA1]; · iexact HA1
    isplitl [HA4]; · iexact HA4
    iexact HA5

end Cert.KernelIdeal.Run

end
-- ==== Proof.Ideal.LD.lean ====
module

public import proofs.«01_k».proof.Proof.Ideal.PZ
public import Idealize.ShloMosaic.Lib.Rounds.Family
public import Idealize.ShloMosaic.Lib.Pipeline.RegionTalk
public import Idealize.ShloMosaic.Lib.Pipeline.Quiescent

@[expose] public section

/-! # The kernel as a region: what enters it, what leaves it -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-! ## Opening and closing the copy cells -/

/-- The copy semaphores the kernel names: 4 … 53. -/
abbrev osem (k : Fin 50) : SemLoc sig := .dma ⟨k.val + 4, by have := k.isLt; show k.val + 4 < 54; omega⟩

def shift4 : Fin 50 ↪ ℕ := ⟨fun k => k.val + 4, fun a b h => Fin.ext (Nat.add_right_cancel h)⟩
theorem shift4_eq : Finset.univ.map shift4 = Finset.Ico 4 54 := by decide

theorem ico50 (Φ : ℕ → sProp 𝕄) : bigSep (Finset.Ico 4 54) Φ = bigSep Finset.univ fun k : Fin 50 => Φ (k.val + 4) := by
  rw [← shift4_eq, bigSep_map]; rfl

theorem osem_cl (c : Dev nD) (k : Fin 50) : (((c : Thread nD τ), osem k) : GSem nD τ sig) = cl c (k.val + 4) := by
  have h : (⟨k.val + 4, by have := k.isLt; show k.val + 4 < 54; omega⟩ : DmaSem sig) = dS (k.val + 4) :=
    Fin.ext (dS_val (show k.val + 4 < 54 by have := k.isLt; omega)).symm
  exact congrArg (fun s : DmaSem sig => ((c : Thread nD τ), (SemLoc.dma s : SemLoc sig))) h

theorem own_sems (c : Dev nD) : (Pipeline.ownSems0 osem c : sProp 𝕄) = bigSep (Finset.Ico 4 54) fun k => semVal (cl c k) 0 := by
  rw [ico50]
  exact bigSep_congr fun k _ => by rw [← osem_cl]

theorem own_sems' (c : Dev nD) : (bigSep (Finset.Ico 4 54) fun k => semVal (cl c k) 0) ⊢ (Pipeline.ownSems0 osem c : sProp 𝕄) := by
  rw [own_sems]

theorem inv_all (c : Dev nD) : Inv m K ⊢ bigSep (Finset.Ico 4 54) fun k => cellInv ER (sched m) (K (cl c k)) (cl c k) :=
  BI.Entails.trans (bigSep_elim (Finset.mem_univ c)) (BI.Entails.trans sep_and and_elimR)

/-- All copy cells of a device opened: each at round 0. -/
theorem open_all (c : Dev nD) : iprop(Inv m K ∗ bigSep (Finset.Ico 4 54) (fun k => openTok ER (cl c k)) ∗ bigSep (Finset.Ico 4 54) (fun k => semVal (cl c k) 0))
    ⊢ (|={Set.univ}=> iprop(bigSep (Finset.Ico 4 54) (pos c) ∗ rch c) : sProp 𝕄) := by
  unfold rch
  rw [← bsep _ (pos c) _]
  have h := Rounds.cells_open ER (sched m) (Finset.Ico 4 54) (fun k => cl c k) (fun k => K (cl c k)) (Es := Set.univ) (fun _ _ => Set.mem_univ _)
  refine strans ?_ h
  rw [bsep]
  iintro ⟨#HI, Ho, Hs⟩
  isplitl [Ho]
  · isplitr
    · iapply (inv_all m K c); iexact HI
    iexact Ho
  iexact Hs

/-- All copy cells closed: each counter at zero. -/
theorem close_all (c : Dev nD) : iprop(Inv m K ∗ bigSep (Finset.Ico 4 54) (posE c))
    ⊢ (|={Set.univ}=> bigSep (Finset.Ico 4 54) (fun k => semVal (cl c k) 0) : sProp 𝕄) := by
  have h := Rounds.cells_close ER (sched m) (Finset.Ico 4 54) (fun k => cl c k) (fun k => K (cl c k)) (Es := Set.univ) (fun _ _ => Set.mem_univ _)
    (fun _ _ h => h) (fun k => if live c k then 1 else 0) (fun k hk r hr => by
      by_cases hl : live c k
      · rw [if_pos hl] at hr; exact duties_later m _ r hr
      · exact duties_dead m c (Finset.mem_Ico.mp hk).2 hl r)
  refine strans ?_ h
  rw [bsep]
  iintro ⟨#HI, Ho⟩
  isplitr
  · iapply (inv_all m K c); iexact HI
  iexact Ho

/-- The barrier cell closed. -/
theorem close_bar (c : Dev nD) : iprop(Inv m K ∗ atPos ER (bcl c) 1 ∅ 0) ⊢ (|={Set.univ}=> semVal (bcl c) 0 : sProp 𝕄) := by
  iintro ⟨#HI, Ha⟩
  iapply (Rounds.cell_close ER (sched m) (g := bcl c) (κ := K (bcl c)) (Set.mem_univ _) (fun h => h) (R := 1) (duties_later m _))
  isplitr
  · iapply (inv_bar m K c); iexact HI
  iexact Ha

/-! ## What enters the kernel -/

def tokB (c : Dev nD) (n : ℕ) : sProp 𝕄 := dutyTok ER (bcl (dv c (n + 1))) 0 c

theorem kW_kv (c : Dev nD) : kW m c ⊢ kvW 0 c (kAll m c) := BI.Entails.refl _
theorem vW_kv (c : Dev nD) : vW m c ⊢ kvW 1 c (vAll m c) := BI.Entails.refl _

/-- What the launch gives a device for the protocol. -/
def gift (c : Dev nD) : sProp 𝕄 :=
  iprop(cred (tallyAt (bcl c) () 7) ∗ atPos ER (bcl c) 0 ∅ 0 ∗ bigSep (Finset.Ico 0 7) (tokB c) ∗ kvTok c ∗ bigSep (Finset.Ico 18 22) (crdL c)
    ∗ bigSep (Finset.Ico 0 7) (rU c) ∗ bigSep (Finset.Ico 0 7) (gU c) ∗ bigSep (Finset.Ico 0 7) (fun i => crd c (32 + i)) ∗ bigSep (Finset.Ico 0 7) (fun i => crd c (47 + i)))

/-- Before the copy cells are opened. -/
def Tk (c : Dev nD) : sProp 𝕄 :=
  iprop((∃ K, Inv m K) ∗ (bigSep Finset.univ fun d : Dev nD => reached ER (bcl d) 0) ∗ gift c ∗ bigSep (Finset.Ico 4 54) (fun k => openTok ER (cl c k)))
/-- After. -/
def Xk (c : Dev nD) : sProp 𝕄 := iprop((∃ K, Ctx m K) ∗ rch c ∗ gift c ∗ bigSep (Finset.Ico 4 54) (pos c))

theorem hopen (c : Dev nD) : iprop(Tk m c ∗ Pipeline.ownSems0 osem c ∗ levAts L lv) ⊢ (|={Set.univ}=> Xk m c : sProp 𝕄) := by
  rw [own_sems]
  unfold Tk Xk Ctx
  iintro ⟨⟨⟨%K, #HI⟩, #Hr, Hg, Ho⟩, Hs, #Hl⟩
  imod (open_all m K c) $$ [Ho Hs] with ⟨Hp, #Hrc⟩
  · isplitr; · iexact HI
    isplitl [Ho]; · iexact Ho
    iexact Hs
  imodintro
  isplitr
  · iexists K
    isplitr; · iexact HI
    isplitr; · iexact Hl
    iexact Hr
  isplitr; · iexact Hrc
  isplitl [Hg]; · iexact Hg
  iexact Hp

theorem bT_mk (c : Dev nD) : iprop(bigSep (Finset.Ico 0 7) (tokB c) ∗ (bigSep (Finset.Ico 0 7) fun n => iprop(∃ f, pR (f8 (c.val + 8 - (dv c (n + 1)).val)) c fullShare f))
      ∗ (bigSep (Finset.Ico 0 7) fun n => iprop(∃ f, pO (dv c (n + 1)) c fullShare f)) ∗ bigSep (Finset.Ico 0 7) (fun n => barKV (dv c (n + 1)) c))
    ⊢ bigSep (Finset.Ico 0 7) (bT (F := F) c) := by
  rw [← bsep, ← bsep, ← bsep]
  exact bmono fun n _ => by unfold tokB bT; exact BI.Entails.refl _

theorem kvW_kv (c : Dev nD) (f g) : iprop(kvW 0 c f ∗ kvW 1 c g) ⊢ iprop(barKV c c ∗ bigSep (Finset.Ico 0 7) fun n => barKV (F := F) (dv c (n + 1)) c) := kv_give c f g

theorem start_mk (c : Dev nD) (f0 f1 f2 f3 f4) :
    iprop(OW c (OL c) ∗ gift c ∗ bigSep (Finset.Ico 4 54) (pos c) ∗ kvSW 0 c (kvV m 0 c) ∗ kvSW 1 c (kvV m 1 c)
        ∗ kvW 0 c f0 ∗ kvW 1 c f1 ∗ pW c f2 ∗ rW c f3 ∗ oW c fullShare f4)
      ⊢ bStart m c f2 f3 f4 := by
  unfold gift bStart kvPre
  rw [ico_app (a := 4) (b := 24) (c := 54) (by decide) (by decide)]
  iintro ⟨HO, ⟨H1, H2, H3, H4, H5, H6, H7, H8, H9⟩, ⟨Hp, Hp'⟩, Hk0, Hk1, Hd0, Hd1, HpW, HrW, HoW⟩
  ihave Hd := (kvW_kv c f0 f1) $$ [Hd0 Hd1]
  · isplitl [Hd0]; · iexact Hd0
    iexact Hd1
  icases Hd with ⟨Hd, Hd7⟩
  ihave Hr := (r_give c f3) $$ HrW
  icases Hr with ⟨Hr, Hr7⟩
  ihave Ho := (o_give c f4) $$ HoW
  icases Ho with ⟨Ho, Ho7⟩
  isplitl [HO]; · iexact HO
  isplitl [H3 Hr7 Ho7 Hd7]
  · iapply (bT_mk c)
    isplitl [H3]; · iexact H3
    isplitl [Hr7]; · iexact Hr7
    isplitl [Ho7]; · iexact Ho7
    iexact Hd7
  isplitl [H1]; · iexact H1
  isplitl [H2]; · iexact H2
  isplitl [H4 Hd Hk0 Hk1 Hp H5]
  · isplitl [H4]; · iexact H4
    isplitl [Hd]; · iexact Hd
    isplitl [Hk0]; · iexact Hk0
    isplitl [Hk1]; · iexact Hk1
    isplitl [Hp]; · iexact Hp
    iexact H5
  isplitl [H6]; · iexact H6
  isplitl [H7]; · iexact H7
  isplitl [H8]; · iexact H8
  isplitl [H9]; · iexact H9
  isplitl [Hp']; · iexact Hp'
  isplitl [HpW]; · iexact HpW
  isplitl [Hr]; · iexact Hr
  iexact Ho

/-! ## The region's data -/

/-- The keys and the values, which the kernel addresses itself. -/
def S12 : Finset (DevRef τ sig) := {Proc.devRef .tc main_v1, Proc.devRef .tc main_v2}

/-- The unscoped buffers as the kernel finds them. -/
abbrev V1 (c : Dev nD) : Valuation τ sig (Elt F) := StableHlo.after hostOps0 (fun b => m (c, b))

theorem held12 (c : Dev nD) (W : Valuation τ sig (Elt F)) :
    (StableHlo.held (c : Thread nD τ) S12 W : sProp 𝕄) = iprop(kvSW 0 c (W main_v1) ∗ kvSW 1 c (W main_v2)) := by
  unfold StableHlo.held S12
  rw [bigSep_eq_bigSepL_of_eq [Proc.devRef .tc main_v1, Proc.devRef .tc main_v2] (by decide) (by decide)]
  rfl

/-- The scratch buffers, each at some contents. -/
theorem scratch_eq (c : Dev nD) : (Pipeline.scopedRest (Ix := Unit) (Name := ℕ) (U := UU) (Lvl := ℕ) (Val := Elt F) spec0 c : sProp 𝕄)
    = iprop((∃ f, kvW 0 c f) ∗ (∃ f, kvW 1 c f) ∗ (∃ f, pW c f) ∗ (∃ f, rW c f) ∗ ∃ f, oW c fullShare f) := by
  rw [scopedRest0_eq]; rfl

def dat0 (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => out m
    | ⟨_ + 4, h⟩ => absurd h (Nat.not_lt.2 (Nat.le_add_left _ _))
  Φ t := if t.val = 0
    then iprop(Pipeline.scopedRest spec0 c ∗ (∃ r, prngReg c r) ∗ StableHlo.held (c : Thread nD τ) S12 (V1 m c) ∗ Xk m c)
    else iprop(Pipeline.scopedRest spec0 c ∗ (∃ r, prngReg c r) ∗ StableHlo.held (c : Thread nD τ) S12 (V1 m c) ∗ Pipeline.ownSems0 osem c ∗ semVal (bcl c) 0)
  q _ := fullShare
  owed t := if t.val = 0 then own (OL c) else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem before_0 (c : Dev nD) (t) (d) : (dat0 m c).before 0 t d = iblk m c 0 t :=
  ((dat0 m c).before_in_eq_fetched 0 rfl (fun _ => rfl) (fun _ _ _ => rfl) (fun _ => rfl) t d).trans rfl
theorem before_1 (c : Dev nD) (t) (d) : (dat0 m c).before 1 t d = iblk m c 1 t :=
  ((dat0 m c).before_in_eq_fetched 1 rfl (fun _ => rfl) (fun _ _ _ => rfl) (fun _ => rfl) t d).trans rfl
theorem before_2 (c : Dev nD) (t) (d) : (dat0 m c).before 2 t d = iblk m c 2 t :=
  ((dat0 m c).before_in_eq_fetched 2 rfl (fun _ => rfl) (fun _ _ _ => rfl) (fun _ => rfl) t d).trans rfl

theorem iblk_0 (c : Dev nD) : iblk m c 0 t0_0 = V m c main_arg0 :=
  Memref.read_access_unit_zero (Elt F) main_arg0 (show (fun a => (win0_0.index t0_0) a * main_arg0.ty.shape.size a) = fun _ => 0 from
    funext fun a => by fin_cases a <;> decide) (fun a => by fin_cases a <;> decide) _
theorem iblk_1 (c : Dev nD) : iblk m c 1 t0_0 = V m c main_arg1 :=
  Memref.read_access_unit_zero (Elt F) main_arg1 (show (fun a => (win0_1.index t0_0) a * main_arg1.ty.shape.size a) = fun _ => 0 from
    funext fun a => by fin_cases a <;> decide) (fun a => by fin_cases a <;> decide) _
theorem iblk_2 (c : Dev nD) : iblk m c 2 t0_0 = V m c main_arg4 :=
  Memref.read_access_unit_zero (Elt F) main_arg4 (show (fun a => (win0_2.index t0_0) a * main_arg4.ty.shape.size a) = fun _ => 0 from
    funext fun a => by fin_cases a <;> decide) (fun a => by fin_cases a <;> decide) _

theorem after_0 (c : Dev nD) : (dat0 m c).after 0 t0_0 = V m c main_arg0 := iblk_0 m c
theorem after_1 (c : Dev nD) : (dat0 m c).after 1 t0_0 = V m c main_arg1 := iblk_1 m c
theorem after_2 (c : Dev nD) : (dat0 m c).after 2 t0_0 = V m c main_arg4 := iblk_2 m c
theorem after_3 (c : Dev nD) (t) : (dat0 m c).after 3 t = out m := rfl
theorem last_ne : ¬(Fin.last cfg0.N).val = 0 := by rw [Fin.val_last]; show ¬grid0.N = 0; rw [N_0]; decide
theorem owed_first (c : Dev nD) : (dat0 m c).owed t0_0.castSucc = own (OL c) := by
  dsimp only [dat0]; exact if_pos rfl
theorem owed_zero (c : Dev nD) : (dat0 m c).owed 0 = own (OL c) := by
  dsimp only [dat0]; exact if_pos rfl
theorem owed_last (c : Dev nD) : (dat0 m c).owed (Fin.last _) = 0 := by
  dsimp only [dat0]; exact if_neg last_ne
theorem Φ_first (c : Dev nD) : (dat0 m c).Φ t0_0.castSucc
    = iprop(Pipeline.scopedRest spec0 c ∗ (∃ r, prngReg c r) ∗ StableHlo.held (c : Thread nD τ) S12 (V1 m c) ∗ Xk m c) := by
  dsimp only [dat0]; exact if_pos rfl
theorem Φ_zero (c : Dev nD) : (dat0 m c).Φ 0
    = iprop(Pipeline.scopedRest spec0 c ∗ (∃ r, prngReg c r) ∗ StableHlo.held (c : Thread nD τ) S12 (V1 m c) ∗ Xk m c) := by
  dsimp only [dat0]; exact if_pos rfl
theorem Φ_last (c : Dev nD) : (dat0 m c).Φ (Fin.last _)
    = iprop(Pipeline.scopedRest spec0 c ∗ (∃ r, prngReg c r) ∗ StableHlo.held (c : Thread nD τ) S12 (V1 m c) ∗ Pipeline.ownSems0 osem c ∗ semVal (bcl c) 0) := by
  dsimp only [dat0]; exact if_neg last_ne
theorem last_eq : t0_0.succ = Fin.last cfg0.N := by ext; show 0 + 1 = grid0.N; rw [N_0]

theorem owes_in (c : Dev nD) : (dat0 m c).owesAt () t0_0.castSucc ⊢ (OW c (OL c) : sProp 𝕄) := by
  unfold Dat.owesAt Pipeline.owesWithin OW
  rw [owed_first]
  iintro ⟨%W, -, HO⟩; iexists W; iexact HO
theorem owes_out (c : Dev nD) : (OW c [] : sProp 𝕄) ⊢ (dat0 m c).owesAt () t0_0.succ := by
  rw [last_eq]
  unfold Dat.owesAt Pipeline.owesWithin OW
  rw [owed_last]
  iintro ⟨%W, HO⟩; iexists W
  isplitr; · ipureintro; exact fun _ _ => Or.inl trivial
  iexact HO

theorem posE_app (c : Dev nD) : iprop(bigSep (Finset.Ico 4 24) (posE c) ∗ bigSep (Finset.Ico 24 54) (posE c)) ⊢ bigSep (Finset.Ico 4 54) (posE (F := F) c) := by
  rw [ico_app (a := 4) (b := 24) (c := 54) (by decide) (by decide)]

/-- The body obligation of the kernel's one point. -/
theorem body0 (c : Dev nD) : BodyObligation (dat0 m c) defs₀ 𝒱₀ () Set.univ := fun t => by
  obtain rfl := fin_N0 t
  rw [bigSep_W0, bigSep_W0]
  rw [Φ_first, show (dat0 m c).Φ t0_0.succ = _ from (congrArg _ last_eq).trans (Φ_last m c), scratch_eq, held12]
  simp only [show ∀ w i, cfg0.idle w i = false from fun _ _ => rfl]
  rw [after_0, after_1, after_2, after_3]
  show _ ⊢ wp frame (wpE (defs₀ (F := F)) 𝒱₀ c none) Set.univ (bodyAt0 t0_0) _
  unfold Xk
  iintro ⟨⟨⟨⟨%f0, Hd0⟩, ⟨%f1, Hd1⟩, ⟨%f2, HpW⟩, ⟨%f3, HrW⟩, ⟨%f4, HoW⟩⟩, Hrng, ⟨Hk0, Hk1⟩, ⟨%K, #HC⟩, #Hrc, Hg, Hp⟩, HO, ⟨%d0, H0⟩, ⟨%d1, H1⟩, ⟨%d2, H2⟩, ⟨%d3, H3⟩⟩
  ihave HO := (owes_in m c) $$ HO
  ihave Hst := (start_mk m c f0 f1 f2 f3 f4) $$ [HO Hg Hp Hk0 Hk1 Hd0 Hd1 HpW HrW HoW]
  · isplitl [HO]; · iexact HO
    isplitl [Hg]; · iexact Hg
    isplitl [Hp]; · iexact Hp
    isplitl [Hk0]; · iexact Hk0
    isplitl [Hk1]; · iexact Hk1
    isplitl [Hd0]; · iexact Hd0
    isplitl [Hd1]; · iexact Hd1
    isplitl [HpW]; · iexact HpW
    isplitl [HrW]; · iexact HrW
    iexact HoW
  rw [before_0, before_1, before_2, iblk_0, iblk_1, iblk_2]
  unfold bodyAt0
  iapply (body_run m K _ _ _ _ _ _ _ _ c f2 f3 f4 _ _) $$ [Hst H0 H1 H2 H3]
  · isplitr; · iexact HC
    isplitr; · iexact Hrc
    isplitl [Hst]; · iexact Hst
    isplitl [H0]; · iexact H0
    isplitl [H1]; · iexact H1
    isplitl [H2]; · iexact H2
    iexact H3
  iintro ⟨He, H0, H1, H2, H3⟩
  unfold bEnd kvFin Ctx
  icases HC with ⟨#HI, #Hl, #Hrb⟩
  icases He with ⟨HO, Hat, ⟨Hk0, Hk1, Hpa⟩, Hpb, HK, HV, HpW, HrW, HoW⟩
  imod (close_bar m K c) $$ [Hat] with Hb
  · isplitr; · iexact HI
    iexact Hat
  imod (close_all m K c) $$ [Hpa Hpb] with Hs
  · isplitr; · iexact HI
    iapply (posE_app c)
    isplitl [Hpa]; · iexact Hpa
    iexact Hpb
  imodintro
  isplitl [HK HV HpW HrW HoW Hrng Hk0 Hk1 Hs Hb]
  · isplitl [HK HV HpW HrW HoW]
    · isplitl [HK]; · iexists (kAll m c); iapply (kW_kv m c); iexact HK
      isplitl [HV]; · iexists (vAll m c); iapply (vW_kv m c); iexact HV
      isplitl [HpW]; · iexists (pAll m c); iexact HpW
      isplitl [HrW]; · iexists (rAll m c); iexact HrW
      iexists (oAll m); iexact HoW
    isplitl [Hrng]; · iexact Hrng
    isplitl [Hk0 Hk1]
    · isplitl [Hk0]; · iexact Hk0
      iexact Hk1
    isplitl [Hs]
    · iapply (own_sems' c); iexact Hs
    iexact Hb
  isplitl [HO]; · iapply (owes_out m c); iexact HO
  isplitl [H0]; · iexact H0
  isplitl [H1]; · iexact H1
  isplitl [H2]; · iexact H2
  iexact H3

end Cert.KernelIdeal.Run

end
-- ==== Proof.Ideal.LT.lean ====
module

public import proofs.«01_k».proof.Proof.Ideal.LD

@[expose] public section

/-! # Dealing out the launch: tokens and credit -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-! ## Every token there is -/

def barEmb : Dev nD ↪ GSem nD τ sig := ⟨fun c => bcl c, fun _ _ h => congrArg (fun g : GSem nD τ sig => g.1.1) h⟩
theorem osem_inj : Function.Injective (osem) := by decide
theorem osem_ne_bar : ∀ k : Fin 50, osem k ≠ .reg barS := by decide
def scEmb : Dev nD × Fin 50 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

def tbEmb : Dev nD × Fin 8 ↪ GSem nD τ sig × ℕ × Fin 8 := ⟨fun cd => (bcl cd.1, 0, cd.2), fun _ _ h =>
  Prod.ext (congrArg (fun t : GSem nD τ sig × ℕ × Fin 8 => t.1.1.1) h) (congrArg (fun t : GSem nD τ sig × ℕ × Fin 8 => t.2.2) h)⟩
def tcEmb : Dev nD × Fin 50 ↪ GSem nD τ sig × ℕ × Fin 8 := ⟨fun ck => (scEmb ck, 0, 0), fun _ _ h =>
  scEmb.injective (congrArg Prod.fst h)⟩
def barToks : Finset (GSem nD τ sig × ℕ × Fin 8) := Finset.univ.map tbEmb
def cpToks : Finset (GSem nD τ sig × ℕ × Fin 8) := Finset.univ.map tcEmb
/-- A token per duty: each barrier cell's for every device, each copy cell's. -/
def toks : Finset (GSem nD τ sig × ℕ × Fin 8) := barToks ∪ cpToks

theorem disjoint_toks : Disjoint barToks cpToks := by
  rw [Finset.disjoint_left]
  rintro g h₁ h₂
  obtain ⟨cd, -, rfl⟩ := Finset.mem_map.mp h₁
  obtain ⟨ck, -, h⟩ := Finset.mem_map.mp h₂
  exact osem_ne_bar ck.2 (congrArg (fun t : GSem nD τ sig × ℕ × Fin 8 => t.1.2) h)

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A copy cell's token. -/
abbrev tk (c : Dev nD) (k : ℕ) : sProp 𝕄 := dutyTok ER (cl c k) 0 0

/-- Two nested separating products over finite sets change places. -/
theorem bcomm {I J : Type} [DecidableEq I] [DecidableEq J] (s : Finset I) (t : Finset J) (Φ : I → J → sProp 𝕄) :
    (bigSep s fun i => bigSep t fun j => Φ i j) = bigSep t fun j => bigSep s fun i => Φ i j := by
  induction s using Finset.induction_on with
  | empty =>
    rw [BI.bigSep_empty]
    exact (BI.bigSep_emp_const (s := t)).symm.trans (bigSep_congr fun j _ => (BI.bigSep_empty).symm)
  | insert a s ha ih =>
    rw [bigSep_insert ha, ih]
    refine (bsep t (fun j => Φ a j) (fun j => bigSep s fun i => Φ i j)).symm.trans (bigSep_congr fun j _ => ?_)
    rw [bigSep_insert ha]; rfl

theorem cells_eq (Φ : GSem nD τ sig → sProp 𝕄) : bigSep scCells Φ = bigSep Finset.univ fun c : Dev nD => bigSep (Finset.Ico 4 54) fun k => Φ (cl c k) := by
  rw [bigSep_map, bigSep_univ_prod]
  exact bigSep_congr fun c _ => by
    rw [ico50]
    exact bigSep_congr fun k _ => by rw [← osem_cl]; rfl
theorem bars_eq (Φ : GSem nD τ sig → sProp 𝕄) : bigSep barCells Φ = bigSep Finset.univ fun c : Dev nD => Φ (bcl c) := bigSep_map barEmb

theorem toks_eq : bigSep toks (fun x => (dutyTok ER x.1 x.2.1 x.2.2 : sProp 𝕄))
    = iprop((bigSep Finset.univ fun c : Dev nD => bigSep Finset.univ fun d : Fin 8 => dutyTok ER (bcl c) 0 d)
      ∗ bigSep Finset.univ fun c : Dev nD => bigSep (Finset.Ico 4 54) (tk c)) := by
  have h1 : bigSep barToks (fun x => (dutyTok ER x.1 x.2.1 x.2.2 : sProp 𝕄)) = bigSep Finset.univ fun c : Dev nD => bigSep Finset.univ fun d : Fin 8 => dutyTok ER (bcl c) 0 d := by
    unfold barToks; rw [bigSep_map, bigSep_univ_prod]; rfl
  have h2 : bigSep cpToks (fun x => (dutyTok ER x.1 x.2.1 x.2.2 : sProp 𝕄)) = bigSep Finset.univ fun c : Dev nD => bigSep (Finset.Ico 4 54) (tk c) := by
    rw [← cells_eq (fun g => (dutyTok ER g 0 0 : sProp 𝕄))]
    unfold cpToks; rw [bigSep_map, bigSep_map]; rfl
  unfold toks
  rw [bigSep_union disjoint_toks, h1, h2]; rfl

/-- The barrier tokens, each to the device that signals. -/
theorem bar_deal : (bigSep Finset.univ fun c : Dev nD => bigSep Finset.univ fun d : Fin 8 => (dutyTok ER (bcl c) 0 d : sProp 𝕄))
    ⊢ bigSep Finset.univ fun c : Dev nD => bigSep (Finset.Ico 0 7) (tokB c) := by
  rw [bcomm]
  refine bmono fun d _ => ?_
  rw [bigSep_eight d (fun n => dv d (n + 1)) (dv_inj d) (dv_off d)]
  iintro ⟨-, H⟩; iexact H

/-- What device c's own cells' tokens are dealt from. -/
def cut (c : Dev nD) : sProp 𝕄 :=
  iprop(bigSep (Finset.Ico 0 7) (fun n => iprop(tk c (4 + 2 * n) ∗ tk c (4 + 2 * n + 1))) ∗ (tk c 18 ∗ tk c 19 ∗ tk c 20 ∗ tk c 21) ∗ (tk c 22 ∗ tk c 23)
    ∗ bigSep (Finset.Ico 0 7) (fun n => tk c (24 + n)) ∗ bigSep (Finset.Ico 0 7) (fun n => tk c (32 + n))
    ∗ bigSep (Finset.Ico 0 7) (fun n => tk c (39 + n)) ∗ bigSep (Finset.Ico 0 7) (fun n => tk c (47 + n)))

theorem pairs14 (Φ : ℕ → sProp 𝕄) : bigSep (Finset.Ico 4 18) Φ ⊢ bigSep (Finset.Ico 0 7) (fun n => iprop(Φ (4 + 2 * n) ∗ Φ (4 + 2 * n + 1))) := by
  rw [bigSep_eq_bigSepL_of_eq [4, 5, 6, 7, 8, 9, 10, 11, 12, 13, 14, 15, 16, 17] (by decide) (by decide),
    bigSep_eq_bigSepL_of_eq (S := Finset.Ico 0 7) [0, 1, 2, 3, 4, 5, 6] (by decide) (by decide)]
  show iprop(Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) ⊢
    iprop((Φ 4 ∗ Φ 5) ∗ (Φ 6 ∗ Φ 7) ∗ (Φ 8 ∗ Φ 9) ∗ (Φ 10 ∗ Φ 11) ∗ (Φ 12 ∗ Φ 13) ∗ (Φ 14 ∗ Φ 15) ∗ (Φ 16 ∗ Φ 17))
  iintro ⟨H4, H5, H6, H7, H8, H9, H10, H11, H12, H13, H14, H15, H16, H17⟩
  isplitl [H4 H5]; · isplitl [H4] <;> iassumption
  isplitl [H6 H7]; · isplitl [H6] <;> iassumption
  isplitl [H8 H9]; · isplitl [H8] <;> iassumption
  isplitl [H10 H11]; · isplitl [H10] <;> iassumption
  isplitl [H12 H13]; · isplitl [H12] <;> iassumption
  isplitl [H14 H15]; · isplitl [H14] <;> iassumption
  isplitl [H16] <;> iassumption

theorem quad (Φ : ℕ → sProp 𝕄) : bigSep (Finset.Ico 18 22) Φ = iprop(Φ 18 ∗ Φ 19 ∗ Φ 20 ∗ Φ 21) := by
  rw [bigSep_eq_bigSepL_of_eq [18, 19, 20, 21] (by decide) (by decide)]; rfl
theorem duo (Φ : ℕ → sProp 𝕄) : bigSep (Finset.Ico 22 24) Φ = iprop(Φ 22 ∗ Φ 23) := by
  rw [bigSep_eq_bigSepL_of_eq [22, 23] (by decide) (by decide)]; rfl

theorem cut_mk (c : Dev nD) : bigSep (Finset.Ico 4 54) (tk c) ⊢ (cut c : sProp 𝕄) := by
  unfold cut
  rw [ico_app (a := 4) (b := 18) (c := 54) (by decide) (by decide) (tk c), ico_app (a := 18) (b := 22) (c := 54) (by decide) (by decide) (tk c),
    ico_app (a := 22) (b := 24) (c := 54) (by decide) (by decide) (tk c), ico_app (a := 24) (b := 31) (c := 54) (by decide) (by decide) (tk c),
    ico_app (a := 31) (b := 32) (c := 54) (by decide) (by decide) (tk c), ico_app (a := 32) (b := 39) (c := 54) (by decide) (by decide) (tk c),
    ico_app (a := 39) (b := 46) (c := 54) (by decide) (by decide) (tk c), ico_app (a := 46) (b := 47) (c := 54) (by decide) (by decide) (tk c),
    quad, duo, show Finset.Ico 24 31 = Finset.Ico 24 (24 + 7) from rfl, ico_shift 24 7, show Finset.Ico 32 39 = Finset.Ico 32 (32 + 7) from rfl, ico_shift 32 7,
    show Finset.Ico 39 46 = Finset.Ico 39 (39 + 7) from rfl, ico_shift 39 7, show Finset.Ico 47 54 = Finset.Ico 47 (47 + 7) from rfl, ico_shift 47 7]
  iintro ⟨H1, H2, H3, H4, -, H5, H6, -, H7⟩
  isplitl [H1]; · iapply (pairs14 (tk c)); iexact H1
  isplitl [H2]; · iexact H2
  isplitl [H3]; · iexact H3
  isplitl [H4]; · iexact H4
  isplitl [H5]; · iexact H5
  isplitl [H6]; · iexact H6
  iexact H7

/-- What device c pays with, after dealing: its own cells' tokens and those of the cells it sends to. -/
def hand (c : Dev nD) : sProp 𝕄 := iprop(kvTok c ∗ bigSep (Finset.Ico 0 7) (rU c) ∗ bigSep (Finset.Ico 0 7) (gU c))

/-- The remote keys-and-values tokens, held by the two sources. -/
def far (c : Dev nD) : sProp 𝕄 :=
  if c.val < 2 then bigSep (Finset.Ico 0 7) (fun n => iprop(tk (kd c n) (18 + 2 * c.val) ∗ tk (kd c n) (18 + 2 * c.val + 1))) else iprop(emp)

theorem kd_all (z : Dev nD) (hz : z.val < 2) (Φ : Dev nD → sProp 𝕄) : bigSep Finset.univ Φ ⊢ bigSep (Finset.Ico 0 7) fun n => Φ (kd z n) := by
  rw [bigSep_eight z (kd z) (by revert z; decide) (by revert z; decide)]
  iintro ⟨-, H⟩; iexact H

theorem far_mk : (bigSep Finset.univ fun c : Dev nD => iprop(tk c 18 ∗ tk c 19 ∗ tk c 20 ∗ tk c 21)) ⊢ bigSep Finset.univ fun c : Dev nD => (far c : sProp 𝕄) := by
  rw [bsep, bsep, bsep]
  rw [bigSep_eq_bigSepL_of_eq (S := Finset.univ) (Φ := fun c : Dev nD => (far c : sProp 𝕄)) [(0 : Fin 8), 1, 2, 3, 4, 5, 6, 7] (by decide) (by decide)]
  show _ ⊢ iprop(far 0 ∗ far 1 ∗ emp ∗ emp ∗ emp ∗ emp ∗ emp ∗ emp)
  iintro ⟨H18, H19, H20, H21⟩
  isplitl [H18 H19]
  · unfold far
    rw [if_pos (by decide), bsep]
    isplitl [H18]
    · iapply (kd_all 0 (by decide) (fun c => tk c 18)); iexact H18
    iapply (kd_all 0 (by decide) (fun c => tk c 19)); iexact H19
  isplitl [H20 H21]
  · unfold far
    rw [if_pos (by decide), bsep]
    isplitl [H20]
    · iapply (kd_all 1 (by decide) (fun c => tk c 20)); iexact H20
    iapply (kd_all 1 (by decide) (fun c => tk c 21)); iexact H21
  repeat (isplitr; · iempintro)
  iempintro

theorem dv_bij (o : ℕ) : Function.Bijective fun c : Dev nD => dv c o := by
  refine (Finite.injective_iff_bijective).mp fun a b h => Fin.ext ?_
  have h' : (a.val + o) % 8 = (b.val + o) % 8 := congrArg Fin.val h
  have := a.isLt; have := b.isLt
  have ha : a.val < 8 := a.isLt
  have hb : b.val < 8 := b.isLt
  omega

/-- Tokens of the cells of every device at an index that goes with the distance, each to the device at that distance. -/
theorem around (b : ℕ) : (bigSep Finset.univ fun c : Dev nD => bigSep (Finset.Ico 0 7) fun n => tk c (b + n))
    ⊢ bigSep Finset.univ fun c : Dev nD => (bigSep (Finset.Ico 0 7) fun n => tk (dv c (n + 1)) (b + n) : sProp 𝕄) := by
  rw [bcomm _ _ (fun (c : Dev nD) n => tk c (b + n)), bcomm _ _ (fun (c : Dev nD) n => tk (dv c (n + 1)) (b + n))]
  refine bmono fun n _ => ?_
  rw [bigSep_univ_equiv (Equiv.ofBijective _ (dv_bij (n + 1))) (fun c : Dev nD => (tk c (b + n) : sProp 𝕄))]
  exact BI.Entails.refl _

theorem rU_mk (c : Dev nD) : iprop(bigSep (Finset.Ico 0 7) (fun n => tk c (24 + n)) ∗ bigSep (Finset.Ico 0 7) (fun n => tk (dv c (n + 1)) (32 + n)))
    ⊢ (bigSep (Finset.Ico 0 7) (rU c) : sProp 𝕄) := by
  rw [← bsep]; exact bmono fun n _ => by unfold rU; exact BI.Entails.refl _
theorem gU_mk (c : Dev nD) : iprop(bigSep (Finset.Ico 0 7) (fun n => tk c (39 + n)) ∗ bigSep (Finset.Ico 0 7) (fun n => tk (dv c (n + 1)) (47 + n)))
    ⊢ (bigSep (Finset.Ico 0 7) (gU c) : sProp 𝕄) := by
  rw [← bsep]; exact bmono fun n _ => by unfold gU; exact BI.Entails.refl _

theorem kvTok_mk (c : Dev nD) : iprop((bigSep (Finset.Ico 0 7) (fun n => iprop(tk c (4 + 2 * n) ∗ tk c (4 + 2 * n + 1)))) ∗ far c ∗ (tk c 22 ∗ tk c 23))
    ⊢ (kvTok c : sProp 𝕄) := by
  unfold kvTok far
  by_cases hc : c.val < 2
  · rw [if_pos hc, if_pos hc]
    unfold kTok
    rw [bsep, bsep, bsep, bsep]
    iintro ⟨⟨H0, H1⟩, ⟨H2, H3⟩, H4, H5⟩
    isplitl [H0 H2]
    · isplitl [H0]; · iexact H0
      iexact H2
    isplitl [H1 H3]
    · isplitl [H1]; · iexact H1
      iexact H3
    isplitl [H4]; · iexact H4
    iexact H5
  · rw [if_neg hc, if_neg hc]
    iintro -; iempintro

/-- Device c's hand from its share. -/
theorem hand_mk (c : Dev nD) : iprop((bigSep (Finset.Ico 0 7) (fun n => iprop(tk c (4 + 2 * n) ∗ tk c (4 + 2 * n + 1)))) ∗ far c ∗ (tk c 22 ∗ tk c 23)
      ∗ bigSep (Finset.Ico 0 7) (fun n => tk c (24 + n)) ∗ bigSep (Finset.Ico 0 7) (fun n => tk (dv c (n + 1)) (32 + n))
      ∗ bigSep (Finset.Ico 0 7) (fun n => tk c (39 + n)) ∗ bigSep (Finset.Ico 0 7) (fun n => tk (dv c (n + 1)) (47 + n)))
    ⊢ (hand c : sProp 𝕄) := by
  unfold hand
  iintro ⟨H1, H2, H3, H4, H5, H6, H7⟩
  isplitl [H1 H2 H3]
  · iapply (kvTok_mk c)
    isplitl [H1]; · iexact H1
    isplitl [H2]; · iexact H2
    iexact H3
  isplitl [H4 H5]
  · iapply (rU_mk c)
    isplitl [H4] <;> iassumption
  iapply (gU_mk c)
  isplitl [H6] <;> iassumption

theorem sep7 (A B C D E G H : Dev nD → sProp 𝕄) : (bigSep Finset.univ fun c => iprop(A c ∗ B c ∗ C c ∗ D c ∗ E c ∗ G c ∗ H c))
    = iprop(bigSep Finset.univ A ∗ bigSep Finset.univ B ∗ bigSep Finset.univ C ∗ bigSep Finset.univ D ∗ bigSep Finset.univ E ∗ bigSep Finset.univ G
      ∗ bigSep Finset.univ H) := by
  rw [bsep, bsep, bsep, bsep, bsep, bsep]

theorem deal : (bigSep Finset.univ fun c : Dev nD => bigSep (Finset.Ico 4 54) (tk c)) ⊢ bigSep Finset.univ fun c : Dev nD => (hand c : sProp 𝕄) := by
  refine strans (bmono (Ψ := fun c => cut c) fun c _ => cut_mk c) (strans ?_ (bmono fun c _ => hand_mk c))
  unfold cut
  rw [sep7, sep7]
  iintro ⟨H1, H2, H3, H4, H5, H6, H7⟩
  isplitl [H1]; · iexact H1
  isplitl [H2]; · iapply far_mk; iexact H2
  isplitl [H3]; · iexact H3
  isplitl [H4]; · iexact H4
  isplitl [H5]; · iapply (around 32); iexact H5
  isplitl [H6]; · iexact H6
  iapply (around 47); iexact H7

/-! ## The launch credit -/

def due (c : Dev nD) : CellTallies nD τ sig Unit := own (OL c)

/-- A list of units, counted at one cell. -/
def cnt (l : List (GSem nD τ sig × ℕ)) (g : GSem nD τ sig) : ℕ := (l.map fun p => if p.1 = g then p.2 else 0).sum

theorem own_cnt (l : List (GSem nD τ sig × ℕ)) (g : GSem nD τ sig) : own l g () = cnt l g := by
  induction l with
  | nil => rfl
  | cons p l ih =>
    rw [own_cons, Pi.add_apply, Finsupp.add_apply, ih, tallyAt_apply]
    unfold cnt
    rw [List.map_cons, List.sum_cons, Nat.add_comm]
    by_cases h : g = p.1
    · rw [if_pos ⟨h, rfl⟩, if_pos h.symm]
    · rw [if_neg (fun h' => h h'.1), if_neg (fun h' => h h'.symm)]

theorem due_bar : ∀ c : Dev nD, (∑ d : Dev nD, cnt (OL d) (bcl c)) = 7 := by decide +kernel
theorem due_kv : ∀ c : Dev nD, ∀ k : Fin 4, live c (18 + k.val) → (∑ d : Dev nD, cnt (OL d) (cl c (18 + k.val))) = amt (18 + k.val) := by decide +kernel
theorem due_r : ∀ c : Dev nD, ∀ i : Fin 7, (∑ d : Dev nD, cnt (OL d) (cl c (32 + i.val))) = amt (32 + i.val) := by decide +kernel
theorem due_g : ∀ c : Dev nD, ∀ i : Fin 7, (∑ d : Dev nD, cnt (OL d) (cl c (47 + i.val))) = amt (47 + i.val) := by decide +kernel

theorem tally_eq (g : GSem nD τ sig) (n : ℕ) (h : (∑ d : Dev nD, cnt (OL d) g) = n) :
    tallyOn g (launchCredit (Pipeline.owing due) 0 g) = (tallyAt g () n : CellTallies nD τ sig Unit) := by
  unfold tallyAt; refine congrArg _ (Finsupp.ext fun u => ?_); cases u
  rw [Pipeline.launchCredit_owing, Finsupp.single_eq_same, ← h]
  exact Finset.sum_congr rfl fun d _ => own_cnt _ _

/-- What device c is owed at its cells. -/
def crds (c : Dev nD) : sProp 𝕄 :=
  iprop(cred (tallyAt (bcl c) () 7) ∗ bigSep (Finset.Ico 18 22) (crdL c) ∗ bigSep (Finset.Ico 0 7) (fun i => crd c (32 + i)) ∗ bigSep (Finset.Ico 0 7) (fun i => crd c (47 + i)))

theorem creds (c : Dev nD) : (Pipeline.launchCred due c : sProp 𝕄) ⊢ crds c := by
  unfold Pipeline.launchCred crds
  rw [bigSep_univ_at _ (SemLoc.reg barS), tally_eq _ 7 (due_bar c)]
  let X (k : ℕ) : sProp 𝕄 := cred (tallyOn (cl c k) (launchCredit (Pipeline.owing due) 0 (cl c k)))
  have hX : (bigSep (Finset.univ.erase (SemLoc.reg barS)) fun sm : SemLoc sig => (cred (tallyOn (((c : Thread nD τ), sm) : GSem nD τ sig) (launchCredit (Pipeline.owing due) 0 ((c : Thread nD τ), sm))) : sProp 𝕄))
      ⊢ bigSep (Finset.Ico 4 54) X := by
    rw [ico50]
    refine BI.Entails.trans (bigSep_subset (t := Finset.univ.map ⟨osem, osem_inj⟩) fun sm h => ?_) ?_
    · obtain ⟨k, -, rfl⟩ := Finset.mem_map.mp h
      exact Finset.mem_erase.mpr ⟨osem_ne_bar k, Finset.mem_univ _⟩
    · rw [bigSep_map]
      exact bmono fun k _ => by
        show cred (tallyOn (((c : Thread nD τ), osem k) : GSem nD τ sig) (launchCredit (Pipeline.owing due) 0 ((c : Thread nD τ), osem k))) ⊢ X (k.val + 4)
        rw [osem_cl]
  have h18 : bigSep (Finset.Ico 18 22) X ⊢ bigSep (Finset.Ico 18 22) (crdL c) := bmono fun k hk => by
    have hk' := Finset.mem_Ico.mp hk
    unfold crdL
    by_cases hl : live c k
    · have e := due_kv c ⟨k - 18, by omega⟩
      rw [show 18 + (⟨k - 18, by omega⟩ : Fin 4).val = k from by show 18 + (k - 18) = k; omega] at e
      rw [if_pos hl]; show cred _ ⊢ cred _; rw [tally_eq _ _ (e hl)]
    · rw [if_neg hl]; iintro -; iempintro
  have h32 : bigSep (Finset.Ico 32 (32 + 7)) X ⊢ bigSep (Finset.Ico 0 7) (fun i => crd c (32 + i)) := by
    rw [ico_shift]
    exact bmono fun i hi => by
      show cred _ ⊢ cred _
      rw [tally_eq _ _ (due_r c ⟨i, (Finset.mem_Ico.mp hi).2⟩)]
  have h47 : bigSep (Finset.Ico 47 (47 + 7)) X ⊢ bigSep (Finset.Ico 0 7) (fun i => crd c (47 + i)) := by
    rw [ico_shift]
    exact bmono fun i hi => by
      show cred _ ⊢ cred _
      rw [tally_eq _ _ (due_g c ⟨i, (Finset.mem_Ico.mp hi).2⟩)]
  have hs : bigSep (Finset.Ico 4 54) X ⊢ iprop(bigSep (Finset.Ico 18 22) X ∗ bigSep (Finset.Ico 32 (32 + 7)) X ∗ bigSep (Finset.Ico 47 (47 + 7)) X) := by
    rw [ico_app (a := 4) (b := 18) (c := 54) (by decide) (by decide), ico_app (a := 18) (b := 22) (c := 54) (by decide) (by decide),
      ico_app (a := 22) (b := 32) (c := 54) (by decide) (by decide), ico_app (a := 32) (b := 32 + 7) (c := 54) (by decide) (by decide),
      ico_app (a := 32 + 7) (b := 47) (c := 54) (by decide) (by decide)]
    iintro ⟨-, H1, -, H2, -, H3⟩
    isplitl [H1]; · iexact H1
    isplitl [H2]; · iexact H2
    iexact H3
  iintro ⟨H, Hr⟩
  isplitl [H]; · iexact H
  ihave Hr := hX $$ Hr
  ihave Hr := hs $$ Hr
  icases Hr with ⟨H1, H2, H3⟩
  isplitl [H1]; · iapply h18; iexact H1
  isplitl [H2]; · iapply h32; iexact H2
  iapply h47; iexact H3

end Cert.KernelIdeal.Run

end
-- ==== Proof.Ideal.LN.lean ====
module

public import proofs.«01_k».proof.Proof.Ideal.LT
public import Idealize.ShloMosaic.Lib.Pipeline.ValueKit

@[expose] public section

/-! # The run of the whole program -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : GSem nD τ sig → ℕ)

/-! ## The region and the host code before it -/

abbrev bufs : Finset (DevRef τ sig) := (StableHlo.tcRefs τ sig).filter fun b => ¬ b.isScoped
abbrev V₀ (c : Dev nD) : Valuation τ sig (Elt F) := fun b => m (c, b)
/-- The unscoped buffers at the end: as the kernel found them, but for its result. -/
def V2 (c : Dev nD) : Valuation τ sig (Elt F) := Function.update (V1 m c) (Proc.devRef .tc main_v3) (out m)

abbrev arrs : Finset (DevRef τ sig) := Pipeline.arrRefs (τ := τ) (pcfgs (F := F) 0).spec
/-- The unscoped buffers that are no window's. -/
def S4 : Finset (DevRef τ sig) := {Proc.devRef .tc main_arg2, Proc.devRef .tc main_arg3, Proc.devRef .tc main_v1, Proc.devRef .tc main_v2}

theorem arrs_eq : (arrs (F := F)) = {Proc.devRef .tc main_arg0, Proc.devRef .tc main_arg1, Proc.devRef .tc main_arg4, Proc.devRef .tc main_v3} := by
  show Finset.map _ (Finset.image (Pipeline.arrRef spec0) Finset.univ) = _
  decide
theorem bufs_split (c : Dev nD) (W : Valuation τ sig (Elt F)) :
    (StableHlo.held (c : Thread nD τ) bufs W : sProp 𝕄) = iprop(StableHlo.held (c : Thread nD τ) (arrs (F := F)) W ∗ StableHlo.held (c : Thread nD τ) S4 W) := by
  rw [arrs_eq]
  unfold StableHlo.held
  rw [show bufs = {Proc.devRef .tc main_arg0, Proc.devRef .tc main_arg1, Proc.devRef .tc main_arg4, Proc.devRef .tc main_v3} ∪ S4 from by decide]
  exact bigSep_union (by decide)

theorem unscopedBufs_held (c : Dev nD) (V : Valuation τ sig (Elt F)) :
    (unscopedBufs c (fun b => V (Proc.devRef .tc b)) : sProp 𝕄) = StableHlo.held (c : Thread nD τ) bufs V := by
  unfold unscopedBufs StableHlo.held bufs StableHlo.tcRefs
  rw [Finset.filter_map, BI.bigSep_map]
  rfl

/-- What rides along the host code. -/
def R (c : Dev nD) : sProp 𝕄 := iprop((∃ r, prngReg c r) ∗ Tk m c ∗ ∃ W, owes (c : Thread nD τ) (due c) W)

theorem ops_fresh : ∀ op ∈ (hostOps0 (F := F)), op.fresh = ∅ := List.forall_iff_forall_mem.mp hostOps0_fresh
theorem ops_sub : ∀ op ∈ (hostOps0 (F := F)), op.bufs ⊆ bufs := fun op h => by
  simp only [hostOps0, List.mem_cons, List.not_mem_nil, or_false] at h
  rcases h with rfl | rfl
  · show ({Proc.devRef .tc main_arg2, Proc.devRef .tc main_v1} : Finset (DevRef τ sig)) ⊆ bufs; decide
  · show ({Proc.devRef .tc main_arg3, Proc.devRef .tc main_v2} : Finset (DevRef τ sig)) ⊆ bufs; decide

def seg0 : Pipeline.HostSeg (Name := ℕ) (U := UU) (pcfgs (F := F)) defs₀ 𝒱₀ L lv := Pipeline.HostSeg.ofOps _ _ _ _ _ bufs hostOps0 ops_sub ops_fresh (V₀ m) (R m)

theorem cellOf_inj' : Function.Injective (Pipeline.cellOf (nD := nD) (τ := τ) (Pipeline.pin (pcfgs (F := F)) adm)) := cellOf_inj

theorem kitP : Pipeline.PLaunchFacts (nD := nD) (τ := τ) (pcfgs (F := F)) 0 where
  cellOf_inj a := by rw [Subsingleton.elim a adm]; exact cellOf_inj'
  win := winFacts0
  pre := Pipeline.PreFacts.none _
  block_pos := block_pos0
  arr_whole := arr_whole0
  stage_whole := stage_whole0

theorem Abv0 : ∀ c : Dev nD, ∀ p ∈ OL c, p.1.1.2 = .tc ∧ 0 < lv p.1 () := by decide +kernel

theorem lv_pos (c : Dev nD) (g : GSem nD τ sig) (h : ∃ p ∈ OL c, p.1 = g) : g.1.2 = .tc ∧ 0 < lv g () := by
  obtain ⟨p, hp, rfl⟩ := h
  exact Abv0 c p hp

theorem cutD (c : Dev nD) (t) (g : GSem nD τ sig) (i : Unit) (h : 0 < (pdats m 0 c).owed t g i) : i ∈ L g ∧ (0 : ℕ) < lv g i := by
  have e : (pdats m 0 c).owed t = if t.val = 0 then own (OL c) else 0 := rfl
  rw [e] at h
  split at h
  · obtain ⟨h1, h2⟩ := lv_pos c g (own_pos _ g i h)
    exact ⟨by unfold L; rw [if_pos h1]; exact Finset.mem_singleton_self _, h2⟩
  · exact absurd h (Nat.lt_irrefl 0)

theorem hin (c : Dev nD) : iprop(Pipeline.scopedRest (Pipeline.pin (pcfgs (F := F)) adm 0).spec c ∗ (∃ r, prngReg c r) ∗ StableHlo.held (c.tc : Thread nD τ) S12 (V1 m c) ∗ Xk m c)
    ⊢ (pdats m 0 c).Φ 0 := by
  show _ ⊢ (dat0 m c).Φ 0
  rw [Φ_zero]

theorem held2 (c : Dev nD) : (StableHlo.held (c : Thread nD τ) S12 (V2 m c) : sProp 𝕄) = StableHlo.held (c : Thread nD τ) S12 (V1 m c) :=
  StableHlo.held_congr _ fun b hb => by
    unfold V2
    exact Function.update_of_ne (fun h => by subst h; revert hb; decide) _ _

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) S12 (V2 m c) ∗ Pipeline.ownSems0 osem c ∗ semVal (bcl c) 0) := by
  show (dat0 m c).Φ (Fin.last cfg0.N) ⊢ _
  rw [Φ_last, held2]

theorem rest4 (c : Dev nD) : ∀ b ∈ S4 \ S12, V2 m c b = V1 m c b := fun b hb => by
  unfold V2
  exact Function.update_of_ne (fun h => by subst h; revert hb; decide) _ _

theorem arr_in (c : Dev nD) (w : Fin 4) (hw : (cfg0.win w).isOut = false) (n) : (dat0 m c).arrAt w n = V1 m c (Proc.devRef .tc (Pipeline.arrRef spec0 w)) :=
  (dat0 m c).arrAt_in w hw n

theorem V2_ne (c : Dev nD) (b : DevRef τ sig) (h : b ≠ Proc.devRef .tc main_v3) : V2 m c b = V1 m c b := Function.update_of_ne h _ _
theorem V2_out (c : Dev nD) : V2 m c (Proc.devRef .tc main_v3) = out m := Function.update_self _ _ _

theorem arr_out (c : Dev nD) : (dat0 m c).arrAt 3 cfg0.N = out m := by
  refine (dat0 m c).arrAt_eq_of_after_last 3 t0_0 (by decide +kernel) _ fun j => ?_
  blk_simp
  rw [after_3]

theorem lv_win : ∀ (w : Fin cfg0.W) (s : Fin (cfg0.win w).nbuf), lvk (((cfg0.win w).sem s)).val ≤ 0 := by decide

theorem arr_first (c : Dev nD) (w : Fin 4) : (dat0 m c).arrAt w 0 = V1 m c (Proc.devRef .tc (Pipeline.arrRef spec0 w)) := rfl
theorem arr_last (c : Dev nD) (w : Fin 4) : (dat0 m c).arrAt w cfg0.N = V2 m c (Proc.devRef .tc (Pipeline.arrRef spec0 w)) := by
  fin_cases w
  · exact (arr_in m c 0 rfl _).trans (V2_ne m c _ (by decide)).symm
  · exact (arr_in m c 1 rfl _).trans (V2_ne m c _ (by decide)).symm
  · exact (arr_in m c 2 rfl _).trans (V2_ne m c _ (by decide)).symm
  · exact (arr_out m c).trans (V2_out m c).symm

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    S12 S4 (by decide) kitP rfl (fun c => (body0 m c).loose)
    (fun _ => 0) due (fun c => (owed_zero m c).trans (zero_add _).symm) (owed_last m) (fun _ => rfl) (fun _ w => by fin_cases w <;> rfl)
    (V1 m) (V2 m) (rest4 m)
    (Tk m) (fun c => semVal (bcl c) 0) (Xk m) (fun c => semVal (bcl c) 0) (hopen m) (hin m) (hout m)
    (fun c => by iintro H; imodintro; iexact H)
    (fun _ => 0)
    ⟨fun c w s => by show () ∈ L ((c : Thread nD τ), .dma _); rw [L_tc]; exact Finset.mem_singleton_self _, fun c w s => lv_win w s, fun c t g i h => cutD m c t g i h⟩
    (fun _ => iprop(emp))
    (arr_first m) (arr_last m)

theorem reg0_pre (c : Dev nD) : iprop(StableHlo.held (c : Thread nD τ) bufs (V1 m c) ∗ R m c) ⊢ (reg0 m).pre c := by
  show _ ⊢ iprop(StableHlo.held (c.tc : Thread nD τ) (arrs (F := F)) (V1 m c) ∗ (∃ r, prngReg c r)
    ∗ (StableHlo.held (c.tc : Thread nD τ) S4 (V1 m c) ∗ emp) ∗ Tk m c ∗ ∃ Wd, owes (c : Thread nD τ) (0 + due c) Wd)
  rw [bufs_split, zero_add]
  unfold R
  iintro ⟨⟨Ha, Hs⟩, Hp, HT, HO⟩
  isplitl [Ha]; · iexact Ha
  isplitl [Hp]; · iexact Hp
  isplitl [Hs]
  · isplitl [Hs]; · iexact Hs
    iempintro
  isplitl [HT]; · iexact HT
  iexact HO

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V2 m c) ∗ semVal (bcl c) 0)

theorem reg0_post (c : Dev nD) : (reg0 m).post c
    ⊢ iprop(Tₙ m c ∗ ∃ W, owes (c : Thread nD τ) (0 : CellTallies nD τ sig Unit) W) := by
  show iprop(StableHlo.held (c.tc : Thread nD τ) (arrs (F := F)) (V2 m c) ∗ (∃ r, prngReg c r)
    ∗ (StableHlo.held (c.tc : Thread nD τ) S4 (V2 m c) ∗ emp) ∗ semVal (bcl c) 0 ∗ ∃ Wd, owes (c : Thread nD τ) (0 : CellTallies nD τ sig Unit) Wd) ⊢ _
  dsimp only [Tₙ]
  rw [bufs_split]
  iintro ⟨Ha, -, ⟨Hs, -⟩, Hb, HO⟩
  isplitr [HO]
  · isplitl [Ha Hs]
    · isplitl [Ha]; · iexact Ha
      iexact Hs
    iexact Hb
  iexact HO

/-- @main as the list of its segments. -/
def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

/-! ## The launch -/

def u₀ : UU :=
  (initOf (Pipeline.cells (Pipeline.pin (pcfgs (F := F)) adm) cellOf_inj') (Pipeline.launchToks (Pipeline.pin (pcfgs (F := F)) adm) cellOf_inj'),
    launchOf barCells scCells toks)

/-- The protocol's element rides whole on device 0 until it is dealt. -/
def G (c : Dev nD) : sProp 𝕄 := if c = 0 then BI.own (ER (launchOf barCells scCells toks)) else iprop(emp)

theorem G_all : bigSep Finset.univ (G (F := F)) = (BI.own (ER (launchOf barCells scCells toks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscoped_one : ∀ sm : SemLoc sig, sm.isScoped .tc = false → sm = .reg barS := by decide
theorem unscopedSems0_eq (c : Dev nD) : (unscopedSems0 c : sProp 𝕄) = semVal (bcl c) 0 := by
  unfold unscopedSems0
  rw [bigSep_eq_bigSepL_of_eq [SemLoc.reg barS] (by decide) (by decide)]
  rfl

/-- What every device may consult. -/
def records (κ : GSem nD τ sig → ℕ) : sProp 𝕄 :=
  iprop(Inv m κ ∗ bigSep Finset.univ fun d : Dev nD => reached ER (bcl d) 0)

theorem inv_mk (κ : GSem nD τ sig → ℕ) : (bigSep (barCells ∪ scCells) fun g => (cellInv ER (sched m) (κ g) g : sProp 𝕄)) ⊢ Inv m κ := by
  rw [bigSep_union disjoint_cells, bars_eq, cells_eq]
  unfold Inv
  rw [bsep]
  exact BI.Entails.refl _

/-- What stays with device c of the protocol. -/
def linear (c : Dev nD) : sProp 𝕄 :=
  iprop(atPos ER (bcl c) 0 ∅ 0 ∗ bigSep (Finset.Ico 4 54) (fun k => openTok ER (cl c k)) ∗ bigSep (Finset.Ico 0 7) (tokB c) ∗ hand c)
/-- What else of its launch holdings. -/
def bundle (c : Dev nD) : sProp 𝕄 :=
  iprop(StableHlo.held (c : Thread nD τ) bufs (V₀ m c) ∗ crds c ∗ owes (c : Thread nD τ) (due c) ∅ ∗ ∃ r, prngReg c r)

theorem T₀_mk (κ : GSem nD τ sig → ℕ) (c : Dev nD) : iprop(records m κ ∗ (linear c ∗ bundle m c)) ⊢ T₀ m c := by
  unfold records linear bundle T₀ R Tk gift hand crds
  iintro ⟨⟨#HI, #HR⟩, ⟨Ha, Ho, Ht, Hk, Hr, Hg⟩, Hh, ⟨Hc1, Hc2, Hc3, Hc4⟩, HO, Hp⟩
  isplitl [Hh]; · iexact Hh
  isplitl [Hp]; · iexact Hp
  isplitr [HO]
  · isplitr; · iexists κ; iexact HI
    isplitr; · iexact HR
    isplitr [Ho]
    · isplitl [Hc1]; · iexact Hc1
      isplitl [Ha]; · iexact Ha
      isplitl [Ht]; · iexact Ht
      isplitl [Hk]; · iexact Hk
      isplitl [Hc2]; · iexact Hc2
      isplitl [Hr]; · iexact Hr
      isplitl [Hg]; · iexact Hg
      isplitl [Hc3]; · iexact Hc3
      iexact Hc4
    iexact Ho
  · iexists ∅; iexact HO

instance records_persistent (κ : GSem nD τ sig → ℕ) : BI.Persistent (records m κ) := by unfold records Inv; infer_instance

variable (ρ : Dev nD → PrngReg)

theorem core_mk (c : Dev nD) : iprop(unscopedBufs c (fun b => m ((c : Thread nD τ).loc b)) ∗ unscopedSems0 c
      ∗ owes (c : Thread nD τ) (due c) ∅ ∗ Pipeline.launchCred due c ∗ prngReg c (ρ c) ∗ G c)
    ⊢ (iprop(bundle m c ∗ (semVal (bcl c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  isplitl [Hh HO Hcr Hp]
  · isplitl [Hh]; · iexact Hh
    isplitl [Hcr]; · iapply (creds c); iexact Hcr
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c)) ∗ levAts L lv)
      ⊢ (|={Set.univ}=> bigSep Finset.univ (T₀ m) : sProp 𝕄) := by
  have hall : (bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c))
      ⊢ (iprop(bigSep Finset.univ (bundle m) ∗ bigSep Finset.univ (fun c : Dev nD => semVal (bcl c) 0) ∗ bigSep Finset.univ (G (F := F))) : sProp 𝕄) := by
    rw [← bsep, ← bsep]; exact bmono fun c _ => core_mk m ρ c
  have hv : bigSep Finset.univ (fun c : Dev nD => (semVal (bcl c) 0 : sProp 𝕄)) ⊢ bigSep barCells (fun g => (semVal g 0 : sProp 𝕄)) := by
    rw [bars_eq]
  have hu : bigSep Finset.univ (G (F := F)) ⊢ (BI.own (ER (launchOf barCells scCells toks)) : sProp 𝕄) := by rw [G_all]
  have hat : bigSep barCells (fun g => (atPos ER g 0 ∅ 0 : sProp 𝕄)) ⊢ bigSep Finset.univ (fun c : Dev nD => (atPos ER (bcl c) 0 ∅ 0 : sProp 𝕄)) := by
    rw [bars_eq]
  have hre : bigSep barCells (fun g => (reached ER g 0 : sProp 𝕄)) ⊢ bigSep Finset.univ (fun c : Dev nD => (reached ER (bcl c) 0 : sProp 𝕄)) := by
    rw [bars_eq]
  have hop : bigSep scCells (fun g => (openTok ER g : sProp 𝕄)) ⊢ bigSep Finset.univ (fun c : Dev nD => bigSep (Finset.Ico 4 54) fun k => openTok ER (cl c k)) := by
    rw [cells_eq]
  have htk : bigSep toks (fun x => (dutyTok ER x.1 x.2.1 x.2.2 : sProp 𝕄)) ⊢ iprop((bigSep Finset.univ fun c : Dev nD => bigSep (Finset.Ico 0 7) (tokB c)) ∗ bigSep Finset.univ fun c : Dev nD => hand c) := by
    rw [toks_eq]; exact smono bar_deal deal
  have hlin : iprop(bigSep Finset.univ (fun c : Dev nD => (atPos ER (bcl c) 0 ∅ 0 : sProp 𝕄)) ∗ bigSep Finset.univ (fun c : Dev nD => bigSep (Finset.Ico 4 54) fun k => openTok ER (cl c k))
      ∗ (bigSep Finset.univ fun c : Dev nD => bigSep (Finset.Ico 0 7) (tokB c)) ∗ bigSep Finset.univ fun c : Dev nD => hand c) ⊢ bigSep Finset.univ fun c : Dev nD => linear c := by
    rw [← bsep, ← bsep, ← bsep]; exact BI.Entails.refl _
  have hjoin : iprop(bigSep Finset.univ (fun c : Dev nD => linear c) ∗ bigSep Finset.univ (bundle m)) ⊢ bigSep Finset.univ fun c : Dev nD => iprop(linear c ∗ bundle m c) := by
    rw [bsep]
  iintro ⟨H, -⟩
  ihave H := hall $$ H
  icases H with ⟨HB, Hv, HG⟩
  ihave Hv := hv $$ Hv
  ihave Hu := hu $$ HG
  imod (Rounds.fund_launch ER (sched m) disjoint_cells (fun g _ h => h) toks) $$ [Hv Hu] with ⟨%κ, -, Hinv, Hr, Hat, Hopen, Htok⟩
  · isplitl [Hv]; · iexact Hv
    iexact Hu
  imodintro
  ihave #Hinv := (inv_mk m κ) $$ Hinv
  ihave #Hr := hre $$ Hr
  iapply (bigSep_with_persistent (R := records m κ) (Φ := fun c => iprop(linear c ∗ bundle m c)) fun c _ => T₀_mk m κ c)
  isplitr
  · unfold records
    isplitr; · iexact Hinv
    iexact Hr
  iapply hjoin
  isplitr [HB]
  · ihave Htok := htk $$ Htok
    icases Htok with ⟨Ht1, Ht2⟩
    iapply hlin
    isplitl [Hat]; · iapply hat; iexact Hat
    isplitl [Hopen]; · iapply hop; iexact Hopen
    isplitl [Ht1]; · iexact Ht1
    iexact Ht2
  · iexact HB

/-! ## The run -/

theorem held_read (c : Dev nD) (s' : Phys nD τ sig (Elt F)) (W : Valuation τ sig (Elt F)) (S : Finset (DevRef τ sig)) :
    iprop(StableHlo.held (c : Thread nD τ) S W ∗ SI s') ⊢ (iprop(⌜∀ b ∈ S, s'.mem.mem (c, b) = W b⌝ ∗ SI s') : sProp 𝕄) := by
  induction S using Finset.induction_on with
  | empty =>
    iintro ⟨-, HSI⟩
    isplitr
    · ipureintro; exact fun b hb => absurd hb (Finset.notMem_empty b)
    iexact HSI
  | insert a S ha ih =>
    have e : (StableHlo.held (c : Thread nD τ) (insert a S) W : sProp 𝕄) = iprop(((c, a) ↦{fullShare} W a) ∗ StableHlo.held (c : Thread nD τ) S W) := by
      unfold StableHlo.held; rw [bigSep_insert ha]; rfl
    rw [e]
    iintro ⟨⟨Ha, HS⟩, HSI⟩
    icombine HSI Ha gives %hx
    ihave H := ih $$ [HS HSI]
    · isplitl [HS]; · iexact HS
      iexact HSI
    icases H with ⟨%h, HSI⟩
    isplitr
    · ipureintro
      intro b hb
      rcases Finset.mem_insert.mp hb with rfl | hb
      · exact Buf.eq_of_forall_mem_univ hx
      · exact h b hb
    iexact HSI

set_option backward.isDefEq.respectTransparency.types false in
/-- The run: every weakly fair execution of the whole program on the eight devices, from any memory with zero counters, terminates; at the
    end every unscoped buffer holds what the host code left there, but for the result, which holds `out m`; every counter is zero. -/
theorem run_main : θ_run defs (onTc (τ := τ) (main (F := F))) (⟨m, fun _ => 0, ρ⟩ : MemSt nD τ sig (Elt F))
    (fun r => (∀ c : Dev nD, ∀ b ∈ bufs, r.2.mem (c, b) = V2 m c b) ∧ r.2.sem = fun _ => 0) :=
  Pipeline.θ_run_regions_kit_sems (pcfgs (F := F)) adm (pdats m) () cellOf_inj' EP defs₀ 𝒱₀ L lv m ρ main (segs m)
    (fun c Q => by rw [main_eq m c])
    (by simp only [segs, Pipeline.Seg.pipes_host, Pipeline.Seg.pipes_region, Pipeline.Seg.pipes_nil]; decide)
    (O₀ := due) (hL := L_of_ne) (G := G (F := F)) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => (∀ b ∈ bufs, s.mem (c, b) = V2 m c b) ∧ s.sem (bcl c) = 0)
    (hfin := fun c s' => by
      dsimp only [Tₙ]
      iintro ⟨⟨Hh, Hb⟩, HSI⟩
      icombine HSI Hb gives %hb
      ihave H := (held_read c s' (V2 m c) bufs) $$ [Hh HSI]
      · isplitl [Hh]; · iexact Hh
        iexact HSI
      icases H with ⟨%hx, HSI⟩
      imodintro
      isplitr
      · ipureintro
        exact ⟨hx, by simpa using hb⟩
      iexact HSI)
    (hQ := fun s h hs => ⟨fun c => (h c).1, sem_eq_zero hs fun c sm hsm => by
        obtain rfl := unscoped_one sm hsm
        exact (h c).2⟩)

theorem V2_arg (c : Dev nD) (b : Ref sig .tc) (h : Proc.devRef (τ := τ) .tc b ≠ Proc.devRef .tc main_v3) (e : V m c b = m ((c : Thread nD τ).loc b)) :
    V2 m c (Proc.devRef .tc b) = m ((c : Thread nD τ).loc b) := (V2_ne m c _ h).trans e

/-- The run read at the program's result and arguments. -/
theorem run_args : θ_run defs (onTc (τ := τ) (main (F := F))) (⟨m, fun _ => 0, ρ⟩ : MemSt nD τ sig (Elt F))
    (fun r => (∀ c : Dev nD, r.2.mem ((c : Thread nD τ).loc main_v3) = out m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (run_main m ρ).mono fun _ h => ⟨fun c =>
    ⟨(h.1 c (Proc.devRef .tc main_v3) (by decide)).trans (V2_out m c),
      (h.1 c (Proc.devRef .tc main_arg0) (by decide)).trans (V2_arg m c _ (by decide) (V_main_arg0 m c)),
      (h.1 c (Proc.devRef .tc main_arg1) (by decide)).trans (V2_arg m c _ (by decide) (V_main_arg1 m c)),
      (h.1 c (Proc.devRef .tc main_arg2) (by decide)).trans (V2_arg m c _ (by decide) (V_main_arg2 m c)),
      (h.1 c (Proc.devRef .tc main_arg3) (by decide)).trans (V2_arg m c _ (by decide) (V_main_arg3 m c)),
      (h.1 c (Proc.devRef .tc main_arg4) (by decide)).trans (V2_arg m c _ (by decide) (V_main_arg4 m c))⟩, h.2⟩

end Cert.KernelIdeal.Run

end
-- ==== Proof.Ideal.Same.lean ====
module

public import proofs.«01_k».proof.Defs
public import proofs.«01_k».proof.Proof.Ideal.LN
public import proofs.«01_k».proof.Proof.Gen.Kernel.Launch

@[expose] public section

/-! # The program as printed and the program with its constant named

Read with the named constants as their bits, the second program is the first. -/

noncomputable section

namespace Cert.Same
open Idealize.ShloMosaic Idealize.ShloMosaic.TcCoe Idealize.SL.Sem

variable {F : FTy → Type} [FloatOps F]

/-- The named constants read as their bits. -/
@[reducible] def lit : Named F := ⟨fun _ _ {φ} bits => FloatOps.ofBits φ bits⟩

open Cert.KernelIdeal in
/-- Termination, arguments unchanged and quiescence of the program with the constants read as their bits. -/
def QI (F : FTy → Type) [FloatOps F] : Prop :=
  letI : Named F := lit
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

open Cert.Kernel in
/-- The same of the program as printed. -/
def QK (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The two say the same: the programs agree definition by definition. -/
theorem same : QK F = QI F := by chain_rfl

open Cert.KernelIdeal Cert.KernelIdeal.Gen Cert.KernelIdeal.Run in
/-- Every run ends, with the arguments as at launch and every counter zero. -/
theorem quiet [Named F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (run_args m g).mono fun _ h => ⟨fun c => (h.1 c).2, h.2⟩

/-- The printed program likewise. -/
theorem quiet_printed : QK F := by
  rw [same]
  exact fun m g => @quiet F _ lit m g

end Cert.Same
end
-- ==== Proof.Ideal.MM.lean ====
module

public import Idealize.ShloMosaic.Lib.Pointwise
public import Idealize.ShloMosaic.Lib.WordCmp

@[expose] public section

/-! # The mathematics of one row of attention, over the extended reals -/

noncomputable section

namespace Cert.Attn

open Idealize.ShloMosaic

/-- The word of minus infinity denotes minus infinity. -/
theorem bits_bot : Ideal.ofBits .f32 0xFF800000#32 = ⊥ := by simp [Ideal.ofBits, Ideal.ieee]

/-- The word of plus infinity denotes plus infinity. -/
theorem bits_top : Ideal.ofBits .f32 0x7F800000#32 = ⊤ := by simp [Ideal.ofBits, Ideal.ieee]

/-- The scale of the scores, as its float word has it. -/
def cS : EReal := Ideal.ofBits .f32 0x3E000000#32

/-- The scale is a real number. -/
theorem cS_real : ∃ r : ℝ, cS = (r : EReal) := by
  unfold cS
  simp only [Ideal.ofBits, Ideal.ieee]
  simp [-EReal.coe_mul]

/-- The kernel's comparison of a key's position with a query's. -/
theorem sees_kernel (i : Fin 128) (j : Fin 256) :
    IntOp.cmpi .sle (BitVec.ofNat 32 j.val) (IntOp.addi (BitVec.ofNat 32 i.val) 128#32) = if j.val ≤ i.val + 128 then 1#1 else 0#1 := by
  have e : IntOp.addi (BitVec.ofNat 32 i.val) 128#32 = BitVec.ofNat 32 (i.val + 128) := (BitVec.ofNat_add _ _).symm
  rw [e, WordCmp.cmpi_sle_ofNat (by have := j.isLt; norm_num; omega) (by have := i.isLt; norm_num; omega)]
  by_cases h : j.val ≤ i.val + 128 <;> simp [h]

/-- The reference's: the distance of the two positions is at most 128. -/
theorem sees_reference (i : Fin 128) (j : Fin 1024) :
    IntOp.cmpi .sle (IntOp.absi (IntOp.subi (BitVec.ofNat 32 i.val) (BitVec.ofNat 32 j.val))) 128#32 = if j.val ≤ i.val + 128 then 1#1 else 0#1 := by
  have hi := i.isLt
  have hj := j.isLt
  have e : IntOp.absi (IntOp.subi (BitVec.ofNat 32 i.val) (BitVec.ofNat 32 j.val))
      = BitVec.ofNat 32 (if j.val ≤ i.val then i.val - j.val else j.val - i.val) := by
    apply BitVec.eq_of_toNat_eq
    unfold IntOp.absi IntOp.subi
    rw [BitVec.msb_eq_decide]
    by_cases h : j.val ≤ i.val
    · rw [if_pos h]
      have : (BitVec.ofNat 32 i.val - BitVec.ofNat 32 j.val).toNat = i.val - j.val := by
        simp only [BitVec.toNat_sub, BitVec.toNat_ofNat]; omega
      rw [this, if_neg (by simp; omega), this, BitVec.toNat_ofNat]; omega
    · rw [if_neg h]
      have : (BitVec.ofNat 32 i.val - BitVec.ofNat 32 j.val).toNat = 2 ^ 32 - (j.val - i.val) := by
        simp only [BitVec.toNat_sub, BitVec.toNat_ofNat]; omega
      rw [this, if_pos (by simp; omega), BitVec.toNat_neg, this, BitVec.toNat_ofNat]; omega
  rw [e, show (128#32 : BitVec 32) = BitVec.ofNat 32 128 from rfl,
    WordCmp.cmpi_sle_ofNat (by norm_num; split <;> omega) (by norm_num)]
  by_cases h : j.val ≤ i.val + 128
  · rw [if_pos h, decide_eq_true (by split <;> omega)]; rfl
  · rw [if_neg h, decide_eq_false (by split <;> omega)]; rfl

/-- A row's weights: the exponentials of its scores less the greatest, over their sum. -/
def soft {n : ℕ} (s : Fin n → EReal) (j : Fin n) : EReal :=
  Ideal.div (Ideal.exp (s j - Finset.univ.fold max ⊥ s)) (∑ x, Ideal.exp (s x - Finset.univ.fold max ⊥ s))

/-- The greatest of a row is its supremum. -/
theorem fold_sup {n : ℕ} (s : Fin n → EReal) : Finset.univ.fold max ⊥ s = Finset.univ.sup s := rfl

/-- An exponential is not negative. -/
theorem exp_nonneg (a : EReal) : 0 ≤ Ideal.exp a := by
  induction a with
  | bot => exact le_refl _
  | top => exact le_top
  | coe r => exact EReal.coe_nonneg.2 (Real.exp_pos r).le

/-- A score of minus infinity has weight zero. -/
theorem exp_bot_sub (a : EReal) : Ideal.exp (⊥ - a) = 0 := by
  rw [sub_eq_add_neg, EReal.bot_add]; rfl

/-- Keys whose scores are minus infinity add nothing: a row may be cut after its last visible key. -/
theorem soft_cut {n m : ℕ} (s v : Fin (n + m) → EReal) (t u : Fin n → EReal)
    (hs : ∀ j, s (Fin.castAdd m j) = t j) (hv : ∀ j, v (Fin.castAdd m j) = u j) (hb : ∀ j, s (Fin.natAdd n j) = ⊥)
    (htop : ∀ j, t j ≠ ⊤) (j0 : Fin n) (hj0 : t j0 ≠ ⊥) :
    ∑ j, v j * soft s j = ∑ j, soft t j * u j := by
  have hM : Finset.univ.fold max ⊥ s = Finset.univ.fold max ⊥ t := by
    rw [fold_sup, fold_sup]
    apply le_antisymm
    · refine Finset.sup_le fun j _ => ?_
      induction j using Fin.addCases with
      | left j => rw [hs]; exact Finset.le_sup (Finset.mem_univ j)
      | right j => rw [hb]; exact bot_le
    · exact Finset.sup_le fun j _ => by rw [← hs j]; exact Finset.le_sup (Finset.mem_univ _)
  have hD : ∑ x, Ideal.exp (s x - Finset.univ.fold max ⊥ s) = ∑ x, Ideal.exp (t x - Finset.univ.fold max ⊥ t) := by
    rw [Fin.sum_univ_add, hM]
    simp only [hs, hb, exp_bot_sub, Finset.sum_const_zero, add_zero]
  have hne : ∑ x, Ideal.exp (t x - Finset.univ.fold max ⊥ t) ≠ 0 := by
    have h0 : t j0 ≤ Finset.univ.fold max ⊥ t := by rw [fold_sup]; exact Finset.le_sup (Finset.mem_univ j0)
    have h1 : Finset.univ.fold max ⊥ t < ⊤ := by
      rw [fold_sup]
      exact (Finset.sup_lt_iff bot_lt_top).2 fun j _ => lt_top_iff_ne_top.2 (htop j)
    generalize Finset.univ.fold max ⊥ t = M at h0 h1
    have hp : 0 < Ideal.exp (t j0 - M) := by
      have ht := htop j0
      generalize t j0 = a at h0 hj0 ht
      induction a with
      | bot => exact absurd rfl hj0
      | top => exact absurd rfl ht
      | coe r =>
        induction M with
        | bot => exact absurd h0 (not_le.2 (EReal.bot_lt_coe r))
        | top => exact absurd h1 (lt_irrefl _)
        | coe M => rw [← EReal.coe_sub]; exact EReal.coe_pos.2 (Real.exp_pos _)
    exact ne_of_gt (lt_of_lt_of_le hp (Finset.single_le_sum (f := fun x => Ideal.exp (t x - M)) (fun x _ => exp_nonneg _) (Finset.mem_univ j0)))
  rw [Fin.sum_univ_add]
  have hz : ∀ j : Fin m, v (Fin.natAdd n j) * soft s (Fin.natAdd n j) = 0 := fun j => by
    unfold soft
    rw [hD, hb, exp_bot_sub, Ideal.div, if_neg hne, zero_mul, mul_zero]
  rw [Finset.sum_congr rfl fun j _ => hz j, Finset.sum_const_zero, add_zero]
  refine Finset.sum_congr rfl fun j _ => ?_
  unfold soft
  rw [hD, hM, hs, hv, mul_comm]

/-- A finite sum of products of real numbers is a real number. -/
theorem sum_mul_real {n : ℕ} (a b : Fin n → EReal) (ha : ∀ k, ∃ r : ℝ, a k = r) (hb : ∀ k, ∃ r : ℝ, b k = r) :
    ∃ r : ℝ, ∑ k, a k * b k = (r : EReal) := by
  refine Finset.sum_induction _ (fun z => ∃ r : ℝ, z = (r : EReal)) ?_ ⟨0, EReal.coe_zero.symm⟩ ?_
  · rintro _ _ ⟨r, rfl⟩ ⟨s, rfl⟩
    exact ⟨r + s, (EReal.coe_add r s).symm⟩
  · intro k _
    obtain ⟨r, hr⟩ := ha k
    obtain ⟨s, hs⟩ := hb k
    exact ⟨r * s, by rw [hr, hs, EReal.coe_mul]⟩

/-- The masked score of one query and one key. -/
def msc (q k : Fin 64 → EReal) (i j : ℕ) : EReal := if j ≤ i + 128 then (∑ d, q d * k d) * cS else ⊥

/-- A masked score of real numbers is not plus infinity. -/
theorem msc_ne_top (q k : Fin 64 → EReal) (i j : ℕ) (hq : ∀ d, ∃ r : ℝ, q d = r) (hk : ∀ d, ∃ r : ℝ, k d = r) : msc q k i j ≠ ⊤ := by
  unfold msc
  split
  · obtain ⟨r, hr⟩ := sum_mul_real q k hq hk
    obtain ⟨s, hs⟩ := cS_real
    rw [hr, hs, ← EReal.coe_mul]; exact EReal.coe_ne_top _
  · exact bot_ne_top

/-- A visible score of real numbers is not minus infinity. -/
theorem msc_ne_bot (q k : Fin 64 → EReal) (i j : ℕ) (h : j ≤ i + 128) (hq : ∀ d, ∃ r : ℝ, q d = r) (hk : ∀ d, ∃ r : ℝ, k d = r) :
    msc q k i j ≠ ⊥ := by
  unfold msc
  rw [if_pos h]
  obtain ⟨r, hr⟩ := sum_mul_real q k hq hk
  obtain ⟨s, hs⟩ := cS_real
  rw [hr, hs, ← EReal.coe_mul]; exact EReal.coe_ne_bot _

end Cert.Attn

end
-- ==== Proof.Ideal.MK.lean ====
module

public import proofs.«01_k».proof.Proof.Ideal.Vals
public import Idealize.ShloMosaic.Lib.Pointwise
public import proofs.«01_k».proof.Proof.Ideal.MM

@[expose] public section

/-! # One head of the kernel, read at an index over the extended reals -/

set_option maxRecDepth 20000

noncomputable section

namespace Cert.KernelIdeal.Run

open Cert.KernelIdeal Cert.KernelIdeal.Gen
open Idealize.ShloMosaic

section Shape
variable {F : FTy → Type} [FloatOps F] [Named F]

/-- The rows of one head out of the 128 × 4 × 64 queries of a batch. -/
def hq0 (q : FVec F S128x4x64 .f32) : FVec F S128x64 .f32 :=
  shapeCast S128x64 (extractStridedSlice S128x1x64 ![0, 0, 0] q slices_S128x4x64_o0_0_0_S128x1x64) shapeCasts_S128x1x64_S128x64
/-- The second of the four heads' queries. -/
def hq1 (q : FVec F S128x4x64 .f32) : FVec F S128x64 .f32 :=
  shapeCast S128x64 (extractStridedSlice S128x1x64 ![0, 1, 0] q slices_S128x4x64_o0_1_0_S128x1x64) shapeCasts_S128x1x64_S128x64
/-- The third of the four heads' queries. -/
def hq2 (q : FVec F S128x4x64 .f32) : FVec F S128x64 .f32 :=
  shapeCast S128x64 (extractStridedSlice S128x1x64 ![0, 2, 0] q slices_S128x4x64_o0_2_0_S128x1x64) shapeCasts_S128x1x64_S128x64
/-- The fourth of the four heads' queries. -/
def hq3 (q : FVec F S128x4x64 .f32) : FVec F S128x64 .f32 :=
  shapeCast S128x64 (extractStridedSlice S128x1x64 ![0, 3, 0] q slices_S128x4x64_o0_3_0_S128x1x64) shapeCasts_S128x1x64_S128x64

/-- The two devices' keys (or values) of one head, side by side. -/
def kcat (k0 k1 : Vec F S1x1x1x64x128 .bf16) : FVec F S64x256 .bf16 :=
  concatenate S64x256 1 [⟨S64x128, shapeCast S64x128 k0 shapeCasts_S1x1x1x64x128_S64x128⟩, ⟨S64x128, shapeCast S64x128 k1 shapeCasts_S1x1x1x64x128_S64x128⟩] concatenates_S64x128_S64x128_S64x256_d1

/-- The masked scores. -/
def ksc (q : FVec F S128x64 .f32) (kt : FVec F S64x256 .bf16) : FVec F S128x256 .f32 :=
  select k0_pay3 (mulf (matmul dot_S128x64_S64x256_S128x256_1_0_0_1_n_n none (truncf .bf16 q bitsLt_bf16_f32) kt (constant S128x256 .f32 0x00000000#32))
    (broadcast S128x256 (Scalar.ofBits .f32 0x3E000000#32))) (broadcast S128x256 (Named.named κ "mask" 0xCE6E6B28#32 : F .f32))

/-- The exponentials of the scores less their row's greatest. -/
def kex (s : FVec F S128x256 .f32) : FVec F S128x256 .f32 :=
  exp (subf s (broadcastTo S128x256 (shapeCast S128x1 (multiReduction .maximumf [1] S128 s 0xFF800000#32 reduces_S128x256_S128 (.inl rfl) rfl) shapeCasts_S128_S128x1) broadcasts_S128x1_S128x256))

/-- The weights: the exponentials over their row's sum. -/
def kwt (e : FVec F S128x256 .f32) : FVec F S128x256 .bf16 :=
  truncf .bf16 (divf e (broadcastTo S128x256 (shapeCast S128x1 (multiReduction .add [1] S128 e 0x00000000#32 reduces_S128x256_S128 (.inl rfl) rfl) shapeCasts_S128_S128x1) broadcasts_S128x1_S128x256)) bitsLt_bf16_f32

/-- The weighted values. -/
def kcx (w : FVec F S128x256 .bf16) (vt : FVec F S64x256 .bf16) : FVec F S128x64 .f32 :=
  matmul dot_S128x256_S64x256_S128x64_1_1_0_0_n_n none w vt (constant S128x64 .f32 0x00000000#32)

/-- The attention of one head of one batch. -/
def att (q : FVec F S128x64 .f32) (k0 k1 v0 v1 : Vec F S1x1x1x64x128 .bf16) : FVec F S128x64 .f32 :=
  kcx (kwt (kex (ksc q (kcat k0 k1)))) (kcat v0 v1)

/-- The heads' results put side by side, the two batches one under the other, times the rows of the output weight. -/
def tail (a0 a1 a2 a3 b0 b1 b2 b3 : FVec F S128x64 .f32) (wo : Vec F S256x512 .bf16) : FVec F S256x512 .bf16 :=
  shapeCast S256x512 (truncf .bf16 (matmul dot_S256x256_S256x512_S256x512_1_0_0_1_n_n none
    (truncf .bf16 (concatenate S256x256 0
      [⟨S128x256, concatenate S128x256 1 [⟨S128x64, a0⟩, ⟨S128x64, a1⟩, ⟨S128x64, a2⟩, ⟨S128x64, a3⟩] concatenates_S128x64_S128x64_S128x64_S128x64_S128x256_d1⟩,
       ⟨S128x256, concatenate S128x256 1 [⟨S128x64, b0⟩, ⟨S128x64, b1⟩, ⟨S128x64, b2⟩, ⟨S128x64, b3⟩] concatenates_S128x64_S128x64_S128x64_S128x64_S128x256_d1⟩]
      concatenates_S128x256_S128x256_S256x256_d0) bitsLt_bf16_f32)
    (shapeCast S256x512 wo shapeCasts_S256x512_S256x512) (constant S256x512 .f32 0x00000000#32)) bitsLt_bf16_f32) shapeCasts_S256x512_S256x512

/-- The partial product of a device is the eight heads' attention, gathered. -/
theorem part_eq (x : Vec F S2x128x512 .bf16) (wq : Vec F S512x256 .bf16)
    (kb vb : (⟨S2x2x4x64x128, .bf16⟩ : BufTy).Contents (Elt F)) (wo : Vec F S256x512 .bf16) :
    part x wq kb vb wo =
      (let qa := k0_pay4 (k0_pay1 x) wq
       let qb := k0_pay14 (k0_pay2 (k0_pay1 x) wq)
       tail (att (hq0 qa) (ldB kb 0 0 0) (ldB kb 1 0 0) (ldB vb 0 0 0) (ldB vb 1 0 0))
         (att (hq1 qa) (ldB kb 0 0 1) (ldB kb 1 0 1) (ldB vb 0 0 1) (ldB vb 1 0 1))
         (att (hq2 qa) (ldB kb 0 0 2) (ldB kb 1 0 2) (ldB vb 0 0 2) (ldB vb 1 0 2))
         (att (hq3 qa) (ldB kb 0 0 3) (ldB kb 1 0 3) (ldB vb 0 0 3) (ldB vb 1 0 3))
         (att (hq0 qb) (ldB kb 0 1 0) (ldB kb 1 1 0) (ldB vb 0 1 0) (ldB vb 1 1 0))
         (att (hq1 qb) (ldB kb 0 1 1) (ldB kb 1 1 1) (ldB vb 0 1 1) (ldB vb 1 1 1))
         (att (hq2 qb) (ldB kb 0 1 2) (ldB kb 1 1 2) (ldB vb 0 1 2) (ldB vb 1 1 2))
         (att (hq3 qb) (ldB kb 0 1 3) (ldB kb 1 1 3) (ldB vb 0 1 3) (ldB vb 1 1 3)) wo) := rfl

end Shape

/-- The queries of the first batch. -/
theorem qa_apply (x : Vec Ideal S2x128x512 .bf16) (wq : Vec Ideal S512x256 .bf16) (i : Fin 128) (h : Fin 4) (d : Fin 64) :
    k0_pay4 (F := Ideal) (k0_pay1 x) wq (ix3 i h d) = ∑ k : Fin 512, x (ix3 0 i k) * wq (ix2 k ⟨h.val * 64 + d.val, by omega⟩) := by
  pointwise [k0_pay4, k0_pay1, k0_pay2]
  all_goals refine Finset.sum_congr rfl fun k _ => ?_
  all_goals congr 2
  all_goals refine congrArg₂ (fun a b => ix3 a b k) (Fin.ext ?_) (Fin.ext ?_)
  all_goals simp
  all_goals omega

/-- The queries of the second batch. -/
theorem qb_apply (x : Vec Ideal S2x128x512 .bf16) (wq : Vec Ideal S512x256 .bf16) (i : Fin 128) (h : Fin 4) (d : Fin 64) :
    k0_pay14 (F := Ideal) (k0_pay2 (k0_pay1 x) wq) (ix3 i h d) = ∑ k : Fin 512, x (ix3 1 i k) * wq (ix2 k ⟨h.val * 64 + d.val, by omega⟩) := by
  pointwise [k0_pay14, k0_pay1, k0_pay2]
  all_goals refine Finset.sum_congr rfl fun k _ => ?_
  all_goals congr 2
  all_goals refine congrArg₂ (fun a b => ix3 a b k) (Fin.ext ?_) (Fin.ext ?_)
  all_goals simp
  all_goals omega

/-- The first head's queries at an index. -/
theorem hq0_apply (q : FVec Ideal S128x4x64 .f32) (i : Fin 128) (d : Fin 64) : hq0 q (ix2 i d) = q (ix3 i 0 d) := by
  pointwise [hq0]
/-- The second head's queries at an index. -/
theorem hq1_apply (q : FVec Ideal S128x4x64 .f32) (i : Fin 128) (d : Fin 64) : hq1 q (ix2 i d) = q (ix3 i 1 d) := by
  pointwise [hq1]
/-- The third head's queries at an index. -/
theorem hq2_apply (q : FVec Ideal S128x4x64 .f32) (i : Fin 128) (d : Fin 64) : hq2 q (ix2 i d) = q (ix3 i 2 d) := by
  pointwise [hq2]
/-- The fourth head's queries at an index. -/
theorem hq3_apply (q : FVec Ideal S128x4x64 .f32) (i : Fin 128) (d : Fin 64) : hq3 q (ix2 i d) = q (ix3 i 3 d) := by
  pointwise [hq3]

/-- Two devices' keys side by side: the first device's 128, then the second's. -/
theorem kcat_apply (k0 k1 : Vec Ideal S1x1x1x64x128 .bf16) (d : Fin 64) (j : Fin 256) :
    kcat k0 k1 (ix2 d j) = if h : j.val < 128 then k0 (ix5 0 0 0 d ⟨j.val, h⟩) else k1 (ix5 0 0 0 d ⟨j.val - 128, by omega⟩) := by
  pointwise [kcat]

/-- The masked scores at an index. -/
theorem ksc_apply (q : FVec Ideal S128x64 .f32) (kt : FVec Ideal S64x256 .bf16) (i : Fin 128) (j : Fin 256) :
    ksc q kt (ix2 i j) = Cert.Attn.msc (fun d => q (ix2 i d)) (fun d => kt (ix2 d j)) i.val j.val := by
  pointwise [ksc, k0_pay3]
  rw [Cert.Attn.sees_kernel, show (Named.named κ "mask" 3463342888#32 : Ideal .f32) = ⊥ from rfl]
  unfold Cert.Attn.msc Cert.Attn.cS
  by_cases h : j.val ≤ i.val + 128
  · rw [if_pos h, if_pos h]; rfl
  · rw [if_neg h, if_neg h]; rfl

/-- The exponentials at an index. -/
theorem kex_apply (s : FVec Ideal S128x256 .f32) (i : Fin 128) (j : Fin 256) :
    kex s (ix2 i j) = Ideal.exp (s (ix2 i j) - Finset.univ.fold max ⊥ (fun j' : Fin 256 => s (ix2 i j'))) := by
  pointwise [kex]
  all_goals rw [Cert.Attn.bits_bot]

/-- The weights at an index. -/
theorem kwt_apply (e : FVec Ideal S128x256 .f32) (i : Fin 128) (j : Fin 256) :
    kwt e (ix2 i j) = Ideal.div (e (ix2 i j)) (∑ j' : Fin 256, e (ix2 i j')) := by
  pointwise [kwt]

/-- The weighted values at an index. -/
theorem kcx_apply (w : FVec Ideal S128x256 .bf16) (vt : FVec Ideal S64x256 .bf16) (i : Fin 128) (d : Fin 64) :
    kcx w vt (ix2 i d) = ∑ j : Fin 256, w (ix2 i j) * vt (ix2 d j) := by
  pointwise [kcx]

/-- One head's attention: the weighted sum of the values. -/
theorem att_apply (q : FVec Ideal S128x64 .f32) (k0 k1 v0 v1 : Vec Ideal S1x1x1x64x128 .bf16) (i : Fin 128) (d : Fin 64) :
    att q k0 k1 v0 v1 (ix2 i d) = ∑ j : Fin 256,
      Cert.Attn.soft (fun j : Fin 256 => Cert.Attn.msc (fun e => q (ix2 i e)) (fun e => kcat k0 k1 (ix2 e j)) i.val j.val) j * kcat v0 v1 (ix2 d j) := by
  unfold att
  rw [kcx_apply]
  refine Finset.sum_congr rfl fun j _ => ?_
  rw [kwt_apply]
  simp only [kex_apply, ksc_apply]
  rfl

/-- A head's entry at indices equal in value. -/
theorem entry_eq (A : Fin 2 → Fin 4 → FVec Ideal S128x64 .f32) {b b' : Fin 2} {h h' : Fin 4} {i i' : Fin 128} {d d' : Fin 64}
    (hb : b.val = b'.val) (hh : h.val = h'.val) (hi : i.val = i'.val) (hd : d.val = d'.val) : A b h (ix2 i d) = A b' h' (ix2 i' d') := by
  rw [Fin.ext hb, Fin.ext hh, Fin.ext hi, Fin.ext hd]

/-- The heads side by side times the output weight: row r is token r mod 128 of batch r / 128, column k is entry k mod 64 of head k / 64. -/
theorem tail_apply (A : Fin 2 → Fin 4 → FVec Ideal S128x64 .f32) (wo : Vec Ideal S256x512 .bf16) (r : Fin 256) (n : Fin 512) :
   tail (A 0 0) (A 0 1) (A 0 2) (A 0 3) (A 1 0) (A 1 1) (A 1 2) (A 1 3) wo (ix2 r n) =
     ∑ k : Fin 256, A ⟨r.val / 128, by omega⟩ ⟨k.val / 64, by omega⟩ (ix2 ⟨r.val % 128, by omega⟩ ⟨k.val % 64, by omega⟩) * wo (ix2 k n) := by
  pointwise [tail]
  refine Finset.sum_congr rfl fun k _ => congrArg (· * wo (ix2 k n)) ?_
  have hr := r.isLt
  have hk := k.isLt
  split_ifs <;> exact entry_eq A (by simp; omega) (by simp; omega) (by simp; omega) (by simp; omega)

end Cert.KernelIdeal.Run

end
-- ==== Proof.Ideal.MW.lean ====
module

public import proofs.«01_k».proof.Proof.Ideal.MK
public import proofs.«01_k».proof.Proof.Gen.KernelIdeal.Frame
public import Idealize.ShloMosaic.Lib.Layout

@[expose] public section

/-! # The kernel's result, as sums over the whole arrays -/

set_option maxRecDepth 20000

noncomputable section

namespace Cert.Attn

open Idealize.ShloMosaic

/-- The whole tokens, query weight, keys or values, and output weight. -/
abbrev TX := (⟨3, ![2, 128, 512]⟩ : Shape).Idx → EReal
abbrev TQ := (⟨2, ![512, 2048]⟩ : Shape).Idx → EReal
abbrev TK := (⟨4, ![2, 1024, 32, 64]⟩ : Shape).Idx → EReal
abbrev TO := (⟨2, ![2048, 512]⟩ : Shape).Idx → EReal

/-- One entry of one head's query. -/
def qv (X : TX) (W : TQ) (b : Fin 2) (i : Fin 128) (H : Fin 32) (e : Fin 64) : EReal :=
  ∑ k : Fin 512, X (ix3 b i k) * W (ix2 k ⟨H.val * 64 + e.val, by omega⟩)

/-- One entry of one head's attention over the first 256 keys. -/
def hd (X : TX) (W : TQ) (K V : TK) (b : Fin 2) (i : Fin 128) (H : Fin 32) (e : Fin 64) : EReal :=
  ∑ j : Fin 256, soft (fun j : Fin 256 => msc (qv X W b i H) (fun e => K (ix4 b ⟨j.val, by omega⟩ H e)) i.val j.val) j
    * V (ix4 b ⟨j.val, by omega⟩ H e)

end Cert.Attn

namespace Cert.KernelIdeal.Run

open Cert.KernelIdeal Cert.KernelIdeal.Gen
open Idealize.ShloMosaic Idealize.ShloMosaic.TcCoe
open Cert.Attn (TX TQ TK TO qv hd)

/-- The queries of one head of one batch. -/
def hq (x : Vec Ideal S2x128x512 .bf16) (wq : Vec Ideal S512x256 .bf16) (b : Fin 2) (h : Fin 4) : FVec Ideal S128x64 .f32 :=
  let q := ![k0_pay4 (F := Ideal) (k0_pay1 x) wq, k0_pay14 (F := Ideal) (k0_pay2 (k0_pay1 x) wq)] b
  ![hq0 q, hq1 q, hq2 q, hq3 q] h

/-- The queries of one head at an index. -/
theorem hq_apply (x : Vec Ideal S2x128x512 .bf16) (wq : Vec Ideal S512x256 .bf16) (b : Fin 2) (h : Fin 4) (i : Fin 128) (d : Fin 64) :
    hq x wq b h (ix2 i d) = ∑ k : Fin 512, x (ix3 b i k) * wq (ix2 k ⟨h.val * 64 + d.val, by omega⟩) := by
  match b, h with
  | 0, 0 => exact (hq0_apply _ i d).trans (qa_apply x wq i 0 d)
  | 0, 1 => exact (hq1_apply _ i d).trans (qa_apply x wq i 1 d)
  | 0, 2 => exact (hq2_apply _ i d).trans (qa_apply x wq i 2 d)
  | 0, 3 => exact (hq3_apply _ i d).trans (qa_apply x wq i 3 d)
  | 1, 0 => exact (hq0_apply _ i d).trans (qb_apply x wq i 0 d)
  | 1, 1 => exact (hq1_apply _ i d).trans (qb_apply x wq i 1 d)
  | 1, 2 => exact (hq2_apply _ i d).trans (qb_apply x wq i 2 d)
  | 1, 3 => exact (hq3_apply _ i d).trans (qb_apply x wq i 3 d)

/-- The attention of one head of one batch, out of a device's blocks. -/
def hat (x : Vec Ideal S2x128x512 .bf16) (wq : Vec Ideal S512x256 .bf16)
    (kb vb : (⟨S2x2x4x64x128, .bf16⟩ : BufTy).Contents (Elt Ideal)) (b : Fin 2) (h : Fin 4) : FVec Ideal S128x64 .f32 :=
  att (hq x wq b h) (ldB kb 0 b h) (ldB kb 1 b h) (ldB vb 0 b h) (ldB vb 1 b h)

/-- The partial product of a device at an index. -/
theorem part_apply (x : Vec Ideal S2x128x512 .bf16) (wq : Vec Ideal S512x256 .bf16)
    (kb vb : (⟨S2x2x4x64x128, .bf16⟩ : BufTy).Contents (Elt Ideal)) (wo : Vec Ideal S256x512 .bf16) (r : Fin 256) (n : Fin 512) :
    part x wq kb vb wo (ix2 r n) = ∑ k : Fin 256, hat x wq kb vb ⟨r.val / 128, by omega⟩ ⟨k.val / 64, by omega⟩
      (ix2 ⟨r.val % 128, by omega⟩ ⟨k.val % 64, by omega⟩) * wo (ix2 k n) :=
  (congrFun (part_eq x wq kb vb wo) (ix2 r n)).trans (tail_apply (hat x wq kb vb) wo r n)

variable (m : (ℓ : Loc nD τ sig) → Buf (Elt Ideal) ℓ)

/-- The keys the region finds: the device's own, transposed. -/
theorem V_keys (c : Dev nD) : V m c main_v1 = transpose S2x32x64x128 [0, 2, 3, 1] (m ((c : Thread nD τ).loc main_arg2)) transposes_S2x128x32x64_S2x32x64x128_0_2_3_1 := by
  simp only [V, hostOps0]
  after_results_simp <;> rfl

/-- The values the region finds: the device's own, transposed. -/
theorem V_values (c : Dev nD) : V m c main_v2 = transpose S2x32x64x128 [0, 2, 3, 1] (m ((c : Thread nD τ).loc main_arg3)) transposes_S2x128x32x64_S2x32x64x128_0_2_3_1 := by
  simp only [V, hostOps0]
  after_results_simp <;> rfl

/-- A transposed block at an index. -/
theorem transposed_apply (k : FVec Ideal S2x128x32x64 .bf16) (b : Fin 2) (H : Fin 32) (e : Fin 64) (y : Fin 128) :
    transpose S2x32x64x128 [0, 2, 3, 1] k transposes_S2x128x32x64_S2x32x64x128_0_2_3_1 (ix4 b H e y) = k (ix4 b y H e) := by
  pointwise []

/-- A block of the whole keys or values at an index. -/
theorem block_keys (K : TK) (c : Dev nD) (b : Fin 2) (y : Fin 128) (H : Fin 32) (e : Fin 64) :
    Layout.block ⟨4, ![2, 128, 32, 64]⟩ ⟨4, ![2, 1024, 32, 64]⟩ 1 8 c K (by decide) (ix4 b y H e)
      = K (ix4 b ⟨128 * c.val + y.val, by have h : c.val < 8 := c.isLt; omega⟩ H e) := by
  rw [Layout.block_apply]
  refine congrArg K (funext fun a => Fin.ext ?_)
  match a with
  | 0 => rfl
  | 1 => exact congrArg (· + y.val) (Nat.mul_comm c.val 128)
  | 2 => rfl
  | 3 => rfl

/-- A block of the query weight at an index. -/
theorem block_query (W : TQ) (c : Dev nD) (k : Fin 512) (j : Fin 256) :
    Layout.block ⟨2, ![512, 256]⟩ ⟨2, ![512, 2048]⟩ 1 8 c W (by decide) (ix2 k j)
      = W (ix2 k ⟨256 * c.val + j.val, by have h : c.val < 8 := c.isLt; omega⟩) := by
  rw [Layout.block_apply]
  refine congrArg W (funext fun a => Fin.ext ?_)
  match a with
  | 0 => rfl
  | 1 => exact congrArg (· + j.val) (Nat.mul_comm c.val 256)

/-- A block of the output weight at an index. -/
theorem block_output (W : TO) (c : Dev nD) (k : Fin 256) (n : Fin 512) :
    Layout.block ⟨2, ![256, 512]⟩ ⟨2, ![2048, 512]⟩ 0 8 c W (by decide) (ix2 k n)
      = W (ix2 ⟨256 * c.val + k.val, by have h : c.val < 8 := c.isLt; omega⟩ n) := by
  rw [Layout.block_apply]
  refine congrArg W (funext fun a => Fin.ext ?_)
  match a with
  | 0 => exact congrArg (· + k.val) (Nat.mul_comm c.val 256)
  | 1 => rfl

/-- The two gathered blocks side by side are the first 256 keys of the head. -/
theorem cat_gather (X : Dev nD → (⟨S2x32x64x128, .bf16⟩ : BufTy).Contents (Elt Ideal)) (K : TK)
    (hX : ∀ d b H e y, X d (ix4 b H e y) = K (ix4 b ⟨128 * d.val + y.val, by have h : d.val < 8 := d.isLt; have := (y : Fin 128).isLt; omega⟩ H e))
    (c : Dev nD) (b : Fin 2) (h : Fin 4) (e : Fin 64) (j : Fin 256) :
    kcat (ldB (gather X c) 0 b h) (ldB (gather X c) 1 b h) (ix2 e j)
      = K (ix4 b ⟨j.val, by omega⟩ ⟨4 * c.val + h.val, by have h : c.val < 8 := c.isLt; omega⟩ e) := by
  have hc : c.val < 8 := c.isLt
  rw [kcat_apply]
  split
  · rename_i hj
    refine (hX 0 b ⟨4 * c.val + h.val, by omega⟩ e ⟨j.val, hj⟩).trans (congrArg K ?_)
    congr 1
    exact Fin.ext (by simp)
  · rename_i hj
    refine (hX 1 b ⟨4 * c.val + h.val, by omega⟩ e ⟨j.val - 128, by omega⟩).trans (congrArg K ?_)
    congr 1
    exact Fin.ext (by simp; omega)

section Whole

variable {m} {X : TX} {W : TQ} {K VV : TK} {WO : TO}
  (h0 : ∀ c : Dev nD, m ((c : Thread nD τ).loc main_arg0) = X)
  (h1 : ∀ c : Dev nD, m ((c : Thread nD τ).loc main_arg1) = Layout.block ⟨2, ![512, 256]⟩ ⟨2, ![512, 2048]⟩ 1 8 c W)
  (h2 : ∀ c : Dev nD, m ((c : Thread nD τ).loc main_arg2) = Layout.block ⟨4, ![2, 128, 32, 64]⟩ ⟨4, ![2, 1024, 32, 64]⟩ 1 8 c K)
  (h3 : ∀ c : Dev nD, m ((c : Thread nD τ).loc main_arg3) = Layout.block ⟨4, ![2, 128, 32, 64]⟩ ⟨4, ![2, 1024, 32, 64]⟩ 1 8 c VV)
  (h4 : ∀ c : Dev nD, m ((c : Thread nD τ).loc main_arg4) = Layout.block ⟨2, ![256, 512]⟩ ⟨2, ![2048, 512]⟩ 0 8 c WO)

include h0 h1 in
/-- A device's queries are the whole array's, of the device's four heads. -/
theorem hq_whole (c : Dev nD) (b : Fin 2) (h : Fin 4) (i : Fin 128) (d : Fin 64) :
    hq (V m c main_arg0) (V m c main_arg1) b h (ix2 i d)
      = qv X W b i ⟨4 * c.val + h.val, by have h : c.val < 8 := c.isLt; omega⟩ d := by
  have hc : c.val < 8 := c.isLt
  rw [hq_apply, V_main_arg0, V_main_arg1, h0, h1]
  refine Finset.sum_congr rfl fun k _ => congrArg (X (ix3 b i k) * ·) ((block_query W c k _).trans (congrArg W ?_))
  congr 1
  exact Fin.ext (by simp; omega)

include h0 h1 h2 h3 in
/-- A device's attention of one head is the whole array's. -/
theorem hat_whole (c : Dev nD) (b : Fin 2) (h : Fin 4) (i : Fin 128) (d : Fin 64) :
    hat (V m c main_arg0) (V m c main_arg1) (kAll m c) (vAll m c) b h (ix2 i d)
      = hd X W K VV b i ⟨4 * c.val + h.val, by have h : c.val < 8 := c.isLt; omega⟩ d := by
  have hk : ∀ (e : Fin 64) (j : Fin 256), kcat (ldB (kAll m c) 0 b h) (ldB (kAll m c) 1 b h) (ix2 e j)
      = K (ix4 b ⟨j.val, by omega⟩ ⟨4 * c.val + h.val, by have h : c.val < 8 := c.isLt; omega⟩ e) := fun e j =>
    cat_gather (fun d => V m d main_v1) K (fun d b H e y => by
      rw [V_keys, h2]; exact (transposed_apply _ b H e y).trans (block_keys K d b y H e)) c b h e j
  have hv : ∀ (e : Fin 64) (j : Fin 256), kcat (ldB (vAll m c) 0 b h) (ldB (vAll m c) 1 b h) (ix2 e j)
      = VV (ix4 b ⟨j.val, by omega⟩ ⟨4 * c.val + h.val, by have h : c.val < 8 := c.isLt; omega⟩ e) := fun e j =>
    cat_gather (fun d => V m d main_v2) VV (fun d b H e y => by
      rw [V_values, h3]; exact (transposed_apply _ b H e y).trans (block_keys VV d b y H e)) c b h e j
  unfold hat hd
  rw [att_apply]
  simp only [hk, hv, hq_whole h0 h1]

include h0 h1 h2 h3 h4 in
/-- A device's partial product: the heads it holds times its rows of the output weight. -/
theorem pAll_whole (c : Dev nD) (r : Fin 256) (n : Fin 512) :
    pAll m c (ix2 r n) = ∑ k : Fin 256, hd X W K VV ⟨r.val / 128, by omega⟩ ⟨r.val % 128, by omega⟩
        ⟨4 * c.val + k.val / 64, by have h : c.val < 8 := c.isLt; omega⟩ ⟨k.val % 64, by omega⟩
      * WO (ix2 ⟨256 * c.val + k.val, by have h : c.val < 8 := c.isLt; omega⟩ n) := by
  unfold pAll
  rw [part_apply]
  refine Finset.sum_congr rfl fun k _ => ?_
  rw [hat_whole h0 h1 h2 h3, V_main_arg4, h4]
  exact congrArg _ (block_output WO c k n)

end Whole

/-- The reduction of the eight received slots at an index. -/
theorem sum_apply (x : Vec Ideal S8x32x512 .bf16) (r : Fin 32) (n : Fin 512) :
    k0_pay31 (F := Ideal) (k0_pay30 x) (ix2 r n) = ∑ o : Fin 8, x (ix3 o r n) := by
  pointwise [k0_pay31, k0_pay30]

/-- The result's rows are the 256 gathered rows, by batch. -/
theorem last_apply (x : Vec Ideal S256x512 .bf16) (b : Fin 2) (i : Fin 128) (n : Fin 512) :
    k0_pay32 (F := Ideal) x (ix3 b i n) = x (ix2 ⟨b.val * 128 + i.val, by omega⟩ n) := by
  pointwise [k0_pay32]

/-- Slot `o` on device `c` came from device `c - o`: over all slots, from every device once. -/
theorem sum_slots (c : Fin 8) (f : Fin 8 → EReal) : ∑ o : Fin 8, f ⟨(c.val + 8 - o.val) % 8, Nat.mod_lt _ (by decide)⟩ = ∑ d : Fin 8, f d :=
  Finset.sum_nbij' (fun o => ⟨(c.val + 8 - o.val) % 8, Nat.mod_lt _ (by decide)⟩) (fun o => ⟨(c.val + 8 - o.val) % 8, Nat.mod_lt _ (by decide)⟩)
    (fun _ _ => Finset.mem_univ _) (fun _ _ => Finset.mem_univ _)
    (fun o _ => Fin.ext (by have := o.isLt; have := c.isLt; simp only; omega))
    (fun o _ => Fin.ext (by have := o.isLt; have := c.isLt; simp only; omega)) (fun _ _ => rfl)

/-- A gathered row: the sum of the eight devices' partial products. -/
theorem row_apply (r : Fin 256) (n : Fin 512) : oAll m (ix2 r n) = ∑ d : Fin 8, pAll m d (ix2 r n) := by
  refine (sum_apply (rAll m (⟨r.val / 32, by omega⟩ : Fin 8)) ⟨r.val % 32, by omega⟩ n).trans ?_
  refine Eq.trans ?_ (sum_slots ⟨r.val / 32, by omega⟩ fun d => pAll m d (ix2 r n))
  refine Finset.sum_congr rfl fun o _ => congrArg (pAll m _) ?_
  refine congrArg (fun r : Fin 256 => (ix2 r n : S256x512.Idx)) (Fin.ext ?_)
  show 32 * (r.val / 32) + r.val % 32 = r.val
  omega

/-- The kernel's result: the sum of the eight devices' partial products. -/
theorem out_apply (b : Fin 2) (i : Fin 128) (n : Fin 512) :
    out m (ix3 b i n) = ∑ d : Fin 8, pAll m d (ix2 ⟨b.val * 128 + i.val, by omega⟩ n) :=
  (last_apply (oAll m) b i n).trans (row_apply m _ n)

/-- A sum over 2048 columns, device by device. -/
theorem sum_devices (f : Fin 2048 → EReal) :
    ∑ d : Fin 8, ∑ k : Fin 256, f ⟨256 * d.val + k.val, by omega⟩ = ∑ k : Fin 2048, f k := by
  rw [← Fintype.sum_prod_type']
  refine Fintype.sum_equiv (finProdFinEquiv (m := 8) (n := 256)) _ _ fun p => congrArg f (Fin.ext ?_)
  show 256 * p.1.val + p.2.val = p.2.val + 256 * p.1.val
  omega

variable {m} in
/-- The kernel's result over the whole arrays. -/
theorem out_whole {X : TX} {W : TQ} {K VV : TK} {WO : TO}
    (h0 : ∀ c : Dev nD, m ((c : Thread nD τ).loc main_arg0) = X)
    (h1 : ∀ c : Dev nD, m ((c : Thread nD τ).loc main_arg1) = Layout.block ⟨2, ![512, 256]⟩ ⟨2, ![512, 2048]⟩ 1 8 c W)
    (h2 : ∀ c : Dev nD, m ((c : Thread nD τ).loc main_arg2) = Layout.block ⟨4, ![2, 128, 32, 64]⟩ ⟨4, ![2, 1024, 32, 64]⟩ 1 8 c K)
    (h3 : ∀ c : Dev nD, m ((c : Thread nD τ).loc main_arg3) = Layout.block ⟨4, ![2, 128, 32, 64]⟩ ⟨4, ![2, 1024, 32, 64]⟩ 1 8 c VV)
    (h4 : ∀ c : Dev nD, m ((c : Thread nD τ).loc main_arg4) = Layout.block ⟨2, ![256, 512]⟩ ⟨2, ![2048, 512]⟩ 0 8 c WO)
    (b : Fin 2) (i : Fin 128) (n : Fin 512) :
    out m (ix3 b i n) = ∑ k : Fin 2048, hd X W K VV b i ⟨k.val / 64, by omega⟩ ⟨k.val % 64, by omega⟩ * WO (ix2 k n) := by
  rw [out_apply, ← sum_devices]
  refine Finset.sum_congr rfl fun d _ => (pAll_whole h0 h1 h2 h3 h4 d _ n).trans ?_
  refine Finset.sum_congr rfl fun k _ => congrArg (· * _) ?_
  have hd8 := d.isLt
  have hi := i.isLt
  have hk := k.isLt
  congr 1 <;> refine Fin.ext ?_ <;> simp <;> omega

end Cert.KernelIdeal.Run

end
-- ==== Proof.Ideal.MR.lean ====
module

public import proofs.«01_k».proof.Proof.Gen.ReferenceIdeal.Run
public import Idealize.ShloMosaic.Lib.Pointwise
public import Idealize.ShloMosaic.Lib.Routing.OpsOrder
public import proofs.«01_k».proof.Proof.Ideal.MM

@[expose] public section

/-! # The reference, read at an index over the extended reals -/

set_option maxRecDepth 20000

noncomputable section

namespace Cert.ReferenceIdeal.Value

open Cert.ReferenceIdeal Cert.ReferenceIdeal.Gen
open Idealize.ShloMosaic Idealize.ShloMosaic.TcCoe

section Shape
variable {F : FTy → Type} [FloatOps F]

/-- The queries, one row per batch, token and head. -/
def rQ (x : FVec F S2x128x512 .bf16) (wq : FVec F S512x2048 .bf16) : FVec F S2x128x32x64 .f32 :=
  shapeCast _ (extf .f32 (truncf .bf16 (Host.dotGeneral dot_S2x128x512_S512x2048_S2x128x2048_2_0_01_1_n_n none (extf .f32 x bitsLt_bf16_f32) (extf .f32 wq bitsLt_bf16_f32)) bitsLt_bf16_f32) bitsLt_bf16_f32) shapeCasts_S2x128x2048_S2x128x32x64

/-- Which keys a query sees. -/
def rM : IVec S128x1024 1 :=
  cmpi .sle (absi (subi (broadcastInDim S128x1024 ![0, 1] bcast_S128x1_S128x1024_0_1 (broadcastInDim S128x1 ![0] bcast_S128_S128x1_0 (iotaInDim S128 32 0))) (broadcastInDim S128x1024 ![0, 1] bcast_S1x1024_S128x1024_0_1 (broadcastInDim S1x1024 ![1] bcast_S1024_S1x1024_1 (iotaInDim S1024 32 0))))) (broadcastInDim S128x1024 ![] bcast_S_S128x1024 (constantI S_ 32 128#32))

/-- The masked scores. -/
def rS (q : FVec F S2x128x32x64 .f32) (k : FVec F S2x1024x32x64 .bf16) : FVec F S2x32x128x1024 .f32 :=
  select (broadcastInDim S2x32x128x1024 ![0, 1, 2, 3] bcast_S1x1x128x1024_S2x32x128x1024_0_1_2_3 (broadcastInDim S1x1x128x1024 ![2, 3] bcast_S128x1024_S1x1x128x1024_2_3 rM)) (mulf (extf .f32 (truncf .bf16 (Host.dotGeneral dot_S2x128x32x64_S2x1024x32x64_S2x32x128x1024_3_3_1_1_02_02 none q (extf .f32 k bitsLt_bf16_f32)) bitsLt_bf16_f32) bitsLt_bf16_f32) (broadcastInDim S2x32x128x1024 ![] bcast_S_S2x32x128x1024 (constant S_ .f32 0x3E000000#32))) (broadcastInDim S2x32x128x1024 ![] bcast_S_S2x32x128x1024 (id (constant S_ .f32 0xFF800000#32)))

/-- The exponentials of the scores less their row's greatest. -/
def rE (s : FVec F S2x32x128x1024 .f32) : FVec F S2x32x128x1024 .f32 :=
  Host.exp (subf s (broadcastInDim S2x32x128x1024 ![0, 1, 2, 3] bcast_S2x32x128x1_S2x32x128x1024_0_1_2_3 (broadcastInDim S2x32x128x1 ![0, 1, 2] bcast_S2x32x128_S2x32x128x1_0_1_2 (Host.reduce FloatOps.maximumf s (constant S_ .f32 0xFF800000#32) reducesTo_S2x32x128x1024_S2x32x128_d3 h_S_))))

/-- Which queries see any key. -/
def rK : IVec S128 1 := Host.reduce IntOp.ori rM (constantI S_ 1 0#1) reducesTo_S128x1024_S128_d1 h_S_

/-- The attention weights. -/
def rW (e : FVec F S2x32x128x1024 .f32) : FVec F S2x32x128x1024 .f32 :=
  select (broadcastInDim S2x32x128x1024 ![0, 1, 2, 3] bcast_S1x1x128x1_S2x32x128x1024_0_1_2_3 (broadcastInDim S1x1x128x1 ![2] bcast_S128_S1x1x128x1_2 rK)) (Host.divf e (broadcastInDim S2x32x128x1024 ![0, 1, 2, 3] bcast_S2x32x128x1_S2x32x128x1024_0_1_2_3 (select (broadcastInDim S2x32x128x1 ![0, 1, 2, 3] bcast_S1x1x128x1_S2x32x128x1_0_1_2_3 (broadcastInDim S1x1x128x1 ![2] bcast_S128_S1x1x128x1_2 rK)) (broadcastInDim S2x32x128x1 ![0, 1, 2] bcast_S2x32x128_S2x32x128x1_0_1_2 (Host.reduceAdd e (constant S_ .f32 0x00000000#32) reducesTo_S2x32x128x1024_S2x32x128_d3 h_S_)) (broadcastInDim S2x32x128x1 ![] bcast_S_S2x32x128x1 (id (constant S_ .f32 0x3F800000#32)))))) (broadcastInDim S2x32x128x1024 ![] bcast_S_S2x32x128x1024 (id (constant S_ .f32 0x00000000#32)))

/-- The weighted values, the heads side by side. -/
def rC (v : FVec F S2x1024x32x64 .bf16) (w : FVec F S2x32x128x1024 .f32) : FVec F S2x128x2048 .f32 :=
  shapeCast _ (transpose S2x128x32x64 [0, 3, 1, 2] (Host.dotGeneral dot_S2x1024x32x64_S2x32x128x1024_S2x32x64x128_1_3_3_2_02_01 none (extf .f32 v bitsLt_bf16_f32) w) transposes_S2x32x64x128_S2x128x32x64_0_3_1_2) shapeCasts_S2x128x32x64_S2x128x2048

/-- The product with the output weight. -/
def rO (c : FVec F S2x128x2048 .f32) (wo : FVec F S2048x512 .bf16) : FVec F S2x128x512 .f32 :=
  Host.dotGeneral dot_S2x128x2048_S2048x512_S2x128x512_2_0_01_1_n_n none c (extf .f32 wo bitsLt_bf16_f32)

/-- The reference's result in these steps. -/
theorem res_eq (m : (ℓ : Loc nD τ sig) → Buf (Elt F) ℓ) (c : Dev nD) :
    res_main_v43 m c = rO (rC (m ((c.tc : Thread nD τ).loc main_arg3)) (rW (rE (rS (rQ (m ((c.tc : Thread nD τ).loc main_arg0)) (m ((c.tc : Thread nD τ).loc main_arg1))) (m ((c.tc : Thread nD τ).loc main_arg2))))))
      (m ((c.tc : Thread nD τ).loc main_arg4)) := rfl

end Shape

/-- A query sees the keys up to 128 places after its own. -/
theorem rM_apply (i : Fin 128) (j : Fin 1024) : rM (ix2 i j) = if j.val ≤ i.val + 128 then 1#1 else 0#1 := by
  pointwise [rM]
  exact Cert.Attn.sees_reference i j

/-- Every query sees some key. -/
theorem rK_apply (i : Fin 128) : rK (ix1 i) = 1#1 := by
  pointwise [rK]
  rw [Routing.fold_ori]
  exact ⟨0, Finset.mem_univ _, by rw [rM_apply]; rfl⟩

/-- The queries at an index: head h, entry d is column 64 h + d of the product. -/
theorem rQ_apply (x : FVec Ideal S2x128x512 .bf16) (wq : FVec Ideal S512x2048 .bf16) (b : Fin 2) (i : Fin 128) (h : Fin 32) (d : Fin 64) :
    rQ x wq (ix4 b i h d) = ∑ k : Fin 512, x (ix3 b i k) * wq (ix2 k ⟨h.val * 64 + d.val, by omega⟩) := by
  pointwise [rQ]

/-- The masked scores at an index. -/
theorem rS_apply (q : FVec Ideal S2x128x32x64 .f32) (k : FVec Ideal S2x1024x32x64 .bf16) (b : Fin 2) (h : Fin 32) (i : Fin 128) (j : Fin 1024) :
    rS q k (ix4 b h i j) = if j.val ≤ i.val + 128 then (∑ d : Fin 64, q (ix4 b i h d) * k (ix4 b j h d)) * Cert.Attn.cS else ⊥ := by
  pointwise [rS, rM_apply]
  rw [show (id (constant S_ .f32 4286578688#32) ix0 : Ideal .f32) = ⊥ from Cert.Attn.bits_bot]
  unfold Cert.Attn.cS
  by_cases h' : j.val ≤ i.val + 128
  · rw [if_pos h', if_pos h']; rfl
  · rw [if_neg h', if_neg h']; rfl

/-- The exponentials at an index. -/
theorem rE_apply (s : FVec Ideal S2x32x128x1024 .f32) (b : Fin 2) (h : Fin 32) (i : Fin 128) (j : Fin 1024) :
    rE s (ix4 b h i j) = Ideal.exp (s (ix4 b h i j) - Finset.univ.fold max ⊥ (fun j' : Fin 1024 => s (ix4 b h i j'))) := by
  pointwise [rE]
  all_goals rw [Cert.Attn.bits_bot]

/-- The weights at an index. -/
theorem rW_apply (e : FVec Ideal S2x32x128x1024 .f32) (b : Fin 2) (h : Fin 32) (i : Fin 128) (j : Fin 1024) :
    rW e (ix4 b h i j) = Ideal.div (e (ix4 b h i j)) (∑ j' : Fin 1024, e (ix4 b h i j')) := by
  pointwise [rW, rK_apply]

/-- The weighted values at an index: column k is entry k mod 64 of head k / 64. -/
theorem rC_apply (v : FVec Ideal S2x1024x32x64 .bf16) (w : FVec Ideal S2x32x128x1024 .f32) (b : Fin 2) (i : Fin 128) (k : Fin 2048) :
    rC v w (ix3 b i k) = ∑ j : Fin 1024, v (ix4 b j ⟨k.val / 64, by omega⟩ ⟨k.val % 64, by omega⟩) * w (ix4 b ⟨k.val / 64, by omega⟩ i j) := by
  pointwise [rC]

/-- The output product at an index. -/
theorem rO_apply (c : FVec Ideal S2x128x2048 .f32) (wo : FVec Ideal S2048x512 .bf16) (b : Fin 2) (i : Fin 128) (n : Fin 512) :
    rO c wo (ix3 b i n) = ∑ k : Fin 2048, c (ix3 b i k) * wo (ix2 k n) := by
  pointwise [rO]

end Cert.ReferenceIdeal.Value

end
-- ==== Proof.Ideal.MP.lean ====
module

public import proofs.«01_k».proof.Pre_finite_scores_KernelIdeal
public import Idealize.ShloMosaic.Lib.ReduceAll
public import proofs.«01_k».proof.Proof.Ideal.MM

@[expose] public section

/-! # What the precondition says: the entries of the tokens, the query weight and the keys are real numbers -/

noncomputable section

namespace Cert.Attn

open Idealize.ShloMosaic Cert.Pre_finite_scores_KernelIdeal

/-- A number whose absolute value is below plus infinity is a real number. -/
theorem real_of_abs_lt (x : EReal) (h : Ideal.cmp .olt (max x (-x)) (Ideal.ofBits .f32 0x7F800000#32) = 1) : ∃ r : ℝ, x = r := by
  rw [bits_top, Ideal.cmp_olt_eq_one, max_lt_iff] at h
  induction x with
  | bot => exact absurd h.2 (by simp)
  | top => exact absurd h.1 (lt_irrefl _)
  | coe r => exact ⟨r, rfl⟩

/-- The result of a reduction over all axes has one index. -/
instance : Subsingleton S_.Idx := ⟨fun _ _ => funext fun k => k.elim0⟩

variable [Facts]

/-- The precondition, read at the entries. -/
theorem pre_real (x : FVec Ideal S2x128x512 .bf16) (wq : FVec Ideal S512x256 .bf16) (k v : FVec Ideal S2x128x32x64 .bf16) (wo : FVec Ideal S256x512 .bf16)
    (h : fn (F := Ideal) x wq k v wo = fun _ => 1#1) :
    (∀ i, ∃ r : ℝ, (x i : EReal) = r) ∧ (∀ i, ∃ r : ℝ, (wq i : EReal) = r) ∧ (∀ i, ∃ r : ℝ, (k i : EReal) = r) := by
  have h0 := congrFun h ix0
  obtain ⟨h1, hk⟩ := IntOp.andi_eq_one.1 h0
  obtain ⟨hx, hw⟩ := IntOp.andi_eq_one.1 h1
  exact ⟨fun i => real_of_abs_lt _ (Host.reduce_andi_all _ _ _ _ _ hx i), fun i => real_of_abs_lt _ (Host.reduce_andi_all _ _ _ _ _ hw i),
    fun i => real_of_abs_lt _ (Host.reduce_andi_all _ _ _ _ _ hk i)⟩

end Cert.Attn

end
-- ==== Proof.Ideal.MZ.lean ====
module

public import proofs.«01_k».proof.Proof.Ideal.MW
public import proofs.«01_k».proof.Proof.Ideal.MR
public import proofs.«01_k».proof.Proof.Ideal.MP

@[expose] public section

/-! # The kernel's result is the reference's -/

set_option maxRecDepth 20000

noncomputable section

namespace Cert.Attn

open Idealize.ShloMosaic Idealize.ShloMosaic.TcCoe

/-- A query of real tokens and weights is real. -/
theorem qv_real (X : TX) (W : TQ) (hX : ∀ i, ∃ r : ℝ, X i = r) (hW : ∀ i, ∃ r : ℝ, W i = r) (b : Fin 2) (i : Fin 128) (H : Fin 32) (e : Fin 64) :
    ∃ r : ℝ, qv X W b i H e = r := sum_mul_real _ _ (fun _ => hX _) fun _ => hW _

/-- The reference's attention over all 1024 keys is the attention over the first 256: no later key is seen. -/
theorem ref_head (X : TX) (W : TQ) (K V : TK) (hX : ∀ i, ∃ r : ℝ, X i = r) (hW : ∀ i, ∃ r : ℝ, W i = r) (hK : ∀ i, ∃ r : ℝ, K i = r)
    (b : Fin 2) (i : Fin 128) (H : Fin 32) (e : Fin 64) :
    ∑ j : Fin 1024, V (ix4 b j H e) * soft (fun j : Fin 1024 => msc (qv X W b i H) (fun e => K (ix4 b j H e)) i.val j.val) j = hd X W K V b i H e :=
  soft_cut (n := 256) (m := 768) (fun j => msc (qv X W b i H) (fun e => K (ix4 b j H e)) i.val j.val) (fun j => V (ix4 b j H e))
    (fun j => msc (qv X W b i H) (fun e => K (ix4 b ⟨j.val, by omega⟩ H e)) i.val j.val) (fun j => V (ix4 b ⟨j.val, by omega⟩ H e))
    (fun _ => rfl) (fun _ => rfl)
    (fun j => if_neg (by have := i.isLt; show ¬ 256 + j.val ≤ i.val + 128; omega))
    (fun j => msc_ne_top _ _ _ _ (qv_real X W hX hW b i H) fun _ => hK _)
    0 (msc_ne_bot _ _ _ _ (Nat.zero_le _) (qv_real X W hX hW b i H) fun _ => hK _)

open Cert.ReferenceIdeal Cert.ReferenceIdeal.Value in
/-- The reference's result over the whole arrays. -/
theorem ref_whole (X : TX) (W : TQ) (K V : TK) (WO : TO) (hX : ∀ i, ∃ r : ℝ, X i = r) (hW : ∀ i, ∃ r : ℝ, W i = r) (hK : ∀ i, ∃ r : ℝ, K i = r)
    (b : Fin 2) (i : Fin 128) (n : Fin 512) :
    rO (F := Ideal) (rC V (rW (rE (rS (rQ X W) K)))) WO (ix3 b i n)
      = ∑ k : Fin 2048, hd X W K V b i ⟨k.val / 64, by omega⟩ ⟨k.val % 64, by omega⟩ * WO (ix2 k n) := by
  rw [rO_apply]
  refine Finset.sum_congr rfl fun k _ => congrArg (· * WO (ix2 k n)) ?_
  rw [rC_apply, ← ref_head X W K V hX hW hK]
  refine Finset.sum_congr rfl fun j _ => congrArg (V (ix4 b j _ _) * ·) ?_
  rw [rW_apply]
  simp only [rE_apply, rS_apply, rQ_apply]
  rfl

/-- Every key of the whole array lies in some device's block. -/
theorem keys_real (K : TK) (h : ∀ c : Fin 8, ∀ i, ∃ r : ℝ, (Layout.block ⟨4, ![2, 128, 32, 64]⟩ ⟨4, ![2, 1024, 32, 64]⟩ 1 8 c K (by decide) i : EReal) = r) :
    ∀ i, ∃ r : ℝ, K i = r := fun i => by
  have h1 : (i 1).val < 1024 := (i 1).isLt
  obtain ⟨r, hr⟩ := h ⟨(i 1).val / 128, by omega⟩ (ix4 (i 0) ⟨(i 1).val % 128, Nat.mod_lt _ (by decide)⟩ (i 2) (i 3))
  refine ⟨r, Eq.trans (congrArg K (funext fun a => Fin.ext ?_)) ((Cert.KernelIdeal.Run.block_keys K (⟨(i 1).val / 128, by omega⟩ : Fin 8) _ _ _ _).symm.trans hr)⟩
  match a with
  | 0 => rfl
  | 1 => show (i 1).val = 128 * ((i 1).val / 128) + (i 1).val % 128; omega
  | 2 => rfl
  | 3 => rfl

/-- Every entry of the whole query weight lies in some device's block. -/
theorem query_real (W : TQ) (h : ∀ c : Fin 8, ∀ i, ∃ r : ℝ, (Layout.block ⟨2, ![512, 256]⟩ ⟨2, ![512, 2048]⟩ 1 8 c W (by decide) i : EReal) = r) :
    ∀ i, ∃ r : ℝ, W i = r := fun i => by
  have h1 : (i 1).val < 2048 := (i 1).isLt
  obtain ⟨r, hr⟩ := h ⟨(i 1).val / 256, by omega⟩ (ix2 (i 0) ⟨(i 1).val % 256, Nat.mod_lt _ (by decide)⟩)
  refine ⟨r, Eq.trans (congrArg W (funext fun a => Fin.ext ?_)) ((Cert.KernelIdeal.Run.block_query W (⟨(i 1).val / 256, by omega⟩ : Fin 8) _ _).symm.trans hr)⟩
  match a with
  | 0 => rfl
  | 1 => show (i 1).val = 256 * ((i 1).val / 256) + (i 1).val % 256; omega

/-- From blocks of the same whole arrays, with real tokens, query weights and keys, the kernel's result is the reference's. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    {X : TX} {W : TQ} {K VV : TK} {WO : TO}
    (h0 : ∀ c : Dev Cert.KernelIdeal.nD, m ((c : Thread Cert.KernelIdeal.nD Cert.KernelIdeal.τ).loc Cert.KernelIdeal.main_arg0) = X)
    (h1 : ∀ c : Dev Cert.KernelIdeal.nD, m ((c : Thread Cert.KernelIdeal.nD Cert.KernelIdeal.τ).loc Cert.KernelIdeal.main_arg1) = Layout.block ⟨2, ![512, 256]⟩ ⟨2, ![512, 2048]⟩ 1 8 c W)
    (h2 : ∀ c : Dev Cert.KernelIdeal.nD, m ((c : Thread Cert.KernelIdeal.nD Cert.KernelIdeal.τ).loc Cert.KernelIdeal.main_arg2) = Layout.block ⟨4, ![2, 128, 32, 64]⟩ ⟨4, ![2, 1024, 32, 64]⟩ 1 8 c K)
    (h3 : ∀ c : Dev Cert.KernelIdeal.nD, m ((c : Thread Cert.KernelIdeal.nD Cert.KernelIdeal.τ).loc Cert.KernelIdeal.main_arg3) = Layout.block ⟨4, ![2, 128, 32, 64]⟩ ⟨4, ![2, 1024, 32, 64]⟩ 1 8 c VV)
    (h4 : ∀ c : Dev Cert.KernelIdeal.nD, m ((c : Thread Cert.KernelIdeal.nD Cert.KernelIdeal.τ).loc Cert.KernelIdeal.main_arg4) = Layout.block ⟨2, ![256, 512]⟩ ⟨2, ![2048, 512]⟩ 0 8 c WO)
    (hX : ∀ i, ∃ r : ℝ, X i = r) (hW : ∀ i, ∃ r : ℝ, W i = r) (hK : ∀ i, ∃ r : ℝ, K i = r) :
    Cert.KernelIdeal.Run.out m = Cert.ReferenceIdeal.Value.rO (F := Ideal) (Cert.ReferenceIdeal.Value.rC VV (Cert.ReferenceIdeal.Value.rW
      (Cert.ReferenceIdeal.Value.rE (Cert.ReferenceIdeal.Value.rS (Cert.ReferenceIdeal.Value.rQ X W) K)))) WO := by
  funext i
  have e : i = ix3 (i 0) (i 1) (i 2) := funext fun a => by
    match a with
    | 0 => rfl
    | 1 => rfl
    | 2 => rfl
  rw [e]
  exact (Cert.KernelIdeal.Run.out_whole h0 h1 h2 h3 h4 (i 0) (i 1) (i 2)).trans (ref_whole X W K VV WO hX hW hK (i 0) (i 1) (i 2)).symm

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Ideal.Same
public import proofs.«01_k».proof.Proof.Ideal.MZ
public import Idealize.ShloMosaic.Adequacy
public import Idealize.ShloMosaic.Init

@[expose] public section

noncomputable section

namespace Cert.Proof

open Idealize.ShloMosaic Idealize.SL.Sem Cert.Kernel

/-- The reference's run leaves its arguments as they were; it has no semaphore. -/
theorem quiet_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The one rewritten constant: the mask's fill value is read as minus infinity. -/
theorem named : Cert.preserves_Kernel_KernelIdeal :=
  IdealRules.named_const.statement _ _ _ _ _ rfl

/-- With real tokens, query weights and keys, every device's result is the reference's, exactly. -/
theorem same : Cert.algebraic_KernelIdeal_ReferenceIdeal_pre_finite_scores_KernelIdeal (hPre_finite_scores_KernelIdeal := Cert.Pre_finite_scores_KernelIdeal.Gen.facts) := by
  intro m g m' g' hp hin
  haveI := Cert.Pre_finite_scores_KernelIdeal.Gen.facts
  have hr := fun c => Cert.Attn.pre_real _ _ _ _ _ (hp c)
  have hX := (hr 0).1
  have hW := Cert.Attn.query_real _ fun c i => by have h := (hr c).2.1 i; rw [(hin c).2.1] at h; exact h
  have hK := Cert.Attn.keys_real _ fun c i => by have h := (hr c).2.2 i; rw [(hin c).2.2.1] at h; exact h
  rw [(hin 0).1] at hX
  refine ⟨Cert.ReferenceIdeal.Value.res_main_v43 m' 0, ?_, ?_⟩
  · refine (Cert.KernelIdeal.Run.run_args m g).mono fun r h c => ⟨(h.1 c).1.trans ?_, (h.1 c).2⟩
    exact (Cert.Attn.out_eq m m' (fun c => (hin c).1) (fun c => (hin c).2.1) (fun c => (hin c).2.2.1) (fun c => (hin c).2.2.2.1)
      (fun c => (hin c).2.2.2.2) hX hW hK).trans (Cert.ReferenceIdeal.Value.res_eq m' 0).symm
  · exact (θ_run Cert.ReferenceIdeal.defs _ _).mono (fun r h => h 0) (Cert.ReferenceIdeal.Value.run (F := Ideal) m' g')

/-- The five claims. -/
theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  fun m g _ => Same.quiet_printed m g, fun m g _ => Same.quiet m g, fun m g _ => Same.quiet m g,
  quiet_reference, fun m g _ => quiet_reference m g trivial, named, same⟩

end Cert.Proof

end
